-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v44)) (v1 : (c : Dev Cert.Kernel2Ideal.nD) → Buf (Elt Ideal) ((c.tc : Thread Cert.Kernel2Ideal.nD Cert.Kernel2Ideal.τ).loc Cert.Kernel2Ideal.main_v27)) (v2 : (c : Dev Cert.Kernel2Ideal.nD) → Buf (Elt Ideal) ((c.tc : Thread Cert.Kernel2Ideal.nD Cert.Kernel2Ideal.τ).loc Cert.Kernel2Ideal.main_v24)) (v3 : (c : Dev Cert.Kernel2Ideal.nD) → Buf (Elt Ideal) ((c.tc : Thread Cert.Kernel2Ideal.nD Cert.Kernel2Ideal.τ).loc Cert.Kernel2Ideal.main_v26)) (v4 : (c : Dev Cert.Kernel2Ideal.nD) → Buf (Elt Ideal) ((c.tc : Thread Cert.Kernel2Ideal.nD Cert.Kernel2Ideal.τ).loc Cert.Kernel2Ideal.main_v45)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44) = v0 c
          ∧ r.2.mem ((c.tc : Thread Cert.Kernel2Ideal.nD Cert.Kernel2Ideal.τ).loc Cert.Kernel2Ideal.main_v27) = v1 c
          ∧ r.2.mem ((c.tc : Thread Cert.Kernel2Ideal.nD Cert.Kernel2Ideal.τ).loc Cert.Kernel2Ideal.main_v24) = v2 c
          ∧ r.2.mem ((c.tc : Thread Cert.Kernel2Ideal.nD Cert.Kernel2Ideal.τ).loc Cert.Kernel2Ideal.main_v26) = v3 c
          ∧ r.2.mem ((c.tc : Thread Cert.Kernel2Ideal.nD Cert.Kernel2Ideal.τ).loc Cert.Kernel2Ideal.main_v45) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v21) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v44)) (v1 : (c : Dev Cert.Kernel4Ideal.nD) → Buf (Elt Ideal) ((c.tc : Thread Cert.Kernel4Ideal.nD Cert.Kernel4Ideal.τ).loc Cert.Kernel4Ideal.main_v27)) (v2 : (c : Dev Cert.Kernel4Ideal.nD) → Buf (Elt Ideal) ((c.tc : Thread Cert.Kernel4Ideal.nD Cert.Kernel4Ideal.τ).loc Cert.Kernel4Ideal.main_v24)) (v3 : (c : Dev Cert.Kernel4Ideal.nD) → Buf (Elt Ideal) ((c.tc : Thread Cert.Kernel4Ideal.nD Cert.Kernel4Ideal.τ).loc Cert.Kernel4Ideal.main_v26)) (v4 : (c : Dev Cert.Kernel4Ideal.nD) → Buf (Elt Ideal) ((c.tc : Thread Cert.Kernel4Ideal.nD Cert.Kernel4Ideal.τ).loc Cert.Kernel4Ideal.main_v46)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v44) = v0 c
          ∧ r.2.mem ((c.tc : Thread Cert.Kernel4Ideal.nD Cert.Kernel4Ideal.τ).loc Cert.Kernel4Ideal.main_v27) = v1 c
          ∧ r.2.mem ((c.tc : Thread Cert.Kernel4Ideal.nD Cert.Kernel4Ideal.τ).loc Cert.Kernel4Ideal.main_v24) = v2 c
          ∧ r.2.mem ((c.tc : Thread Cert.Kernel4Ideal.nD Cert.Kernel4Ideal.τ).loc Cert.Kernel4Ideal.main_v26) = v3 c
          ∧ r.2.mem ((c.tc : Thread Cert.Kernel4Ideal.nD Cert.Kernel4Ideal.τ).loc Cert.Kernel4Ideal.main_v46) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v21) = v2 c
          ∧ r.2.mem ((c.tc : Thread Cert.Reference4Ideal.nD Cert.Reference4Ideal.τ).loc Cert.Reference4Ideal.main_v26) = v3 c
          ∧ r.2.mem ((c.tc : Thread Cert.Reference4Ideal.nD Cert.Reference4Ideal.τ).loc Cert.Reference4Ideal.main_v28) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v29)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v62) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v127) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v21)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8192x18344 : Shape := ⟨2, ![8192, 18344]⟩
abbrev S4x64 : Shape := ⟨2, ![4, 64]⟩
abbrev S128 : Shape := ⟨1, ![128]⟩
abbrev S8 : Shape := ⟨1, ![8]⟩
abbrev S8192x1024 : Shape := ⟨2, ![8192, 1024]⟩
abbrev S8192x6144 : Shape := ⟨2, ![8192, 6144]⟩
abbrev S8192x2048 : Shape := ⟨2, ![8192, 2048]⟩
abbrev S8192x1536 : Shape := ⟨2, ![8192, 1536]⟩
abbrev S8192x256 : Shape := ⟨2, ![8192, 256]⟩
abbrev S8192x128 : Shape := ⟨2, ![8192, 128]⟩
abbrev S8192x24 : Shape := ⟨2, ![8192, 24]⟩
abbrev S8192x16 : Shape := ⟨2, ![8192, 16]⟩
abbrev S_ : Shape := ⟨0, ![]⟩
abbrev S8192x88 : Shape := ⟨2, ![8192, 88]⟩
abbrev S8192x18432 : Shape := ⟨2, ![8192, 18432]⟩
abbrev S1x128 : Shape := ⟨2, ![1, 128]⟩
abbrev S256x128 : Shape := ⟨2, ![256, 128]⟩
abbrev S2048x128 : Shape := ⟨2, ![2048, 128]⟩
abbrev S1 : Shape := ⟨1, ![1]⟩
abbrev S1x64 : Shape := ⟨2, ![1, 64]⟩
abbrev S1x1 : Shape := ⟨2, ![1, 1]⟩
abbrev S256x256 : Shape := ⟨2, ![256, 256]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S256x2048 : Shape := ⟨2, ![256, 2048]⟩

abbrev nBuf : Space → Nat
  | .hbm => 24
  | .vmem => 10
  | .smem => 1
  | _ => 0

abbrev bufTy : (tb : Table) → Fin (tcTables nBuf tb) → BufTy
  | .hbm, ⟨0, _⟩ => ⟨S8192x18344, .f32⟩
  | .hbm, ⟨1, _⟩ => ⟨S4x64, .f32⟩
  | .hbm, ⟨2, _⟩ => ⟨S128, .f32⟩
  | .hbm, ⟨3, _⟩ => ⟨S8, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x6144, .f32⟩
  | .hbm, ⟨11, _⟩ => ⟨S8192x2048, .f32⟩
  | .hbm, ⟨12, _⟩ => ⟨S8192x1024, .f32⟩
  | .hbm, ⟨13, _⟩ => ⟨S8192x1024, .f32⟩
  | .hbm, ⟨14, _⟩ => ⟨S8192x1536, .f32⟩
  | .hbm, ⟨15, _⟩ => ⟨S8192x256, .f32⟩
  | .hbm, ⟨16, _⟩ => ⟨S8192x128, .f32⟩
  | .hbm, ⟨17, _⟩ => ⟨S8192x24, .f32⟩
  | .hbm, ⟨18, _⟩ => ⟨S8192x16, .f32⟩
  | .hbm, ⟨19, _⟩ => ⟨S_, .f32⟩
  | .hbm, ⟨20, _⟩ => ⟨S8192x88, .f32⟩
  | .hbm, ⟨21, _⟩ => ⟨S8192x18432, .f32⟩
  | .hbm, ⟨22, _⟩ => ⟨S1x128, .f32⟩
  | .hbm, ⟨23, _⟩ => ⟨S8192x1024, .f32⟩
  | .local _ .vmem, ⟨0, _⟩ => ⟨S4x64, .f32⟩
  | .local _ .vmem, ⟨1, _⟩ => ⟨S1x128, .f32⟩
  | .local _ .vmem, ⟨2, _⟩ => ⟨S256x128, .f32⟩
  | .local _ .vmem, ⟨3, _⟩ => ⟨S256x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S256x128, .f32⟩
  | .local _ .vmem, ⟨9, _⟩ => ⟨S256x128, .f32⟩
  | .local _ .smem, ⟨0, _⟩ => ⟨S8, .f32⟩
  | _, _ => ⟨S8192x18344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 8, 8], ![false, false, false]⟩

def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg2 : BitVec 32 := BitVec.ofNat 32 (i 2).val
  let c0_i32 : BitVec 32 := 0#32
  let v18 : BitVec 1 := Scalar.cmpi .eq arg2 c0_i32
  let v19 : BitVec 32 := Scalar.extui v18
  let c0_i32_3 : BitVec 32 := 0#32
  let v20 : BitVec 1 := Scalar.cmpi .ne v19 c0_i32_3
  v20

def k0_cond2 (i : grid0.Coords) : BitVec 1 :=
  let arg2 : BitVec 32 := BitVec.ofNat 32 (i 2).val
  let c1_i32 : BitVec 32 := 1#32
  let v21 : BitVec 1 := Scalar.cmpi .eq arg2 c1_i32
  let v22 : BitVec 32 := Scalar.extui v21
  let c0_i32_4 : BitVec 32 := 0#32
  let v23 : BitVec 1 := Scalar.cmpi .ne v22 c0_i32_4
  v23

def k0_cond3 (i : grid0.Coords) : BitVec 1 :=
  let arg2 : BitVec 32 := BitVec.ofNat 32 (i 2).val
  let c2_i32 : BitVec 32 := 2#32
  let v24 : BitVec 1 := Scalar.cmpi .eq arg2 c2_i32
  let v25 : BitVec 32 := Scalar.extui v24
  let c0_i32_5 : BitVec 32 := 0#32
  let v26 : BitVec 1 := Scalar.cmpi .ne v25 c0_i32_5
  v26

def k0_cond4 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_6 : BitVec 32 := 0#32
  let v29 : BitVec 1 := Scalar.cmpi .ne v28 c0_i32_6
  v29

def k0_cond5 (i : grid0.Coords) : BitVec 1 :=
  let arg2 : BitVec 32 := BitVec.ofNat 32 (i 2).val
  let c4_i32 : BitVec 32 := 4#32
  let v30 : BitVec 1 := Scalar.cmpi .eq arg2 c4_i32
  let v31 : BitVec 32 := Scalar.extui v30
  let c0_i32_7 : BitVec 32 := 0#32
  let v32 : BitVec 1 := Scalar.cmpi .ne v31 c0_i32_7
  v32

def k0_cond6 (i : grid0.Coords) : BitVec 1 :=
  let arg2 : BitVec 32 := BitVec.ofNat 32 (i 2).val
  let c5_i32 : BitVec 32 := 5#32
  let v33 : BitVec 1 := Scalar.cmpi .eq arg2 c5_i32
  let v34 : BitVec 32 := Scalar.extui v33
  let c0_i32_8 : BitVec 32 := 0#32
  let v35 : BitVec 1 := Scalar.cmpi .ne v34 c0_i32_8
  v35

def k0_cond7 (i : grid0.Coords) : BitVec 1 :=
  let arg2 : BitVec 32 := BitVec.ofNat 32 (i 2).val
  let c6_i32 : BitVec 32 := 6#32
  let v36 : BitVec 1 := Scalar.cmpi .eq arg2 c6_i32
  let v37 : BitVec 32 := Scalar.extui v36
  let c0_i32_9 : BitVec 32 := 0#32
  let v38 : BitVec 1 := Scalar.cmpi .ne v37 c0_i32_9
  v38

def k0_cond8 (i : grid0.Coords) : BitVec 1 :=
  let arg2 : BitVec 32 := BitVec.ofNat 32 (i 2).val
  let c7_i32 : BitVec 32 := 7#32
  let v39 : BitVec 1 := Scalar.cmpi .eq arg2 c7_i32
  let v40 : BitVec 32 := Scalar.extui v39
  let c0_i32_10 : BitVec 32 := 0#32
  let v41 : BitVec 1 := Scalar.cmpi .ne v40 c0_i32_10
  v41

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c112_i32 : BitVec 32 := 112#32
  let v0 : BitVec 32 := Scalar.addi c112_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c120_i32 : BitVec 32 := 120#32
  let v0 : BitVec 32 := Scalar.addi c120_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8192x18344 : Shape := ⟨2, ![8192, 18344]⟩
abbrev S4x64 : Shape := ⟨2, ![4, 64]⟩
abbrev S128 : Shape := ⟨1, ![128]⟩
abbrev S8 : Shape := ⟨1, ![8]⟩
abbrev S8192x1024 : Shape := ⟨2, ![8192, 1024]⟩
abbrev S4x2048x8x128 : Shape := ⟨4, ![4, 2048, 8, 128]⟩
abbrev S2048 : Shape := ⟨1, ![2048]⟩
abbrev S1x64 : Shape := ⟨2, ![1, 64]⟩
abbrev S64 : Shape := ⟨1, ![64]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S4x2048x8x64 : Shape := ⟨4, ![4, 2048, 8, 64]⟩
abbrev S4x8x2048x2048 : Shape := ⟨4, ![4, 8, 2048, 2048]⟩
abbrev S1x8x2048x2048 : Shape := ⟨4, ![1, 8, 2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x8 : Shape := ⟨3, ![4, 2048, 8]⟩
abbrev S4x2048x8x1 : Shape := ⟨4, ![4, 2048, 8, 1]⟩
abbrev S1x1x1x128 : Shape := ⟨4, ![1, 1, 1, 128]⟩

abbrev nBuf : Space → Nat
  | .hbm => 144
  | .vmem => 0
  | .smem => 0
  | _ => 0

abbrev hbmTy0_0 (i : Nat) : BufTy := match i % 128 with
  | 0 => ⟨S8192x18344, .f32⟩
  | 1 => ⟨S4x64, .f32⟩
  | 2 => ⟨S128, .f32⟩
  | 3 => ⟨S8, .f32⟩
  | 4 => ⟨S8192x1024, .f32⟩
  | 5 => ⟨S4x2048x8x128, .f32⟩
  | 6 => ⟨S8192x1024, .f32⟩
  | 7 => ⟨S4x2048x8x128, .f32⟩
  | 8 => ⟨S8192x1024, .f32⟩
  | 9 => ⟨S4x2048x8x128, .f32⟩
  | 10 => ⟨S2048, .i32⟩
  | 11 => ⟨S1x64, .f32⟩
  | 12 => ⟨S64, .f32⟩
  | 13 => ⟨S1x64, .f32⟩
  | 14 => ⟨S64, .f32⟩
  | 15 => ⟨S64, .f32⟩
  | 16 => ⟨S_, .f32⟩
  | 17 => ⟨S_, .f32⟩
  | 18 => ⟨S_, .f32⟩
  | 19 => ⟨S1x64, .f32⟩
  | 20 => ⟨S64, .f32⟩
  | 21 => ⟨S1x64, .f32⟩
  | 22 => ⟨S64, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S2048x1, .i32⟩
  | 31 => ⟨S1x2048, .i32⟩
  | 32 => ⟨S2048x2048, .i32⟩
  | 33 => ⟨S2048x2048, .i32⟩
  | 34 => ⟨S2048x2048, .i32⟩
  | 35 => ⟨S8x1x1, .f32⟩
  | 36 => ⟨S8x1x1, .f32⟩
  | 37 => ⟨S2048x2048, .f32⟩
  | 38 => ⟨S1x2048x2048, .f32⟩
  | 39 => ⟨S8x2048x2048, .f32⟩
  | 40 => ⟨S8x2048x2048, .f32⟩
  | 41 => ⟨S8x2048x2048, .f32⟩
  | 42 => ⟨S_, .i32⟩
  | 43 => ⟨S2048x2048, .i32⟩
  | 44 => ⟨S2048x2048, .i1⟩
  | 45 => ⟨S4x2048x8x64, .f32⟩
  | 46 => ⟨S4x2048x8x64, .f32⟩
  | 47 => ⟨S4x8x2048x2048, .f32⟩
  | 48 => ⟨S_, .f32⟩
  | 49 => ⟨S4x8x2048x2048, .f32⟩
  | 50 => ⟨S4x8x2048x2048, .f32⟩
  | 51 => ⟨S1x8x2048x2048, .f32⟩
  | 52 => ⟨S4x8x2048x2048, .f32⟩
  | 53 => ⟨S4x8x2048x2048, .f32⟩
  | 54 => ⟨S4x2048x8x64, .f32⟩
  | 55 => ⟨S4x2048x8x64, .f32⟩
  | 56 => ⟨S4x8x2048x2048, .f32⟩
  | 57 => ⟨S_, .f32⟩
  | 58 => ⟨S4x8x2048x2048, .f32⟩
  | 59 => ⟨S4x8x2048x2048, .f32⟩
  | 60 => ⟨S1x8x2048x2048, .f32⟩
  | 61 => ⟨S4x8x2048x2048, .f32⟩
  | 62 => ⟨S4x8x2048x2048, .f32⟩
  | 63 => ⟨S4x8x2048x2048, .i1⟩
  | 64 => ⟨S_, .f32⟩
  | 65 => ⟨S4x8x2048x2048, .f32⟩
  | 66 => ⟨S4x8x2048x2048, .f32⟩
  | 67 => ⟨S_, .f32⟩
  | 68 => ⟨S4x8x2048, .f32⟩
  | 69 => ⟨S4x8x2048x1, .f32⟩
  | 70 => ⟨S4x8x2048x1, .f32⟩
  | 71 => ⟨S_, .f32⟩
  | 72 => ⟨S4x8x2048x1, .f32⟩
  | 73 => ⟨S4x8x2048x1, .i1⟩
  | 74 => ⟨S_, .f32⟩
  | 75 => ⟨S4x8x2048x1, .f32⟩
  | 76 => ⟨S4x8x2048x1, .f32⟩
  | 77 => ⟨S4x8x2048x2048, .f32⟩
  | 78 => ⟨S4x8x2048x2048, .f32⟩
  | 79 => ⟨S4x8x2048x2048, .f32⟩
  | 80 => ⟨S_, .f32⟩
  | 81 => ⟨S4x8x2048x2048, .f32⟩
  | 82 => ⟨S4x8x2048x2048, .f32⟩
  | 83 => ⟨S_, .f32⟩
  | 84 => ⟨S4x8x2048, .f32⟩
  | 85 => ⟨S4x8x2048x1, .f32⟩
  | 86 => ⟨S_, .f32⟩
  | 87 => ⟨S4x8x2048x1, .f32⟩
  | 88 => ⟨S4x8x2048x1, .f32⟩
  | 89 => ⟨S4x8x2048x2048, .f32⟩
  | 90 => ⟨S4x8x2048x2048, .f32⟩
  | 91 => ⟨S4x8x2048x2048, .i1⟩
  | 92 => ⟨S_, .f32⟩
  | 93 => ⟨S4x8x2048x2048, .f32⟩
  | 94 => ⟨S4x8x2048x2048, .f32⟩
  | 95 => ⟨S_, .f32⟩
  | 96 => ⟨S4x8x2048, .f32⟩
  | 97 => ⟨S4x8x2048x1, .f32⟩
  | 98 => ⟨S4x8x2048x1, .f32⟩
  | 99 => ⟨S_, .f32⟩
  | 100 => ⟨S4x8x2048x1, .f32⟩
  | 101 => ⟨S4x8x2048x1, .i1⟩
  | 102 => ⟨S_, .f32⟩
  | 103 => ⟨S4x8x2048x1, .f32⟩
  | 104 => ⟨S4x8x2048x1, .f32⟩
  | 105 => ⟨S4x8x2048x2048, .f32⟩
  | 106 => ⟨S4x8x2048x2048, .f32⟩
  | 107 => ⟨S4x8x2048x2048, .f32⟩
  | 108 => ⟨S_, .f32⟩
  | 109 => ⟨S4x8x2048x2048, .f32⟩
  | 110 => ⟨S4x8x2048x2048, .f32⟩
  | 111 => ⟨S_, .f32⟩
  | 112 => ⟨S4x8x2048, .f32⟩
  | 113 => ⟨S4x8x2048x1, .f32⟩
  | 114 => ⟨S_, .f32⟩
  | 115 => ⟨S4x8x2048x1, .f32⟩
  | 116 => ⟨S4x8x2048x1, .f32⟩
  | 117 => ⟨S4x8x2048x2048, .f32⟩
  | 118 => ⟨S4x8x2048x2048, .f32⟩
  | 119 => ⟨S4x8x2048x2048, .f32⟩
  | 120 => ⟨S4x8x2048x2048, .f32⟩
  | 121 => ⟨S4x8x2048x2048, .f32⟩
  | 122 => ⟨S4x8x128x2048, .f32⟩
  | 123 => ⟨S4x2048x8x128, .f32⟩
  | 124 => ⟨S4x2048x8x128, .f32⟩
  | 125 => ⟨S_, .f32⟩
  | 126 => ⟨S4x2048x8, .f32⟩
  | 127 => ⟨S4x2048x8x1, .f32⟩
  | _ => ⟨S8192x18344, .f32⟩

abbrev hbmTy0_1 (i : Nat) : BufTy := match i % 128 with
  | 0 => ⟨S_, .f32⟩
  | 1 => ⟨S4x2048x8x1, .f32⟩
  | 2 => ⟨S4x2048x8x1, .f32⟩
  | 3 => ⟨S_, .f32⟩
  | 4 => ⟨S4x2048x8x1, .f32⟩
  | 5 => ⟨S4x2048x8x1, .f32⟩
  | 6 => ⟨S4x2048x8x1, .f32⟩
  | 7 => ⟨S4x2048x8x128, .f32⟩
  | 8 => ⟨S4x2048x8x128, .f32⟩
  | 9 => ⟨S1x1x1x128, .f32⟩
  | 10 => ⟨S4x2048x8x128, .f32⟩
  | 11 => ⟨S4x2048x8x128, .f32⟩
  | 12 => ⟨S_, .f32⟩
  | 13 => ⟨S4x2048x8x128, .f32⟩
  | 14 => ⟨S4x2048x8x128, .f32⟩
  | 15 => ⟨S8192x1024, .f32⟩
  | _ => ⟨S8192x18344, .f32⟩

abbrev hbmTy (i : Nat) : BufTy := match i / 128 with
  | 0 => hbmTy0_0 i
  | 1 => hbmTy0_1 i
  | _ => ⟨S8192x18344, .f32⟩

abbrev bufTy : (tb : Table) → Fin (tcTables nBuf tb) → BufTy
  | .hbm, ⟨i, _⟩ => hbmTy i
  | _, _ => ⟨S8192x18344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_4 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_9 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_cst_11 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_12 : Ref sig .tc := ⟨.hbm, 92, rfl⟩
abbrev main_v75 : Ref sig .tc := ⟨.hbm, 93, rfl⟩
abbrev main_v76 : Ref sig .tc := ⟨.hbm, 94, rfl⟩
abbrev main_cst_13 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_14 : Ref sig .tc := ⟨.hbm, 99, rfl⟩
abbrev main_v80 : Ref sig .tc := ⟨.hbm, 100, rfl⟩
abbrev main_v81 : Ref sig .tc := ⟨.hbm, 101, rfl⟩
abbrev main_cst_15 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_16 : Ref sig .tc := ⟨.hbm, 108, rfl⟩
abbrev main_v87 : Ref sig .tc := ⟨.hbm, 109, rfl⟩
abbrev main_v88 : Ref sig .tc := ⟨.hbm, 110, rfl⟩
abbrev main_cst_17 : Ref sig .tc := ⟨.hbm, 111, rfl⟩
abbrev main_v89 : Ref sig .tc := ⟨.hbm, 112, rfl⟩
abbrev main_v90 : Ref sig .tc := ⟨.hbm, 113, rfl⟩
abbrev main_cst_18 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_19 : Ref sig .tc := ⟨.hbm, 125, rfl⟩
abbrev main_v101 : Ref sig .tc := ⟨.hbm, 126, rfl⟩
abbrev main_v102 : Ref sig .tc := ⟨.hbm, 127, rfl⟩
abbrev main_cst_20 : Ref sig .tc := ⟨.hbm, 128, rfl⟩
abbrev main_v103 : Ref sig .tc := ⟨.hbm, 129, rfl⟩
abbrev main_v104 : Ref sig .tc := ⟨.hbm, 130, rfl⟩
abbrev main_cst_21 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_22 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩

abbrev nD : Nat := 1
abbrev τ : Topo := Topo.v7x

variable {F : FTy → Type} [FloatOps F]
-- ==== Kernel2.lean ====
abbrev S4x2048x2048 : Shape := ⟨3, ![4, 2048, 2048]⟩
abbrev S2048x18344 : Shape := ⟨2, ![2048, 18344]⟩
abbrev S2048x1024 : Shape := ⟨2, ![2048, 1024]⟩
abbrev S2048x6144 : Shape := ⟨2, ![2048, 6144]⟩
abbrev S2048x2048 : Shape := ⟨2, ![2048, 2048]⟩
abbrev S2048x1536 : Shape := ⟨2, ![2048, 1536]⟩
abbrev S2048x256 : Shape := ⟨2, ![2048, 256]⟩
abbrev S2048x128 : Shape := ⟨2, ![2048, 128]⟩
abbrev S2048x24 : Shape := ⟨2, ![2048, 24]⟩
abbrev S2048x16 : Shape := ⟨2, ![2048, 16]⟩
abbrev S_ : Shape := ⟨0, ![]⟩
abbrev S2048x88 : Shape := ⟨2, ![2048, 88]⟩
abbrev S2048x18432 : Shape := ⟨2, ![2048, 18432]⟩
abbrev S8192x2048 : Shape := ⟨2, ![8192, 2048]⟩
abbrev S8192x18432 : Shape := ⟨2, ![8192, 18432]⟩
abbrev S512x2048 : Shape := ⟨2, ![512, 2048]⟩
abbrev S512x1024 : Shape := ⟨2, ![512, 1024]⟩
abbrev S4x2048x18432 : Shape := ⟨3, ![4, 2048, 18432]⟩
abbrev S4x2048x1536 : Shape := ⟨3, ![4, 2048, 1536]⟩
abbrev S4x2048x6x2x128 : Shape := ⟨5, ![4, 2048, 6, 2, 128]⟩
abbrev S4x2048x384 : Shape := ⟨3, ![4, 2048, 384]⟩
abbrev S4x2048x3x128 : Shape := ⟨4, ![4, 2048, 3, 128]⟩
abbrev S4x2048x2x8x128 : Shape := ⟨5, ![4, 2048, 2, 8, 128]⟩
abbrev S4x2048x4x2x128 : Shape := ⟨5, ![4, 2048, 4, 2, 128]⟩
abbrev S4x2048x2x2x128 : Shape := ⟨5, ![4, 2048, 2, 2, 128]⟩
abbrev S4x2048x1024 : Shape := ⟨3, ![4, 2048, 1024]⟩
abbrev S4x2048x24 : Shape := ⟨3, ![4, 2048, 24]⟩
abbrev S4x2048x256 : Shape := ⟨3, ![4, 2048, 256]⟩
abbrev S4x2048x128 : Shape := ⟨3, ![4, 2048, 128]⟩
abbrev S4x2048x16 : Shape := ⟨3, ![4, 2048, 16]⟩
abbrev S4x2048x6144 : Shape := ⟨3, ![4, 2048, 6144]⟩
abbrev S4x2048x18344 : Shape := ⟨3, ![4, 2048, 18344]⟩
abbrev S4x512x2x2x128 : Shape := ⟨5, ![4, 512, 2, 2, 128]⟩

abbrev nBuf : Space → Nat
  | .hbm => 49
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048x18344, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x6144, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x1536, .f32⟩
  | .hbm, ⟨13, _⟩ => ⟨S2048x256, .f32⟩
  | .hbm, ⟨14, _⟩ => ⟨S2048x128, .f32⟩
  | .hbm, ⟨15, _⟩ => ⟨S2048x24, .f32⟩
  | .hbm, ⟨16, _⟩ => ⟨S2048x16, .f32⟩
  | .hbm, ⟨17, _⟩ => ⟨S_, .f32⟩
  | .hbm, ⟨18, _⟩ => ⟨S2048x88, .f32⟩
  | .hbm, ⟨19, _⟩ => ⟨S2048x18432, .f32⟩
  | .hbm, ⟨20, _⟩ => ⟨S2048x18432, .bf16⟩
  | .hbm, ⟨21, _⟩ => ⟨S8192x2048, .f32⟩
  | .hbm, ⟨22, _⟩ => ⟨S8192x18432, .f32⟩
  | .hbm, ⟨23, _⟩ => ⟨S4x2048x18432, .f32⟩
  | .hbm, ⟨24, _⟩ => ⟨S4x2048x1536, .f32⟩
  | .hbm, ⟨25, _⟩ => ⟨S4x2048x6x2x128, .f32⟩
  | .hbm, ⟨26, _⟩ => ⟨S4x2048x384, .f32⟩
  | .hbm, ⟨27, _⟩ => ⟨S4x2048x3x128, .f32⟩
  | .hbm, ⟨28, _⟩ => ⟨S4x2048x2048, .f32⟩
  | .hbm, ⟨29, _⟩ => ⟨S4x2048x2x8x128, .f32⟩
  | .hbm, ⟨30, _⟩ => ⟨S4x2048x4x2x128, .f32⟩
  | .hbm, ⟨31, _⟩ => ⟨S4x2048x2x2x128, .f32⟩
  | .hbm, ⟨32, _⟩ => ⟨S4x2048x1024, .f32⟩
  | .hbm, ⟨33, _⟩ => ⟨S4x2048x1536, .f32⟩
  | .hbm, ⟨34, _⟩ => ⟨S4x2048x24, .f32⟩
  | .hbm, ⟨35, _⟩ => ⟨S4x2048x1024, .f32⟩
  | .hbm, ⟨36, _⟩ => ⟨S4x2048x1024, .f32⟩
  | .hbm, ⟨37, _⟩ => ⟨S4x2048x256, .f32⟩
  | .hbm, ⟨38, _⟩ => ⟨S4x2048x2048, .f32⟩
  | .hbm, ⟨39, _⟩ => ⟨S4x2048x128, .f32⟩
  | .hbm, ⟨40, _⟩ => ⟨S4x2048x16, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x6144, .f32⟩
  | .hbm, ⟨47, _⟩ => ⟨S4x2048x18344, .f32⟩
  | .hbm, ⟨48, _⟩ => ⟨S4x512x2x2x128, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x2048x2048 : Shape := ⟨3, ![4, 2048, 2048]⟩
abbrev S2048x18344 : Shape := ⟨2, ![2048, 18344]⟩
abbrev S4x2048x18344 : Shape := ⟨3, ![4, 2048, 18344]⟩
abbrev S4x2048x1024 : Shape := ⟨3, ![4, 2048, 1024]⟩
abbrev S4x2048x1536 : Shape := ⟨3, ![4, 2048, 1536]⟩
abbrev S4x2048x24 : Shape := ⟨3, ![4, 2048, 24]⟩
abbrev S4x2048x256 : Shape := ⟨3, ![4, 2048, 256]⟩
abbrev S4x2048x128 : Shape := ⟨3, ![4, 2048, 128]⟩
abbrev S4x2048x16 : Shape := ⟨3, ![4, 2048, 16]⟩
abbrev S4x2048x6144 : Shape := ⟨3, ![4, 2048, 6144]⟩
abbrev S4x2048x6x2x128 : Shape := ⟨5, ![4, 2048, 6, 2, 128]⟩
abbrev S4x2048x4x2x128 : Shape := ⟨5, ![4, 2048, 4, 2, 128]⟩
abbrev S4x2048x2x2x128 : Shape := ⟨5, ![4, 2048, 2, 2, 128]⟩
abbrev S4x2048x2x128 : Shape := ⟨4, ![4, 2048, 2, 128]⟩
abbrev S4x2048x1x128 : Shape := ⟨4, ![4, 2048, 1, 128]⟩
abbrev S4x2048x3x128 : Shape := ⟨4, ![4, 2048, 3, 128]⟩
abbrev S4x2048x8x128 : Shape := ⟨4, ![4, 2048, 8, 128]⟩
abbrev S4x2048x1x8x128 : Shape := ⟨5, ![4, 2048, 1, 8, 128]⟩
abbrev S4x2048x2x8x128 : Shape := ⟨5, ![4, 2048, 2, 8, 128]⟩
abbrev S4x512x2x2x128 : Shape := ⟨5, ![4, 512, 2, 2, 128]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x18344, .f32⟩
  | .hbm, ⟨2, _⟩ => ⟨S4x2048x18344, .f32⟩
  | .hbm, ⟨3, _⟩ => ⟨S4x2048x1024, .f32⟩
  | .hbm, ⟨4, _⟩ => ⟨S4x2048x1536, .f32⟩
  | .hbm, ⟨5, _⟩ => ⟨S4x2048x24, .f32⟩
  | .hbm, ⟨6, _⟩ => ⟨S4x2048x1024, .f32⟩
  | .hbm, ⟨7, _⟩ => ⟨S4x2048x1024, .f32⟩
  | .hbm, ⟨8, _⟩ => ⟨S4x2048x256, .f32⟩
  | .hbm, ⟨9, _⟩ => ⟨S4x2048x2048, .f32⟩
  | .hbm, ⟨10, _⟩ => ⟨S4x2048x128, .f32⟩
  | .hbm, ⟨11, _⟩ => ⟨S4x2048x16, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S4x2048x6144, .f32⟩
  | .hbm, ⟨18, _⟩ => ⟨S4x2048x6x2x128, .f32⟩
  | .hbm, ⟨19, _⟩ => ⟨S4x2048x4x2x128, .f32⟩
  | .hbm, ⟨20, _⟩ => ⟨S4x2048x2x2x128, .f32⟩
  | .hbm, ⟨21, _⟩ => ⟨S4x2048x2x128, .f32⟩
  | .hbm, ⟨22, _⟩ => ⟨S4x2048x1x128, .f32⟩
  | .hbm, ⟨23, _⟩ => ⟨S4x2048x3x128, .f32⟩
  | .hbm, ⟨24, _⟩ => ⟨S4x2048x8x128, .f32⟩
  | .hbm, ⟨25, _⟩ => ⟨S4x2048x8x128, .f32⟩
  | .hbm, ⟨26, _⟩ => ⟨S4x2048x1x8x128, .f32⟩
  | .hbm, ⟨27, _⟩ => ⟨S4x2048x1x8x128, .f32⟩
  | .hbm, ⟨28, _⟩ => ⟨S4x2048x2x8x128, .f32⟩
  | .hbm, ⟨29, _⟩ => ⟨S4x512x2x2x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩

abbrev nD : Nat := 1
abbrev τ : Topo := Topo.v7x

variable {F : FTy → Type} [FloatOps F]
-- ==== Kernel3.lean ====
abbrev S4x2048x2048 : Shape := ⟨3, ![4, 2048, 2048]⟩
abbrev S4x2048x18344 : Shape := ⟨3, ![4, 2048, 18344]⟩
abbrev S4x2048x1024 : Shape := ⟨3, ![4, 2048, 1024]⟩
abbrev S4x2048x8x128 : Shape := ⟨4, ![4, 2048, 8, 128]⟩
abbrev S3x1024x2048 : Shape := ⟨3, ![3, 1024, 2048]⟩
abbrev S2048x2048 : Shape := ⟨2, ![2048, 2048]⟩
abbrev S2048 : Shape := ⟨1, ![2048]⟩
abbrev S8192x18344 : Shape := ⟨2, ![8192, 18344]⟩
abbrev S8192x1024 : Shape := ⟨2, ![8192, 1024]⟩
abbrev S8192x6144 : Shape := ⟨2, ![8192, 6144]⟩
abbrev S8192x2048 : Shape := ⟨2, ![8192, 2048]⟩
abbrev S8192x1536 : Shape := ⟨2, ![8192, 1536]⟩
abbrev S8192x256 : Shape := ⟨2, ![8192, 256]⟩
abbrev S8192x128 : Shape := ⟨2, ![8192, 128]⟩
abbrev S8192x24 : Shape := ⟨2, ![8192, 24]⟩
abbrev S8192x16 : Shape := ⟨2, ![8192, 16]⟩
abbrev S_ : Shape := ⟨0, ![]⟩
abbrev S8192x88 : Shape := ⟨2, ![8192, 88]⟩
abbrev S8192x18432 : Shape := ⟨2, ![8192, 18432]⟩
abbrev S4x2048x18432 : Shape := ⟨3, ![4, 2048, 18432]⟩
abbrev S1x2048 : Shape := ⟨2, ![1, 2048]⟩
abbrev S128x1024 : Shape := ⟨2, ![128, 1024]⟩
abbrev S128x6144 : Shape := ⟨2, ![128, 6144]⟩
abbrev S128x2048 : Shape := ⟨2, ![128, 2048]⟩
abbrev S1x1024x2048 : Shape := ⟨3, ![1, 1024, 2048]⟩
abbrev S1024x2048 : Shape := ⟨2, ![1024, 2048]⟩
abbrev S128 : Shape := ⟨1, ![128]⟩
abbrev S128x1 : Shape := ⟨2, ![128, 1]⟩

abbrev nBuf : Space → Nat
  | .hbm => 40
  | .vmem => 22
  | .smem => 0
  | _ => 0

abbrev bufTy : (tb : Table) → Fin (tcTables nBuf tb) → BufTy
  | .hbm, ⟨0, _⟩ => ⟨S4x2048x2048, .f32⟩
  | .hbm, ⟨1, _⟩ => ⟨S4x2048x18344, .f32⟩
  | .hbm, ⟨2, _⟩ => ⟨S4x2048x1024, .f32⟩
  | .hbm, ⟨3, _⟩ => ⟨S4x2048x8x128, .f32⟩
  | .hbm, ⟨4, _⟩ => ⟨S4x2048x1024, .f32⟩
  | .hbm, ⟨5, _⟩ => ⟨S3x1024x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S8192x18344, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x6144, .f32⟩
  | .hbm, ⟨17, _⟩ => ⟨S8192x2048, .f32⟩
  | .hbm, ⟨18, _⟩ => ⟨S8192x1024, .f32⟩
  | .hbm, ⟨19, _⟩ => ⟨S8192x1024, .f32⟩
  | .hbm, ⟨20, _⟩ => ⟨S8192x1536, .f32⟩
  | .hbm, ⟨21, _⟩ => ⟨S8192x256, .f32⟩
  | .hbm, ⟨22, _⟩ => ⟨S8192x128, .f32⟩
  | .hbm, ⟨23, _⟩ => ⟨S8192x24, .f32⟩
  | .hbm, ⟨24, _⟩ => ⟨S8192x16, .f32⟩
  | .hbm, ⟨25, _⟩ => ⟨S_, .f32⟩
  | .hbm, ⟨26, _⟩ => ⟨S8192x88, .f32⟩
  | .hbm, ⟨27, _⟩ => ⟨S8192x18432, .f32⟩
  | .hbm, ⟨28, _⟩ => ⟨S4x2048x18432, .f32⟩
  | .hbm, ⟨29, _⟩ => ⟨S3x1024x2048, .bf16⟩
  | .hbm, ⟨30, _⟩ => ⟨S2048x2048, .bf16⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x18432, .f32⟩
  | .hbm, ⟨35, _⟩ => ⟨S8192x2048, .f32⟩
  | .hbm, ⟨36, _⟩ => ⟨S1x2048, .f32⟩
  | .hbm, ⟨37, _⟩ => ⟨S1x2048, .f32⟩
  | .hbm, ⟨38, _⟩ => ⟨S8192x2048, .f32⟩
  | .hbm, ⟨39, _⟩ => ⟨S4x2048x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x6144, .f32⟩
  | .local _ .vmem, ⟨13, _⟩ => ⟨S128x6144, .f32⟩
  | .local _ .vmem, ⟨14, _⟩ => ⟨S128x2048, .f32⟩
  | .local _ .vmem, ⟨15, _⟩ => ⟨S128x2048, .f32⟩
  | .local _ .vmem, ⟨16, _⟩ => ⟨S3x1024x2048, .bf16⟩
  | .local _ .vmem, ⟨17, _⟩ => ⟨S2048x2048, .bf16⟩
  | .local _ .vmem, ⟨18, _⟩ => ⟨S1x2048, .f32⟩
  | .local _ .vmem, ⟨19, _⟩ => ⟨S1x2048, .f32⟩
  | .local _ .vmem, ⟨20, _⟩ => ⟨S128x2048, .f32⟩
  | .local _ .vmem, ⟨21, _⟩ => ⟨S128x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S4x2048x2048 : Shape := ⟨3, ![4, 2048, 2048]⟩
abbrev S4x2048x18344 : Shape := ⟨3, ![4, 2048, 18344]⟩
abbrev S4x2048x1024 : Shape := ⟨3, ![4, 2048, 1024]⟩
abbrev S4x2048x8x128 : Shape := ⟨4, ![4, 2048, 8, 128]⟩
abbrev S3x1024x2048 : Shape := ⟨3, ![3, 1024, 2048]⟩
abbrev S2048x2048 : Shape := ⟨2, ![2048, 2048]⟩
abbrev S2048 : Shape := ⟨1, ![2048]⟩
abbrev S4x2048x1536 : Shape := ⟨3, ![4, 2048, 1536]⟩
abbrev S4x2048x24 : Shape := ⟨3, ![4, 2048, 24]⟩
abbrev S4x2048x256 : Shape := ⟨3, ![4, 2048, 256]⟩
abbrev S4x2048x128 : Shape := ⟨3, ![4, 2048, 128]⟩
abbrev S4x2048x16 : Shape := ⟨3, ![4, 2048, 16]⟩
abbrev S4x2048x6144 : Shape := ⟨3, ![4, 2048, 6144]⟩
abbrev S_ : Shape := ⟨0, ![]⟩
abbrev S4x2048x1x1024 : Shape := ⟨4, ![4, 2048, 1, 1024]⟩
abbrev S4x2048x3x1024 : Shape := ⟨4, ![4, 2048, 3, 1024]⟩
abbrev S3x2048x4x2048 : Shape := ⟨4, ![3, 2048, 4, 2048]⟩
abbrev S4x2048x3x2048 : Shape := ⟨4, ![4, 2048, 3, 2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 105
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x18344, .f32⟩
  | .hbm, ⟨2, _⟩ => ⟨S4x2048x1024, .f32⟩
  | .hbm, ⟨3, _⟩ => ⟨S4x2048x8x128, .f32⟩
  | .hbm, ⟨4, _⟩ => ⟨S4x2048x1024, .f32⟩
  | .hbm, ⟨5, _⟩ => ⟨S3x1024x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S4x2048x1024, .f32⟩
  | .hbm, ⟨10, _⟩ => ⟨S4x2048x1536, .f32⟩
  | .hbm, ⟨11, _⟩ => ⟨S4x2048x24, .f32⟩
  | .hbm, ⟨12, _⟩ => ⟨S4x2048x1024, .f32⟩
  | .hbm, ⟨13, _⟩ => ⟨S4x2048x1024, .f32⟩
  | .hbm, ⟨14, _⟩ => ⟨S4x2048x256, .f32⟩
  | .hbm, ⟨15, _⟩ => ⟨S4x2048x2048, .f32⟩
  | .hbm, ⟨16, _⟩ => ⟨S4x2048x128, .f32⟩
  | .hbm, ⟨17, _⟩ => ⟨S4x2048x16, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2048x6144, .f32⟩
  | .hbm, ⟨24, _⟩ => ⟨S4x2048x1024, .f32⟩
  | .hbm, ⟨25, _⟩ => ⟨S4x2048x1024, .f32⟩
  | .hbm, ⟨26, _⟩ => ⟨S_, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S4x2048x1024, .f32⟩
  | .hbm, ⟨36, _⟩ => ⟨S4x2048x1024, .f32⟩
  | .hbm, ⟨37, _⟩ => ⟨S_, .f32⟩
  | .hbm, ⟨38, _⟩ => ⟨S4x2048x1024, .f32⟩
  | .hbm, ⟨39, _⟩ => ⟨S4x2048x1024, .f32⟩
  | .hbm, ⟨40, _⟩ => ⟨S_, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1x1024, .f32⟩
  | .hbm, ⟨56, _⟩ => ⟨S4x2048x1x1024, .f32⟩
  | .hbm, ⟨57, _⟩ => ⟨S4x2048x1x1024, .f32⟩
  | .hbm, ⟨58, _⟩ => ⟨S4x2048x3x1024, .f32⟩
  | .hbm, ⟨59, _⟩ => ⟨S3x2048x4x2048, .f32⟩
  | .hbm, ⟨60, _⟩ => ⟨S4x2048x3x2048, .f32⟩
  | .hbm, ⟨61, _⟩ => ⟨S4x2048x3x2048, .f32⟩
  | .hbm, ⟨62, _⟩ => ⟨S4x2048x3x2048, .f32⟩
  | .hbm, ⟨63, _⟩ => ⟨S4x2048x3x2048, .f32⟩
  | .hbm, ⟨64, _⟩ => ⟨S_, .f32⟩
  | .hbm, ⟨65, _⟩ => ⟨S4x2048x3x2048, .f32⟩
  | .hbm, ⟨66, _⟩ => ⟨S4x2048x3x2048, .f32⟩
  | .hbm, ⟨67, _⟩ => ⟨S_, .f32⟩
  | .hbm, ⟨68, _⟩ => ⟨S4x2048x3x2048, .f32⟩
  | .hbm, ⟨69, _⟩ => ⟨S4x2048x3x2048, .f32⟩
  | .hbm, ⟨70, _⟩ => ⟨S4x2048x3x2048, .f32⟩
  | .hbm, ⟨71, _⟩ => ⟨S_, .f32⟩
  | .hbm, ⟨72, _⟩ => ⟨S4x2048x2048, .f32⟩
  | .hbm, ⟨73, _⟩ => ⟨S4x2048x2048, .f32⟩
  | .hbm, ⟨74, _⟩ => ⟨S_, .f32⟩
  | .hbm, ⟨75, _⟩ => ⟨S4x2048x2048, .f32⟩
  | .hbm, ⟨76, _⟩ => ⟨S4x2048x2048, .f32⟩
  | .hbm, ⟨77, _⟩ => ⟨S4x2048x2048, .f32⟩
  | .hbm, ⟨78, _⟩ => ⟨S_, .f32⟩
  | .hbm, ⟨79, _⟩ => ⟨S4x2048, .f32⟩
  | .hbm, ⟨80, _⟩ => ⟨S4x2048x1, .f32⟩
  | .hbm, ⟨81, _⟩ => ⟨S_, .f32⟩
  | .hbm, ⟨82, _⟩ => ⟨S4x2048x1, .f32⟩
  | .hbm, ⟨83, _⟩ => ⟨S4x2048x1, .f32⟩
  | .hbm, ⟨84, _⟩ => ⟨S4x2048x2048, .f32⟩
  | .hbm, ⟨85, _⟩ => ⟨S4x2048x2048, .f32⟩
  | .hbm, ⟨86, _⟩ => ⟨S4x2048x2048, .f32⟩
  | .hbm, ⟨87, _⟩ => ⟨S_, .f32⟩
  | .hbm, ⟨88, _⟩ => ⟨S4x2048, .f32⟩
  | .hbm, ⟨89, _⟩ => ⟨S4x2048x1, .f32⟩
  | .hbm, ⟨90, _⟩ => ⟨S_, .f32⟩
  | .hbm, ⟨91, _⟩ => ⟨S4x2048x1, .f32⟩
  | .hbm, ⟨92, _⟩ => ⟨S4x2048x1, .f32⟩
  | .hbm, ⟨93, _⟩ => ⟨S_, .f32⟩
  | .hbm, ⟨94, _⟩ => ⟨S4x2048x1, .f32⟩
  | .hbm, ⟨95, _⟩ => ⟨S4x2048x1, .f32⟩
  | .hbm, ⟨96, _⟩ => ⟨S4x2048x1, .f32⟩
  | .hbm, ⟨97, _⟩ => ⟨S4x2048x2048, .f32⟩
  | .hbm, ⟨98, _⟩ => ⟨S4x2048x2048, .f32⟩
  | .hbm, ⟨99, _⟩ => ⟨S1x1x2048, .f32⟩
  | .hbm, ⟨100, _⟩ => ⟨S4x2048x2048, .f32⟩
  | .hbm, ⟨101, _⟩ => ⟨S4x2048x2048, .f32⟩
  | .hbm, ⟨102, _⟩ => ⟨S1x1x2048, .f32⟩
  | .hbm, ⟨103, _⟩ => ⟨S4x2048x2048, .f32⟩
  | .hbm, ⟨104, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v18 : Ref sig .tc := ⟨.hbm, 43, rfl⟩
abbrev main_v19 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst : Ref sig .tc := ⟨.hbm, 64, rfl⟩
abbrev main_v31 : Ref sig .tc := ⟨.hbm, 65, rfl⟩
abbrev main_v32 : Ref sig .tc := ⟨.hbm, 66, rfl⟩
abbrev main_cst_0 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_1 : Ref sig .tc := ⟨.hbm, 71, rfl⟩
abbrev main_v36 : Ref sig .tc := ⟨.hbm, 72, rfl⟩
abbrev main_v37 : Ref sig .tc := ⟨.hbm, 73, rfl⟩
abbrev main_cst_2 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_3 : Ref sig .tc := ⟨.hbm, 78, rfl⟩
abbrev main_v41 : Ref sig .tc := ⟨.hbm, 79, rfl⟩
abbrev main_v42 : Ref sig .tc := ⟨.hbm, 80, rfl⟩
abbrev main_cst_4 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_5 : Ref sig .tc := ⟨.hbm, 87, rfl⟩
abbrev main_v48 : Ref sig .tc := ⟨.hbm, 88, rfl⟩
abbrev main_v49 : Ref sig .tc := ⟨.hbm, 89, rfl⟩
abbrev main_cst_6 : Ref sig .tc := ⟨.hbm, 90, rfl⟩
abbrev main_v50 : Ref sig .tc := ⟨.hbm, 91, rfl⟩
abbrev main_v51 : Ref sig .tc := ⟨.hbm, 92, rfl⟩
abbrev main_cst_7 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩

abbrev nD : Nat := 1
abbrev τ : Topo := Topo.v7x

variable {F : FTy → Type} [FloatOps F]
-- ==== Kernel4.lean ====
abbrev S128x4x2048 : Shape := ⟨3, ![128, 4, 2048]⟩
abbrev S2048x18344 : Shape := ⟨2, ![2048, 18344]⟩
abbrev S128x512x2x2x128 : Shape := ⟨5, ![128, 512, 2, 2, 128]⟩
abbrev S2048x1024 : Shape := ⟨2, ![2048, 1024]⟩
abbrev S2048x6144 : Shape := ⟨2, ![2048, 6144]⟩
abbrev S2048x2048 : Shape := ⟨2, ![2048, 2048]⟩
abbrev S2048x1536 : Shape := ⟨2, ![2048, 1536]⟩
abbrev S2048x256 : Shape := ⟨2, ![2048, 256]⟩
abbrev S2048x128 : Shape := ⟨2, ![2048, 128]⟩
abbrev S2048x24 : Shape := ⟨2, ![2048, 24]⟩
abbrev S2048x16 : Shape := ⟨2, ![2048, 16]⟩
abbrev S_ : Shape := ⟨0, ![]⟩
abbrev S2048x88 : Shape := ⟨2, ![2048, 88]⟩
abbrev S2048x18432 : Shape := ⟨2, ![2048, 18432]⟩
abbrev S512x2048 : Shape := ⟨2, ![512, 2048]⟩
abbrev S512x18432 : Shape := ⟨2, ![512, 18432]⟩
abbrev S512x1024 : Shape := ⟨2, ![512, 1024]⟩
abbrev S128x4x18432 : Shape := ⟨3, ![128, 4, 18432]⟩
abbrev S128x4x1536 : Shape := ⟨3, ![128, 4, 1536]⟩
abbrev S128x4x6x2x128 : Shape := ⟨5, ![128, 4, 6, 2, 128]⟩
abbrev S128x4x384 : Shape := ⟨3, ![128, 4, 384]⟩
abbrev S128x4x3x128 : Shape := ⟨4, ![128, 4, 3, 128]⟩
abbrev S128x4x2x8x128 : Shape := ⟨5, ![128, 4, 2, 8, 128]⟩
abbrev S128x4x4x2x128 : Shape := ⟨5, ![128, 4, 4, 2, 128]⟩
abbrev S128x4x2x2x128 : Shape := ⟨5, ![128, 4, 2, 2, 128]⟩
abbrev S128x4x1024 : Shape := ⟨3, ![128, 4, 1024]⟩
abbrev S128x4x24 : Shape := ⟨3, ![128, 4, 24]⟩
abbrev S128x4x256 : Shape := ⟨3, ![128, 4, 256]⟩
abbrev S128x4x128 : Shape := ⟨3, ![128, 4, 128]⟩
abbrev S128x4x16 : Shape := ⟨3, ![128, 4, 16]⟩
abbrev S128x4x6144 : Shape := ⟨3, ![128, 4, 6144]⟩
abbrev S128x4x18344 : Shape := ⟨3, ![128, 4, 18344]⟩
abbrev S128x508x2x2x128 : Shape := ⟨5, ![128, 508, 2, 2, 128]⟩

abbrev nBuf : Space → Nat
  | .hbm => 51
  | .vmem => 6
  | .smem => 0
  | _ => 0

abbrev bufTy : (tb : Table) → Fin (tcTables nBuf tb) → BufTy
  | .hbm, ⟨0, _⟩ => ⟨S128x4x2048, .f32⟩
  | .hbm, ⟨1, _⟩ => ⟨S2048x18344, .f32⟩
  | .hbm, ⟨2, _⟩ => ⟨S128x512x2x2x128, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x6144, .f32⟩
  | .hbm, ⟨10, _⟩ => ⟨S2048x2048, .f32⟩
  | .hbm, ⟨11, _⟩ => ⟨S2048x1024, .f32⟩
  | .hbm, ⟨12, _⟩ => ⟨S2048x1024, .f32⟩
  | .hbm, ⟨13, _⟩ => ⟨S2048x1536, .f32⟩
  | .hbm, ⟨14, _⟩ => ⟨S2048x256, .f32⟩
  | .hbm, ⟨15, _⟩ => ⟨S2048x128, .f32⟩
  | .hbm, ⟨16, _⟩ => ⟨S2048x24, .f32⟩
  | .hbm, ⟨17, _⟩ => ⟨S2048x16, .f32⟩
  | .hbm, ⟨18, _⟩ => ⟨S_, .f32⟩
  | .hbm, ⟨19, _⟩ => ⟨S2048x88, .f32⟩
  | .hbm, ⟨20, _⟩ => ⟨S2048x18432, .f32⟩
  | .hbm, ⟨21, _⟩ => ⟨S2048x18432, .bf16⟩
  | .hbm, ⟨22, _⟩ => ⟨S512x2048, .f32⟩
  | .hbm, ⟨23, _⟩ => ⟨S512x18432, .f32⟩
  | .hbm, ⟨24, _⟩ => ⟨S128x4x18432, .f32⟩
  | .hbm, ⟨25, _⟩ => ⟨S128x4x1536, .f32⟩
  | .hbm, ⟨26, _⟩ => ⟨S128x4x6x2x128, .f32⟩
  | .hbm, ⟨27, _⟩ => ⟨S128x4x384, .f32⟩
  | .hbm, ⟨28, _⟩ => ⟨S128x4x3x128, .f32⟩
  | .hbm, ⟨29, _⟩ => ⟨S128x4x2048, .f32⟩
  | .hbm, ⟨30, _⟩ => ⟨S128x4x2x8x128, .f32⟩
  | .hbm, ⟨31, _⟩ => ⟨S128x4x4x2x128, .f32⟩
  | .hbm, ⟨32, _⟩ => ⟨S128x4x2x2x128, .f32⟩
  | .hbm, ⟨33, _⟩ => ⟨S128x4x1024, .f32⟩
  | .hbm, ⟨34, _⟩ => ⟨S128x4x1536, .f32⟩
  | .hbm, ⟨35, _⟩ => ⟨S128x4x24, .f32⟩
  | .hbm, ⟨36, _⟩ => ⟨S128x4x1024, .f32⟩
  | .hbm, ⟨37, _⟩ => ⟨S128x4x1024, .f32⟩
  | .hbm, ⟨38, _⟩ => ⟨S128x4x256, .f32⟩
  | .hbm, ⟨39, _⟩ => ⟨S128x4x2048, .f32⟩
  | .hbm, ⟨40, _⟩ => ⟨S128x4x128, .f32⟩
  | .hbm, ⟨41, _⟩ => ⟨S128x4x16, .f32⟩
  | .hbm, ⟨42, _⟩ => ⟨S128x4x1024, .f32⟩
  | .hbm, ⟨43, _⟩ => ⟨S128x4x1024, .f32⟩
  | .hbm, ⟨44, _⟩ => ⟨S128x4x1024, .f32⟩
  | .hbm, ⟨45, _⟩ => ⟨S128x4x1024, .f32⟩
  | .hbm, ⟨46, _⟩ => ⟨S128x4x1024, .f32⟩
  | .hbm, ⟨47, _⟩ => ⟨S128x4x6144, .f32⟩
  | .hbm, ⟨48, _⟩ => ⟨S128x4x18344, .f32⟩
  | .hbm, ⟨49, _⟩ => ⟨S128x508x2x2x128, .f32⟩
  | .hbm, ⟨50, _⟩ => ⟨S128x512x2x2x128, .f32⟩
  | .local _ .vmem, ⟨0, _⟩ => ⟨S512x2048, .f32⟩
  | .local _ .vmem, ⟨1, _⟩ => ⟨S2048x1024, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S128x4x2048 : Shape := ⟨3, ![128, 4, 2048]⟩
abbrev S2048x18344 : Shape := ⟨2, ![2048, 18344]⟩
abbrev S128x512x2x2x128 : Shape := ⟨5, ![128, 512, 2, 2, 128]⟩
abbrev S128x4x18344 : Shape := ⟨3, ![128, 4, 18344]⟩
abbrev S128x4x1024 : Shape := ⟨3, ![128, 4, 1024]⟩
abbrev S128x4x1536 : Shape := ⟨3, ![128, 4, 1536]⟩
abbrev S128x4x24 : Shape := ⟨3, ![128, 4, 24]⟩
abbrev S128x4x256 : Shape := ⟨3, ![128, 4, 256]⟩
abbrev S128x4x128 : Shape := ⟨3, ![128, 4, 128]⟩
abbrev S128x4x16 : Shape := ⟨3, ![128, 4, 16]⟩
abbrev S128x4x6144 : Shape := ⟨3, ![128, 4, 6144]⟩
abbrev S128x4x6x2x128 : Shape := ⟨5, ![128, 4, 6, 2, 128]⟩
abbrev S128x4x4x2x128 : Shape := ⟨5, ![128, 4, 4, 2, 128]⟩
abbrev S128x4x2x2x128 : Shape := ⟨5, ![128, 4, 2, 2, 128]⟩
abbrev S128x4x2x128 : Shape := ⟨4, ![128, 4, 2, 128]⟩
abbrev S128x4x1x128 : Shape := ⟨4, ![128, 4, 1, 128]⟩
abbrev S128x4x3x128 : Shape := ⟨4, ![128, 4, 3, 128]⟩
abbrev S128x4x8x128 : Shape := ⟨4, ![128, 4, 8, 128]⟩
abbrev S128x4x1x8x128 : Shape := ⟨5, ![128, 4, 1, 8, 128]⟩
abbrev S128x4x2x8x128 : Shape := ⟨5, ![128, 4, 2, 8, 128]⟩
abbrev S128x516x2x2x128 : Shape := ⟨5, ![128, 516, 2, 2, 128]⟩

abbrev nBuf : Space → Nat
  | .hbm => 32
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S2048x18344, .f32⟩
  | .hbm, ⟨2, _⟩ => ⟨S128x512x2x2x128, .f32⟩
  | .hbm, ⟨3, _⟩ => ⟨S128x4x18344, .f32⟩
  | .hbm, ⟨4, _⟩ => ⟨S128x4x1024, .f32⟩
  | .hbm, ⟨5, _⟩ => ⟨S128x4x1536, .f32⟩
  | .hbm, ⟨6, _⟩ => ⟨S128x4x24, .f32⟩
  | .hbm, ⟨7, _⟩ => ⟨S128x4x1024, .f32⟩
  | .hbm, ⟨8, _⟩ => ⟨S128x4x1024, .f32⟩
  | .hbm, ⟨9, _⟩ => ⟨S128x4x256, .f32⟩
  | .hbm, ⟨10, _⟩ => ⟨S128x4x2048, .f32⟩
  | .hbm, ⟨11, _⟩ => ⟨S128x4x128, .f32⟩
  | .hbm, ⟨12, _⟩ => ⟨S128x4x16, .f32⟩
  | .hbm, ⟨13, _⟩ => ⟨S128x4x1024, .f32⟩
  | .hbm, ⟨14, _⟩ => ⟨S128x4x1024, .f32⟩
  | .hbm, ⟨15, _⟩ => ⟨S128x4x1024, .f32⟩
  | .hbm, ⟨16, _⟩ => ⟨S128x4x1024, .f32⟩
  | .hbm, ⟨17, _⟩ => ⟨S128x4x1024, .f32⟩
  | .hbm, ⟨18, _⟩ => ⟨S128x4x6144, .f32⟩
  | .hbm, ⟨19, _⟩ => ⟨S128x4x6x2x128, .f32⟩
  | .hbm, ⟨20, _⟩ => ⟨S128x4x4x2x128, .f32⟩
  | .hbm, ⟨21, _⟩ => ⟨S128x4x2x2x128, .f32⟩
  | .hbm, ⟨22, _⟩ => ⟨S128x4x2x128, .f32⟩
  | .hbm, ⟨23, _⟩ => ⟨S128x4x1x128, .f32⟩
  | .hbm, ⟨24, _⟩ => ⟨S128x4x3x128, .f32⟩
  | .hbm, ⟨25, _⟩ => ⟨S128x4x8x128, .f32⟩
  | .hbm, ⟨26, _⟩ => ⟨S128x4x8x128, .f32⟩
  | .hbm, ⟨27, _⟩ => ⟨S128x4x1x8x128, .f32⟩
  | .hbm, ⟨28, _⟩ => ⟨S128x4x1x8x128, .f32⟩
  | .hbm, ⟨29, _⟩ => ⟨S128x4x2x8x128, .f32⟩
  | .hbm, ⟨30, _⟩ => ⟨S128x516x2x2x128, .f32⟩
  | .hbm, ⟨31, _⟩ => ⟨S128x512x2x2x128, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== Kernel5.lean ====
abbrev S128x4x2048 : Shape := ⟨3, ![128, 4, 2048]⟩
abbrev S128x4x18344 : Shape := ⟨3, ![128, 4, 18344]⟩
abbrev S128x4x1024 : Shape := ⟨3, ![128, 4, 1024]⟩
abbrev S128x4x8x128 : Shape := ⟨4, ![128, 4, 8, 128]⟩
abbrev S3x1024x2048 : Shape := ⟨3, ![3, 1024, 2048]⟩
abbrev S2048x2048 : Shape := ⟨2, ![2048, 2048]⟩
abbrev S2048 : Shape := ⟨1, ![2048]⟩
abbrev S512x18344 : Shape := ⟨2, ![512, 18344]⟩
abbrev S512x1024 : Shape := ⟨2, ![512, 1024]⟩
abbrev S512x6144 : Shape := ⟨2, ![512, 6144]⟩
abbrev S512x2048 : Shape := ⟨2, ![512, 2048]⟩
abbrev S512x1536 : Shape := ⟨2, ![512, 1536]⟩
abbrev S512x256 : Shape := ⟨2, ![512, 256]⟩
abbrev S512x128 : Shape := ⟨2, ![512, 128]⟩
abbrev S512x24 : Shape := ⟨2, ![512, 24]⟩
abbrev S512x16 : Shape := ⟨2, ![512, 16]⟩
abbrev S_ : Shape := ⟨0, ![]⟩
abbrev S512x88 : Shape := ⟨2, ![512, 88]⟩
abbrev S512x18432 : Shape := ⟨2, ![512, 18432]⟩
abbrev S128x4x18432 : Shape := ⟨3, ![128, 4, 18432]⟩
abbrev S1x2048 : Shape := ⟨2, ![1, 2048]⟩
abbrev S128x1024 : Shape := ⟨2, ![128, 1024]⟩
abbrev S128x6144 : Shape := ⟨2, ![128, 6144]⟩
abbrev S128x2048 : Shape := ⟨2, ![128, 2048]⟩
abbrev S1x1024x2048 : Shape := ⟨3, ![1, 1024, 2048]⟩
abbrev S1024x2048 : Shape := ⟨2, ![1024, 2048]⟩
abbrev S128 : Shape := ⟨1, ![128]⟩
abbrev S128x1 : Shape := ⟨2, ![128, 1]⟩

abbrev nBuf : Space → Nat
  | .hbm => 40
  | .vmem => 22
  | .smem => 0
  | _ => 0

abbrev bufTy : (tb : Table) → Fin (tcTables nBuf tb) → BufTy
  | .hbm, ⟨0, _⟩ => ⟨S128x4x2048, .f32⟩
  | .hbm, ⟨1, _⟩ => ⟨S128x4x18344, .f32⟩
  | .hbm, ⟨2, _⟩ => ⟨S128x4x1024, .f32⟩
  | .hbm, ⟨3, _⟩ => ⟨S128x4x8x128, .f32⟩
  | .hbm, ⟨4, _⟩ => ⟨S128x4x1024, .f32⟩
  | .hbm, ⟨5, _⟩ => ⟨S3x1024x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S512x18344, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x6144, .f32⟩
  | .hbm, ⟨17, _⟩ => ⟨S512x2048, .f32⟩
  | .hbm, ⟨18, _⟩ => ⟨S512x1024, .f32⟩
  | .hbm, ⟨19, _⟩ => ⟨S512x1024, .f32⟩
  | .hbm, ⟨20, _⟩ => ⟨S512x1536, .f32⟩
  | .hbm, ⟨21, _⟩ => ⟨S512x256, .f32⟩
  | .hbm, ⟨22, _⟩ => ⟨S512x128, .f32⟩
  | .hbm, ⟨23, _⟩ => ⟨S512x24, .f32⟩
  | .hbm, ⟨24, _⟩ => ⟨S512x16, .f32⟩
  | .hbm, ⟨25, _⟩ => ⟨S_, .f32⟩
  | .hbm, ⟨26, _⟩ => ⟨S512x88, .f32⟩
  | .hbm, ⟨27, _⟩ => ⟨S512x18432, .f32⟩
  | .hbm, ⟨28, _⟩ => ⟨S128x4x18432, .f32⟩
  | .hbm, ⟨29, _⟩ => ⟨S3x1024x2048, .bf16⟩
  | .hbm, ⟨30, _⟩ => ⟨S2048x2048, .bf16⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S512x18432, .f32⟩
  | .hbm, ⟨35, _⟩ => ⟨S512x2048, .f32⟩
  | .hbm, ⟨36, _⟩ => ⟨S1x2048, .f32⟩
  | .hbm, ⟨37, _⟩ => ⟨S1x2048, .f32⟩
  | .hbm, ⟨38, _⟩ => ⟨S512x2048, .f32⟩
  | .hbm, ⟨39, _⟩ => ⟨S128x4x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x6144, .f32⟩
  | .local _ .vmem, ⟨13, _⟩ => ⟨S128x6144, .f32⟩
  | .local _ .vmem, ⟨14, _⟩ => ⟨S128x2048, .f32⟩
  | .local _ .vmem, ⟨15, _⟩ => ⟨S128x2048, .f32⟩
  | .local _ .vmem, ⟨16, _⟩ => ⟨S3x1024x2048, .bf16⟩
  | .local _ .vmem, ⟨17, _⟩ => ⟨S2048x2048, .bf16⟩
  | .local _ .vmem, ⟨18, _⟩ => ⟨S1x2048, .f32⟩
  | .local _ .vmem, ⟨19, _⟩ => ⟨S1x2048, .f32⟩
  | .local _ .vmem, ⟨20, _⟩ => ⟨S128x2048, .f32⟩
  | .local _ .vmem, ⟨21, _⟩ => ⟨S128x2048, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S128x4x2048 : Shape := ⟨3, ![128, 4, 2048]⟩
abbrev S128x4x18344 : Shape := ⟨3, ![128, 4, 18344]⟩
abbrev S128x4x1024 : Shape := ⟨3, ![128, 4, 1024]⟩
abbrev S128x4x8x128 : Shape := ⟨4, ![128, 4, 8, 128]⟩
abbrev S3x1024x2048 : Shape := ⟨3, ![3, 1024, 2048]⟩
abbrev S2048x2048 : Shape := ⟨2, ![2048, 2048]⟩
abbrev S2048 : Shape := ⟨1, ![2048]⟩
abbrev S128x4x1536 : Shape := ⟨3, ![128, 4, 1536]⟩
abbrev S128x4x24 : Shape := ⟨3, ![128, 4, 24]⟩
abbrev S128x4x256 : Shape := ⟨3, ![128, 4, 256]⟩
abbrev S128x4x128 : Shape := ⟨3, ![128, 4, 128]⟩
abbrev S128x4x16 : Shape := ⟨3, ![128, 4, 16]⟩
abbrev S128x4x6144 : Shape := ⟨3, ![128, 4, 6144]⟩
abbrev S_ : Shape := ⟨0, ![]⟩
abbrev S128x4x1x1024 : Shape := ⟨4, ![128, 4, 1, 1024]⟩
abbrev S128x4x3x1024 : Shape := ⟨4, ![128, 4, 3, 1024]⟩
abbrev S3x2048x128x4 : Shape := ⟨4, ![3, 2048, 128, 4]⟩
abbrev S128x4x3x2048 : Shape := ⟨4, ![128, 4, 3, 2048]⟩
abbrev S128x4 : Shape := ⟨2, ![128, 4]⟩
abbrev S128x4x1 : Shape := ⟨3, ![128, 4, 1]⟩
abbrev S1x1x2048 : Shape := ⟨3, ![1, 1, 2048]⟩

abbrev nBuf : Space → Nat
  | .hbm => 105
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S128x4x18344, .f32⟩
  | .hbm, ⟨2, _⟩ => ⟨S128x4x1024, .f32⟩
  | .hbm, ⟨3, _⟩ => ⟨S128x4x8x128, .f32⟩
  | .hbm, ⟨4, _⟩ => ⟨S128x4x1024, .f32⟩
  | .hbm, ⟨5, _⟩ => ⟨S3x1024x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S128x4x1024, .f32⟩
  | .hbm, ⟨10, _⟩ => ⟨S128x4x1536, .f32⟩
  | .hbm, ⟨11, _⟩ => ⟨S128x4x24, .f32⟩
  | .hbm, ⟨12, _⟩ => ⟨S128x4x1024, .f32⟩
  | .hbm, ⟨13, _⟩ => ⟨S128x4x1024, .f32⟩
  | .hbm, ⟨14, _⟩ => ⟨S128x4x256, .f32⟩
  | .hbm, ⟨15, _⟩ => ⟨S128x4x2048, .f32⟩
  | .hbm, ⟨16, _⟩ => ⟨S128x4x128, .f32⟩
  | .hbm, ⟨17, _⟩ => ⟨S128x4x16, .f32⟩
  | .hbm, ⟨18, _⟩ => ⟨S128x4x1024, .f32⟩
  | .hbm, ⟨19, _⟩ => ⟨S128x4x1024, .f32⟩
  | .hbm, ⟨20, _⟩ => ⟨S128x4x1024, .f32⟩
  | .hbm, ⟨21, _⟩ => ⟨S128x4x1024, .f32⟩
  | .hbm, ⟨22, _⟩ => ⟨S128x4x1024, .f32⟩
  | .hbm, ⟨23, _⟩ => ⟨S128x4x6144, .f32⟩
  | .hbm, ⟨24, _⟩ => ⟨S128x4x1024, .f32⟩
  | .hbm, ⟨25, _⟩ => ⟨S128x4x1024, .f32⟩
  | .hbm, ⟨26, _⟩ => ⟨S_, .f32⟩
  | .hbm, ⟨27, _⟩ => ⟨S128x4x1024, .f32⟩
  | .hbm, ⟨28, _⟩ => ⟨S128x4x1024, .f32⟩
  | .hbm, ⟨29, _⟩ => ⟨S_, .f32⟩
  | .hbm, ⟨30, _⟩ => ⟨S128x4x1024, .f32⟩
  | .hbm, ⟨31, _⟩ => ⟨S128x4x1024, .f32⟩
  | .hbm, ⟨32, _⟩ => ⟨S128x4x1024, .f32⟩
  | .hbm, ⟨33, _⟩ => ⟨S128x4x1024, .f32⟩
  | .hbm, ⟨34, _⟩ => ⟨S128x4x1024, .f32⟩
  | .hbm, ⟨35, _⟩ => ⟨S128x4x1024, .f32⟩
  | .hbm, ⟨36, _⟩ => ⟨S128x4x1024, .f32⟩
  | .hbm, ⟨37, _⟩ => ⟨S_, .f32⟩
  | .hbm, ⟨38, _⟩ => ⟨S128x4x1024, .f32⟩
  | .hbm, ⟨39, _⟩ => ⟨S128x4x1024, .f32⟩
  | .hbm, ⟨40, _⟩ => ⟨S_, .f32⟩
  | .hbm, ⟨41, _⟩ => ⟨S128x4x1024, .f32⟩
  | .hbm, ⟨42, _⟩ => ⟨S128x4x1024, .f32⟩
  | .hbm, ⟨43, _⟩ => ⟨S128x4x1024, .f32⟩
  | .hbm, ⟨44, _⟩ => ⟨S128x4x1024, .f32⟩
  | .hbm, ⟨45, _⟩ => ⟨S128x4x1024, .f32⟩
  | .hbm, ⟨46, _⟩ => ⟨S128x4x1024, .f32⟩
  | .hbm, ⟨47, _⟩ => ⟨S_, .f32⟩
  | .hbm, ⟨48, _⟩ => ⟨S128x4x1024, .f32⟩
  | .hbm, ⟨49, _⟩ => ⟨S128x4x1024, .f32⟩
  | .hbm, ⟨50, _⟩ => ⟨S_, .f32⟩
  | .hbm, ⟨51, _⟩ => ⟨S128x4x1024, .f32⟩
  | .hbm, ⟨52, _⟩ => ⟨S128x4x1024, .f32⟩
  | .hbm, ⟨53, _⟩ => ⟨S128x4x1024, .f32⟩
  | .hbm, ⟨54, _⟩ => ⟨S128x4x1024, .f32⟩
  | .hbm, ⟨55, _⟩ => ⟨S128x4x1x1024, .f32⟩
  | .hbm, ⟨56, _⟩ => ⟨S128x4x1x1024, .f32⟩
  | .hbm, ⟨57, _⟩ => ⟨S128x4x1x1024, .f32⟩
  | .hbm, ⟨58, _⟩ => ⟨S128x4x3x1024, .f32⟩
  | .hbm, ⟨59, _⟩ => ⟨S3x2048x128x4, .f32⟩
  | .hbm, ⟨60, _⟩ => ⟨S128x4x3x2048, .f32⟩
  | .hbm, ⟨61, _⟩ => ⟨S128x4x3x2048, .f32⟩
  | .hbm, ⟨62, _⟩ => ⟨S128x4x3x2048, .f32⟩
  | .hbm, ⟨63, _⟩ => ⟨S128x4x3x2048, .f32⟩
  | .hbm, ⟨64, _⟩ => ⟨S_, .f32⟩
  | .hbm, ⟨65, _⟩ => ⟨S128x4x3x2048, .f32⟩
  | .hbm, ⟨66, _⟩ => ⟨S128x4x3x2048, .f32⟩
  | .hbm, ⟨67, _⟩ => ⟨S_, .f32⟩
  | .hbm, ⟨68, _⟩ => ⟨S128x4x3x2048, .f32⟩
  | .hbm, ⟨69, _⟩ => ⟨S128x4x3x2048, .f32⟩
  | .hbm, ⟨70, _⟩ => ⟨S128x4x3x2048, .f32⟩
  | .hbm, ⟨71, _⟩ => ⟨S_, .f32⟩
  | .hbm, ⟨72, _⟩ => ⟨S128x4x2048, .f32⟩
  | .hbm, ⟨73, _⟩ => ⟨S128x4x2048, .f32⟩
  | .hbm, ⟨74, _⟩ => ⟨S_, .f32⟩
  | .hbm, ⟨75, _⟩ => ⟨S128x4x2048, .f32⟩
  | .hbm, ⟨76, _⟩ => ⟨S128x4x2048, .f32⟩
  | .hbm, ⟨77, _⟩ => ⟨S128x4x2048, .f32⟩
  | .hbm, ⟨78, _⟩ => ⟨S_, .f32⟩
  | .hbm, ⟨79, _⟩ => ⟨S128x4, .f32⟩
  | .hbm, ⟨80, _⟩ => ⟨S128x4x1, .f32⟩
  | .hbm, ⟨81, _⟩ => ⟨S_, .f32⟩
  | .hbm, ⟨82, _⟩ => ⟨S128x4x1, .f32⟩
  | .hbm, ⟨83, _⟩ => ⟨S128x4x1, .f32⟩
  | .hbm, ⟨84, _⟩ => ⟨S128x4x2048, .f32⟩
  | .hbm, ⟨85, _⟩ => ⟨S128x4x2048, .f32⟩
  | .hbm, ⟨86, _⟩ => ⟨S128x4x2048, .f32⟩
  | .hbm, ⟨87, _⟩ => ⟨S_, .f32⟩
  | .hbm, ⟨88, _⟩ => ⟨S128x4, .f32⟩
  | .hbm, ⟨89, _⟩ => ⟨S128x4x1, .f32⟩
  | .hbm, ⟨90, _⟩ => ⟨S_, .f32⟩
  | .hbm, ⟨91, _⟩ => ⟨S128x4x1, .f32⟩
  | .hbm, ⟨92, _⟩ => ⟨S128x4x1, .f32⟩
  | .hbm, ⟨93, _⟩ => ⟨S_, .f32⟩
  | .hbm, ⟨94, _⟩ => ⟨S128x4x1, .f32⟩
  | .hbm, ⟨95, _⟩ => ⟨S128x4x1, .f32⟩
  | .hbm, ⟨96, _⟩ => ⟨S128x4x1, .f32⟩
  | .hbm, ⟨97, _⟩ => ⟨S128x4x2048, .f32⟩
  | .hbm, ⟨98, _⟩ => ⟨S128x4x2048, .f32⟩
  | .hbm, ⟨99, _⟩ => ⟨S1x1x2048, .f32⟩
  | .hbm, ⟨100, _⟩ => ⟨S128x4x2048, .f32⟩
  | .hbm, ⟨101, _⟩ => ⟨S128x4x2048, .f32⟩
  | .hbm, ⟨102, _⟩ => ⟨S1x1x2048, .f32⟩
  | .hbm, ⟨103, _⟩ => ⟨S128x4x2048, .f32⟩
  | .hbm, ⟨104, _⟩ => ⟨S128x4x2048, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v18 : Ref sig .tc := ⟨.hbm, 43, rfl⟩
abbrev main_v19 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst : Ref sig .tc := ⟨.hbm, 64, rfl⟩
abbrev main_v31 : Ref sig .tc := ⟨.hbm, 65, rfl⟩
abbrev main_v32 : Ref sig .tc := ⟨.hbm, 66, rfl⟩
abbrev main_cst_0 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_1 : Ref sig .tc := ⟨.hbm, 71, rfl⟩
abbrev main_v36 : Ref sig .tc := ⟨.hbm, 72, rfl⟩
abbrev main_v37 : Ref sig .tc := ⟨.hbm, 73, rfl⟩
abbrev main_cst_2 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_3 : Ref sig .tc := ⟨.hbm, 78, rfl⟩
abbrev main_v41 : Ref sig .tc := ⟨.hbm, 79, rfl⟩
abbrev main_v42 : Ref sig .tc := ⟨.hbm, 80, rfl⟩
abbrev main_cst_4 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_5 : Ref sig .tc := ⟨.hbm, 87, rfl⟩
abbrev main_v48 : Ref sig .tc := ⟨.hbm, 88, rfl⟩
abbrev main_v49 : Ref sig .tc := ⟨.hbm, 89, rfl⟩
abbrev main_cst_6 : Ref sig .tc := ⟨.hbm, 90, rfl⟩
abbrev main_v50 : Ref sig .tc := ⟨.hbm, 91, rfl⟩
abbrev main_v51 : Ref sig .tc := ⟨.hbm, 92, rfl⟩
abbrev main_cst_7 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩

abbrev nD : Nat := 1
abbrev τ : Topo := Topo.v7x

variable {F : FTy → Type} [FloatOps F]
-- ==== Kernel6.lean ====
abbrev S8192x18344 : Shape := ⟨2, ![8192, 18344]⟩
abbrev S8192x1024 : Shape := ⟨2, ![8192, 1024]⟩
abbrev S4x2x2048x128 : Shape := ⟨4, ![4, 2, 2048, 128]⟩
abbrev S8 : Shape := ⟨1, ![8]⟩
abbrev S8192x6144 : Shape := ⟨2, ![8192, 6144]⟩
abbrev S8192x2048 : Shape := ⟨2, ![8192, 2048]⟩
abbrev S8192x1536 : Shape := ⟨2, ![8192, 1536]⟩
abbrev S8192x256 : Shape := ⟨2, ![8192, 256]⟩
abbrev S8192x128 : Shape := ⟨2, ![8192, 128]⟩
abbrev S8192x24 : Shape := ⟨2, ![8192, 24]⟩
abbrev S8192x16 : Shape := ⟨2, ![8192, 16]⟩
abbrev S_ : Shape := ⟨0, ![]⟩
abbrev S8192x88 : Shape := ⟨2, ![8192, 88]⟩
abbrev S8192x18432 : Shape := ⟨2, ![8192, 18432]⟩
abbrev S256x128 : Shape := ⟨2, ![256, 128]⟩
abbrev S1x1x256x128 : Shape := ⟨4, ![1, 1, 256, 128]⟩
abbrev S2048x128 : Shape := ⟨2, ![2048, 128]⟩
abbrev S1 : Shape := ⟨1, ![1]⟩
abbrev S256x1 : Shape := ⟨2, ![256, 1]⟩
abbrev S128x256 : Shape := ⟨2, ![128, 256]⟩
abbrev S256x256 : Shape := ⟨2, ![256, 256]⟩
abbrev S1x256 : Shape := ⟨2, ![1, 256]⟩
abbrev S256 : Shape := ⟨1, ![256]⟩
abbrev S128x512 : Shape := ⟨2, ![128, 512]⟩
abbrev S256x512 : Shape := ⟨2, ![256, 512]⟩
abbrev S1x512 : Shape := ⟨2, ![1, 512]⟩
abbrev S512x128 : Shape := ⟨2, ![512, 128]⟩
abbrev S128x768 : Shape := ⟨2, ![128, 768]⟩
abbrev S256x768 : Shape := ⟨2, ![256, 768]⟩
abbrev S1x768 : Shape := ⟨2, ![1, 768]⟩
abbrev S768x128 : Shape := ⟨2, ![768, 128]⟩
abbrev S128x1024 : Shape := ⟨2, ![128, 1024]⟩
abbrev S256x1024 : Shape := ⟨2, ![256, 1024]⟩
abbrev S1x1024 : Shape := ⟨2, ![1, 1024]⟩
abbrev S1024x128 : Shape := ⟨2, ![1024, 128]⟩
abbrev S128x1280 : Shape := ⟨2, ![128, 1280]⟩
abbrev S256x1280 : Shape := ⟨2, ![256, 1280]⟩
abbrev S1x1280 : Shape := ⟨2, ![1, 1280]⟩
abbrev S1280x128 : Shape := ⟨2, ![1280, 128]⟩
abbrev S128x1536 : Shape := ⟨2, ![128, 1536]⟩
abbrev S256x1536 : Shape := ⟨2, ![256, 1536]⟩
abbrev S1x1536 : Shape := ⟨2, ![1, 1536]⟩
abbrev S1536x128 : Shape := ⟨2, ![1536, 128]⟩
abbrev S128x1792 : Shape := ⟨2, ![128, 1792]⟩
abbrev S256x1792 : Shape := ⟨2, ![256, 1792]⟩
abbrev S1x1792 : Shape := ⟨2, ![1, 1792]⟩
abbrev S1792x128 : Shape := ⟨2, ![1792, 128]⟩
abbrev S128x2048 : Shape := ⟨2, ![128, 2048]⟩
abbrev S256x2048 : Shape := ⟨2, ![256, 2048]⟩
abbrev S1x2048 : Shape := ⟨2, ![1, 2048]⟩

abbrev nBuf : Space → Nat
  | .hbm => 23
  | .vmem => 18
  | .smem => 1
  | _ => 0

abbrev bufTy : (tb : Table) → Fin (tcTables nBuf tb) → BufTy
  | .hbm, ⟨0, _⟩ => ⟨S8192x18344, .f32⟩
  | .hbm, ⟨1, _⟩ => ⟨S8192x1024, .f32⟩
  | .hbm, ⟨2, _⟩ => ⟨S4x2x2048x128, .f32⟩
  | .hbm, ⟨3, _⟩ => ⟨S8, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x6144, .f32⟩
  | .hbm, ⟨11, _⟩ => ⟨S8192x2048, .f32⟩
  | .hbm, ⟨12, _⟩ => ⟨S8192x1024, .f32⟩
  | .hbm, ⟨13, _⟩ => ⟨S8192x1024, .f32⟩
  | .hbm, ⟨14, _⟩ => ⟨S8192x1536, .f32⟩
  | .hbm, ⟨15, _⟩ => ⟨S8192x256, .f32⟩
  | .hbm, ⟨16, _⟩ => ⟨S8192x128, .f32⟩
  | .hbm, ⟨17, _⟩ => ⟨S8192x24, .f32⟩
  | .hbm, ⟨18, _⟩ => ⟨S8192x16, .f32⟩
  | .hbm, ⟨19, _⟩ => ⟨S_, .f32⟩
  | .hbm, ⟨20, _⟩ => ⟨S8192x88, .f32⟩
  | .hbm, ⟨21, _⟩ => ⟨S8192x18432, .f32⟩
  | .hbm, ⟨22, _⟩ => ⟨S8192x1024, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x1x256x128, .f32⟩
  | .local _ .vmem, ⟨7, _⟩ => ⟨S1x1x256x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S256x128, .f32⟩
  | .local _ .vmem, ⟨17, _⟩ => ⟨S256x128, .f32⟩
  | .local _ .smem, ⟨0, _⟩ => ⟨S8, .f32⟩
  | _, _ => ⟨S8192x18344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 8, 8], ![false, false, false]⟩

def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_0 : BitVec 32 := 0#32
  let v4 : BitVec 1 := Scalar.cmpi .ne v3 c0_i32_0
  v4

def k0_cond2 (i : grid0.Coords) : BitVec 1 :=
  let arg2 : BitVec 32 := BitVec.ofNat 32 (i 2).val
  let c1_i32 : BitVec 32 := 1#32
  let v5 : BitVec 1 := Scalar.cmpi .eq arg2 c1_i32
  let v6 : BitVec 32 := Scalar.extui v5
  let c0_i32_1 : BitVec 32 := 0#32
  let v7 : BitVec 1 := Scalar.cmpi .ne v6 c0_i32_1
  v7

def k0_cond3 (i : grid0.Coords) : BitVec 1 :=
  let arg2 : BitVec 32 := BitVec.ofNat 32 (i 2).val
  let c2_i32 : BitVec 32 := 2#32
  let v8 : BitVec 1 := Scalar.cmpi .eq arg2 c2_i32
  let v9 : BitVec 32 := Scalar.extui v8
  let c0_i32_2 : BitVec 32 := 0#32
  let v10 : BitVec 1 := Scalar.cmpi .ne v9 c0_i32_2
  v10

def k0_cond4 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_3 : BitVec 32 := 0#32
  let v13 : BitVec 1 := Scalar.cmpi .ne v12 c0_i32_3
  v13

def k0_cond5 (i : grid0.Coords) : BitVec 1 :=
  let arg2 : BitVec 32 := BitVec.ofNat 32 (i 2).val
  let c4_i32 : BitVec 32 := 4#32
  let v14 : BitVec 1 := Scalar.cmpi .eq arg2 c4_i32
  let v15 : BitVec 32 := Scalar.extui v14
  let c0_i32_4 : BitVec 32 := 0#32
  let v16 : BitVec 1 := Scalar.cmpi .ne v15 c0_i32_4
  v16

def k0_cond6 (i : grid0.Coords) : BitVec 1 :=
  let arg2 : BitVec 32 := BitVec.ofNat 32 (i 2).val
  let c5_i32 : BitVec 32 := 5#32
  let v17 : BitVec 1 := Scalar.cmpi .eq arg2 c5_i32
  let v18 : BitVec 32 := Scalar.extui v17
  let c0_i32_5 : BitVec 32 := 0#32
  let v19 : BitVec 1 := Scalar.cmpi .ne v18 c0_i32_5
  v19

def k0_cond7 (i : grid0.Coords) : BitVec 1 :=
  let arg2 : BitVec 32 := BitVec.ofNat 32 (i 2).val
  let c6_i32 : BitVec 32 := 6#32
  let v20 : BitVec 1 := Scalar.cmpi .eq arg2 c6_i32
  let v21 : BitVec 32 := Scalar.extui v20
  let c0_i32_6 : BitVec 32 := 0#32
  let v22 : BitVec 1 := Scalar.cmpi .ne v21 c0_i32_6
  v22

def k0_cond8 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_7 : BitVec 32 := 0#32
  let v25 : BitVec 1 := Scalar.cmpi .ne v24 c0_i32_7
  v25

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c143_i32 : BitVec 32 := 143#32
  let c0_i32 : BitVec 32 := 0#32
  ![v1.toNat, c143_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, arg2.toNat, c0_i32_4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c132_i32 : BitVec 32 := 132#32
  let v17 : BitVec 32 := Scalar.addi c132_i32 v16
  let c0_i32_4 : BitVec 32 := 0#32
  ![arg0.toNat, v17.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c134_i32 : BitVec 32 := 134#32
  let v17 : BitVec 32 := Scalar.addi c134_i32 v16
  let c0_i32_4 : BitVec 32 := 0#32
  ![arg0.toNat, v17.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c136_i32 : BitVec 32 := 136#32
  let v17 : BitVec 32 := Scalar.addi c136_i32 v16
  let c0_i32_4 : BitVec 32 := 0#32
  ![arg0.toNat, v17.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c138_i32 : BitVec 32 := 138#32
  let v17 : BitVec 32 := Scalar.addi c138_i32 v16
  let c0_i32_4 : BitVec 32 := 0#32
  ![arg0.toNat, v17.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== Reference6Ideal.lean ====
abbrev S8192x18344 : Shape := ⟨2, ![8192, 18344]⟩
abbrev S8192x1024 : Shape := ⟨2, ![8192, 1024]⟩
abbrev S4x2x2048x128 : Shape := ⟨4, ![4, 2, 2048, 128]⟩
abbrev S8 : Shape := ⟨1, ![8]⟩
abbrev S4x2048x2x4x128 : Shape := ⟨5, ![4, 2048, 2, 4, 128]⟩
abbrev S8192x1536 : Shape := ⟨2, ![8192, 1536]⟩
abbrev S4x2048x6x2x128 : Shape := ⟨5, ![4, 2048, 6, 2, 128]⟩
abbrev S8192x24 : Shape := ⟨2, ![8192, 24]⟩
abbrev S4x2048x2x4x3 : Shape := ⟨5, ![4, 2048, 2, 4, 3]⟩
abbrev S2048 : Shape := ⟨1, ![2048]⟩
abbrev S2x4 : Shape := ⟨2, ![2, 4]⟩
abbrev S2048x1 : Shape := ⟨2, ![2048, 1]⟩
abbrev S1x2048 : Shape := ⟨2, ![1, 2048]⟩
abbrev S2048x2048 : Shape := ⟨2, ![2048, 2048]⟩
abbrev S2x4x1x1 : Shape := ⟨4, ![2, 4, 1, 1]⟩
abbrev S1x1x2048x2048 : Shape := ⟨4, ![1, 1, 2048, 2048]⟩
abbrev S2x4x2048x2048 : Shape := ⟨4, ![2, 4, 2048, 2048]⟩
abbrev S4x2x2048x32 : Shape := ⟨4, ![4, 2, 2048, 32]⟩
abbrev S_ : Shape := ⟨0, ![]⟩
abbrev S4x2x2048x32x64 : Shape := ⟨5, ![4, 2, 2048, 32, 64]⟩
abbrev S4x2x2048x2048 : Shape := ⟨4, ![4, 2, 2048, 2048]⟩
abbrev S4x2048x1x2x128 : Shape := ⟨5, ![4, 2048, 1, 2, 128]⟩
abbrev S4x2048x2x128 : Shape := ⟨4, ![4, 2048, 2, 128]⟩
abbrev S4x2x2048x2048x4 : Shape := ⟨5, ![4, 2, 2048, 2048, 4]⟩
abbrev S4x2x4x2048x2048 : Shape := ⟨5, ![4, 2, 4, 2048, 2048]⟩
abbrev S1x2x4x2048x2048 : Shape := ⟨5, ![1, 2, 4, 2048, 2048]⟩
abbrev S4x2x1x2048x2048 : Shape := ⟨5, ![4, 2, 1, 2048, 2048]⟩
abbrev S1x1x1x2048x2048 : Shape := ⟨5, ![1, 1, 1, 2048, 2048]⟩
abbrev S4x2x4x2048 : Shape := ⟨4, ![4, 2, 4, 2048]⟩
abbrev S4x2x4x2048x1 : Shape := ⟨5, ![4, 2, 4, 2048, 1]⟩
abbrev S4x2x128x4x2048 : Shape := ⟨5, ![4, 2, 128, 4, 2048]⟩
abbrev S4x2048x2x4x1 : Shape := ⟨5, ![4, 2048, 2, 4, 1]⟩
abbrev S4x2048x2x4 : Shape := ⟨4, ![4, 2048, 2, 4]⟩

abbrev nBuf : Space → Nat
  | .hbm => 154
  | .vmem => 0
  | .smem => 0
  | _ => 0

abbrev hbmTy0_0 (i : Nat) : BufTy := match i % 128 with
  | 0 => ⟨S8192x18344, .f32⟩
  | 1 => ⟨S8192x1024, .f32⟩
  | 2 => ⟨S4x2x2048x128, .f32⟩
  | 3 => ⟨S8, .f32⟩
  | 4 => ⟨S8192x1024, .f32⟩
  | 5 => ⟨S4x2048x2x4x128, .f32⟩
  | 6 => ⟨S8192x1536, .f32⟩
  | 7 => ⟨S4x2048x6x2x128, .f32⟩
  | 8 => ⟨S8192x24, .f32⟩
  | 9 => ⟨S4x2048x2x4x3, .f32⟩
  | 10 => ⟨S2048, .i32⟩
  | 11 => ⟨S2x4, .f32⟩
  | 12 => ⟨S2048x1, .i32⟩
  | 13 => ⟨S1x2048, .i32⟩
  | 14 => ⟨S2048x2048, .i32⟩
  | 15 => ⟨S2048x2048, .i32⟩
  | 16 => ⟨S2048x2048, .i32⟩
  | 17 => ⟨S2x4x1x1, .f32⟩
  | 18 => ⟨S2048x2048, .f32⟩
  | 19 => ⟨S1x1x2048x2048, .f32⟩
  | 20 => ⟨S2x4x2048x2048, .f32⟩
  | 21 => ⟨S2x4x2048x2048, .f32⟩
  | 22 => ⟨S2x4x2048x2048, .f32⟩
  | 23 => ⟨S4x2x2048x32, .f32⟩
  | 24 => ⟨S_, .f32⟩
  | 25 => ⟨S4x2x2048x32, .f32⟩
  | 26 => ⟨S4x2x2048x32, .i1⟩
  | 27 => ⟨S4x2x2048x32x64, .i1⟩
  | 28 => ⟨S4x2x2048x2048, .i1⟩
  | 29 => ⟨S4x2048x1x2x128, .f32⟩
  | 30 => ⟨S4x2048x2x128, .f32⟩
  | 31 => ⟨S4x2x2048x2048x4, .f32⟩
  | 32 => ⟨S4x2x4x2048x2048, .f32⟩
  | 33 => ⟨S_, .f32⟩
  | 34 => ⟨S4x2x4x2048x2048, .f32⟩
  | 35 => ⟨S4x2x4x2048x2048, .f32⟩
  | 36 => ⟨S1x2x4x2048x2048, .f32⟩
  | 37 => ⟨S4x2x4x2048x2048, .f32⟩
  | 38 => ⟨S4x2x4x2048x2048, .f32⟩
  | 39 => ⟨S4x2x1x2048x2048, .i1⟩
  | 40 => ⟨S_, .i32⟩
  | 41 => ⟨S2048x2048, .i32⟩
  | 42 => ⟨S2048x2048, .i1⟩
  | 43 => ⟨S1x1x1x2048x2048, .i1⟩
  | 44 => ⟨S4x2x1x2048x2048, .i1⟩
  | 45 => ⟨S4x2x1x2048x2048, .i1⟩
  | 46 => ⟨S4x2x4x2048x2048, .i1⟩
  | 47 => ⟨S_, .f32⟩
  | 48 => ⟨S4x2x4x2048x2048, .f32⟩
  | 49 => ⟨S4x2x4x2048x2048, .f32⟩
  | 50 => ⟨S_, .f32⟩
  | 51 => ⟨S4x2x4x2048, .f32⟩
  | 52 => ⟨S4x2x4x2048x1, .f32⟩
  | 53 => ⟨S4x2x4x2048x1, .f32⟩
  | 54 => ⟨S_, .f32⟩
  | 55 => ⟨S4x2x4x2048x1, .f32⟩
  | 56 => ⟨S4x2x4x2048x1, .i1⟩
  | 57 => ⟨S_, .f32⟩
  | 58 => ⟨S4x2x4x2048x1, .f32⟩
  | 59 => ⟨S4x2x4x2048x1, .f32⟩
  | 60 => ⟨S4x2x4x2048x2048, .f32⟩
  | 61 => ⟨S4x2x4x2048x2048, .f32⟩
  | 62 => ⟨S4x2x4x2048x2048, .f32⟩
  | 63 => ⟨S_, .f32⟩
  | 64 => ⟨S4x2x4x2048x2048, .f32⟩
  | 65 => ⟨S4x2x4x2048x2048, .f32⟩
  | 66 => ⟨S_, .f32⟩
  | 67 => ⟨S4x2x4x2048, .f32⟩
  | 68 => ⟨S4x2x4x2048x1, .f32⟩
  | 69 => ⟨S_, .f32⟩
  | 70 => ⟨S4x2x4x2048x1, .f32⟩
  | 71 => ⟨S4x2x4x2048x1, .f32⟩
  | 72 => ⟨S4x2x4x2048x2048, .f32⟩
  | 73 => ⟨S4x2x4x2048x2048, .f32⟩
  | 74 => ⟨S4x2048x1x2x128, .f32⟩
  | 75 => ⟨S4x2048x2x128, .f32⟩
  | 76 => ⟨S4x2x128x4x2048, .f32⟩
  | 77 => ⟨S4x2048x2x4x128, .f32⟩
  | 78 => ⟨S4x2048x1x2x128, .f32⟩
  | 79 => ⟨S4x2048x2x128, .f32⟩
  | 80 => ⟨S4x2x2048x2048x4, .f32⟩
  | 81 => ⟨S4x2x4x2048x2048, .f32⟩
  | 82 => ⟨S_, .f32⟩
  | 83 => ⟨S4x2x4x2048x2048, .f32⟩
  | 84 => ⟨S4x2x4x2048x2048, .f32⟩
  | 85 => ⟨S1x2x4x2048x2048, .f32⟩
  | 86 => ⟨S4x2x4x2048x2048, .f32⟩
  | 87 => ⟨S4x2x4x2048x2048, .f32⟩
  | 88 => ⟨S_, .i32⟩
  | 89 => ⟨S2048x2048, .i32⟩
  | 90 => ⟨S2048x2048, .i1⟩
  | 91 => ⟨S_, .i32⟩
  | 92 => ⟨S2048x2048, .i32⟩
  | 93 => ⟨S2048x2048, .i1⟩
  | 94 => ⟨S2048x2048, .i1⟩
  | 95 => ⟨S4x2x4x2048x2048, .i1⟩
  | 96 => ⟨S_, .f32⟩
  | 97 => ⟨S4x2x4x2048x2048, .f32⟩
  | 98 => ⟨S4x2x4x2048x2048, .f32⟩
  | 99 => ⟨S_, .f32⟩
  | 100 => ⟨S4x2x4x2048, .f32⟩
  | 101 => ⟨S4x2x4x2048x1, .f32⟩
  | 102 => ⟨S4x2x4x2048x1, .f32⟩
  | 103 => ⟨S_, .f32⟩
  | 104 => ⟨S4x2x4x2048x1, .f32⟩
  | 105 => ⟨S4x2x4x2048x1, .i1⟩
  | 106 => ⟨S_, .f32⟩
  | 107 => ⟨S4x2x4x2048x1, .f32⟩
  | 108 => ⟨S4x2x4x2048x1, .f32⟩
  | 109 => ⟨S4x2x4x2048x2048, .f32⟩
  | 110 => ⟨S4x2x4x2048x2048, .f32⟩
  | 111 => ⟨S4x2x4x2048x2048, .f32⟩
  | 112 => ⟨S_, .f32⟩
  | 113 => ⟨S4x2x4x2048x2048, .f32⟩
  | 114 => ⟨S4x2x4x2048x2048, .f32⟩
  | 115 => ⟨S_, .f32⟩
  | 116 => ⟨S4x2x4x2048, .f32⟩
  | 117 => ⟨S4x2x4x2048x1, .f32⟩
  | 118 => ⟨S_, .f32⟩
  | 119 => ⟨S4x2x4x2048x1, .f32⟩
  | 120 => ⟨S4x2x4x2048x1, .f32⟩
  | 121 => ⟨S4x2x4x2048x2048, .f32⟩
  | 122 => ⟨S4x2x4x2048x2048, .f32⟩
  | 123 => ⟨S4x2048x1x2x128, .f32⟩
  | 124 => ⟨S4x2048x2x128, .f32⟩
  | 125 => ⟨S4x2x128x4x2048, .f32⟩
  | 126 => ⟨S4x2048x2x4x128, .f32⟩
  | 127 => ⟨S4x2048x2x4x3, .f32⟩
  | _ => ⟨S8192x18344, .f32⟩

abbrev hbmTy0_1 (i : Nat) : BufTy := match i % 128 with
  | 0 => ⟨S4x2048x2x4x3, .f32⟩
  | 1 => ⟨S_, .f32⟩
  | 2 => ⟨S4x2048x2x4x3, .f32⟩
  | 3 => ⟨S4x2048x2x4x3, .f32⟩
  | 4 => ⟨S_, .f32⟩
  | 5 => ⟨S4x2048x2x4x3, .f32⟩
  | 6 => ⟨S4x2048x2x4x3, .f32⟩
  | 7 => ⟨S4x2048x2x4x1, .f32⟩
  | 8 => ⟨S4x2048x2x4, .f32⟩
  | 9 => ⟨S4x2048x2x4x1, .f32⟩
  | 10 => ⟨S4x2048x2x4x128, .f32⟩
  | 11 => ⟨S4x2048x2x4x128, .f32⟩
  | 12 => ⟨S4x2048x2x4x128, .f32⟩
  | 13 => ⟨S4x2048x2x4x1, .f32⟩
  | 14 => ⟨S4x2048x2x4, .f32⟩
  | 15 => ⟨S4x2048x2x4x1, .f32⟩
  | 16 => ⟨S4x2048x2x4x128, .f32⟩
  | 17 => ⟨S4x2048x2x4x128, .f32⟩
  | 18 => ⟨S4x2048x2x4x128, .f32⟩
  | 19 => ⟨S4x2048x2x4x1, .f32⟩
  | 20 => ⟨S4x2048x2x4, .f32⟩
  | 21 => ⟨S4x2048x2x4x1, .f32⟩
  | 22 => ⟨S4x2048x2x4x128, .f32⟩
  | 23 => ⟨S4x2048x2x4x128, .f32⟩
  | 24 => ⟨S4x2048x2x4x128, .f32⟩
  | 25 => ⟨S8192x1024, .f32⟩
  | _ => ⟨S8192x18344, .f32⟩

abbrev hbmTy (i : Nat) : BufTy := match i / 128 with
  | 0 => hbmTy0_0 i
  | 1 => hbmTy0_1 i
  | _ => ⟨S8192x18344, .f32⟩

abbrev bufTy : (tb : Table) → Fin (tcTables nBuf tb) → BufTy
  | .hbm, ⟨i, _⟩ => hbmTy i
  | _, _ => ⟨S8192x18344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_9 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_c_10 : Ref sig .tc := ⟨.hbm, 88, rfl⟩
abbrev main_v73 : Ref sig .tc := ⟨.hbm, 89, rfl⟩
abbrev main_v74 : Ref sig .tc := ⟨.hbm, 90, rfl⟩
abbrev main_c_11 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_12 : Ref sig .tc := ⟨.hbm, 96, rfl⟩
abbrev main_v79 : Ref sig .tc := ⟨.hbm, 97, rfl⟩
abbrev main_v80 : Ref sig .tc := ⟨.hbm, 98, rfl⟩
abbrev main_cst_13 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_14 : Ref sig .tc := ⟨.hbm, 103, rfl⟩
abbrev main_v84 : Ref sig .tc := ⟨.hbm, 104, rfl⟩
abbrev main_v85 : Ref sig .tc := ⟨.hbm, 105, rfl⟩
abbrev main_cst_15 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_16 : Ref sig .tc := ⟨.hbm, 112, rfl⟩
abbrev main_v91 : Ref sig .tc := ⟨.hbm, 113, rfl⟩
abbrev main_v92 : Ref sig .tc := ⟨.hbm, 114, rfl⟩
abbrev main_cst_17 : Ref sig .tc := ⟨.hbm, 115, rfl⟩
abbrev main_v93 : Ref sig .tc := ⟨.hbm, 116, rfl⟩
abbrev main_v94 : Ref sig .tc := ⟨.hbm, 117, rfl⟩
abbrev main_cst_18 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_19 : Ref sig .tc := ⟨.hbm, 129, rfl⟩
abbrev main_v105 : Ref sig .tc := ⟨.hbm, 130, rfl⟩
abbrev main_v106 : Ref sig .tc := ⟨.hbm, 131, rfl⟩
abbrev main_cst_20 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩

abbrev nD : Nat := 1
abbrev τ : Topo := Topo.v7x

variable {F : FTy → Type} [FloatOps F]
-- ==== Kernel7.lean ====
abbrev S8192x18344 : Shape := ⟨2, ![8192, 18344]⟩
abbrev S2x32x128x128 : Shape := ⟨4, ![2, 32, 128, 128]⟩
abbrev S2x32x128 : Shape := ⟨3, ![2, 32, 128]⟩
abbrev S8192x1024 : Shape := ⟨2, ![8192, 1024]⟩
abbrev S8192x6144 : Shape := ⟨2, ![8192, 6144]⟩
abbrev S8192x2048 : Shape := ⟨2, ![8192, 2048]⟩
abbrev S8192x1536 : Shape := ⟨2, ![8192, 1536]⟩
abbrev S8192x256 : Shape := ⟨2, ![8192, 256]⟩
abbrev S8192x128 : Shape := ⟨2, ![8192, 128]⟩
abbrev S8192x24 : Shape := ⟨2, ![8192, 24]⟩
abbrev S8192x16 : Shape := ⟨2, ![8192, 16]⟩
abbrev S_ : Shape := ⟨0, ![]⟩
abbrev S8192x88 : Shape := ⟨2, ![8192, 88]⟩
abbrev S8192x18432 : Shape := ⟨2, ![8192, 18432]⟩
abbrev S2x2x2048x128 : Shape := ⟨4, ![2, 2, 2048, 128]⟩
abbrev S2x2x1x2048 : Shape := ⟨4, ![2, 2, 1, 2048]⟩
abbrev S4x4x128x128 : Shape := ⟨4, ![4, 4, 128, 128]⟩
abbrev S2048x128 : Shape := ⟨2, ![2048, 128]⟩
abbrev S1x2x1x2048 : Shape := ⟨4, ![1, 2, 1, 2048]⟩
abbrev S1x2x2048x128 : Shape := ⟨4, ![1, 2, 2048, 128]⟩
abbrev S1x1x128x128 : Shape := ⟨4, ![1, 1, 128, 128]⟩
abbrev S128x128 : Shape := ⟨2, ![128, 128]⟩
abbrev S128x2048 : Shape := ⟨2, ![128, 2048]⟩
abbrev S1x1x1x2048 : Shape := ⟨4, ![1, 1, 1, 2048]⟩
abbrev S1x2048 : Shape := ⟨2, ![1, 2048]⟩
abbrev S1x1x2048x128 : Shape := ⟨4, ![1, 1, 2048, 128]⟩
abbrev S4x4x127x128 : Shape := ⟨4, ![4, 4, 127, 128]⟩

abbrev nBuf : Space → Nat
  | .hbm => 26
  | .vmem => 8
  | .smem => 0
  | _ => 0

abbrev bufTy : (tb : Table) → Fin (tcTables nBuf tb) → BufTy
  | .hbm, ⟨0, _⟩ => ⟨S8192x18344, .f32⟩
  | .hbm, ⟨1, _⟩ => ⟨S2x32x128x128, .f32⟩
  | .hbm, ⟨2, _⟩ => ⟨S2x32x128, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x6144, .f32⟩
  | .hbm, ⟨10, _⟩ => ⟨S8192x2048, .f32⟩
  | .hbm, ⟨11, _⟩ => ⟨S8192x1024, .f32⟩
  | .hbm, ⟨12, _⟩ => ⟨S8192x1024, .f32⟩
  | .hbm, ⟨13, _⟩ => ⟨S8192x1536, .f32⟩
  | .hbm, ⟨14, _⟩ => ⟨S8192x256, .f32⟩
  | .hbm, ⟨15, _⟩ => ⟨S8192x128, .f32⟩
  | .hbm, ⟨16, _⟩ => ⟨S8192x24, .f32⟩
  | .hbm, ⟨17, _⟩ => ⟨S8192x16, .f32⟩
  | .hbm, ⟨18, _⟩ => ⟨S_, .f32⟩
  | .hbm, ⟨19, _⟩ => ⟨S8192x88, .f32⟩
  | .hbm, ⟨20, _⟩ => ⟨S8192x18432, .f32⟩
  | .hbm, ⟨21, _⟩ => ⟨S2x2x2048x128, .f32⟩
  | .hbm, ⟨22, _⟩ => ⟨S2x2x2048x128, .bf16⟩
  | .hbm, ⟨23, _⟩ => ⟨S2x2x1x2048, .f32⟩
  | .hbm, ⟨24, _⟩ => ⟨S4x4x128x128, .f32⟩
  | .hbm, ⟨25, _⟩ => ⟨S4x4x127x128, .f32⟩
  | .local _ .vmem, ⟨0, _⟩ => ⟨S2048x128, .f32⟩
  | .local _ .vmem, ⟨1, _⟩ => ⟨S2048x128, .f32⟩
  | .local _ .vmem, ⟨2, _⟩ => ⟨S1x2x1x2048, .f32⟩
  | .local _ .vmem, ⟨3, _⟩ => ⟨S1x2x1x2048, .f32⟩
  | .local _ .vmem, ⟨4, _⟩ => ⟨S1x2x2048x128, .bf16⟩
  | .local _ .vmem, ⟨5, _⟩ => ⟨S1x2x2048x128, .bf16⟩
  | .local _ .vmem, ⟨6, _⟩ => ⟨S1x1x128x128, .f32⟩
  | .local _ .vmem, ⟨7, _⟩ => ⟨S1x1x128x128, .f32⟩
  | _, _ => ⟨S8192x18344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  ![arg0.toNat, v0.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8192x18344 : Shape := ⟨2, ![8192, 18344]⟩
abbrev S2x32x128x128 : Shape := ⟨4, ![2, 32, 128, 128]⟩
abbrev S2x32x128 : Shape := ⟨3, ![2, 32, 128]⟩
abbrev S8192x512 : Shape := ⟨2, ![8192, 512]⟩
abbrev S4x128x16x2x2x128 : Shape := ⟨6, ![4, 128, 16, 2, 2, 128]⟩
abbrev S32x2x128 : Shape := ⟨3, ![32, 2, 128]⟩
abbrev S32x2x1x128 : Shape := ⟨4, ![32, 2, 1, 128]⟩
abbrev S4x127x16x2x2x128 : Shape := ⟨6, ![4, 127, 16, 2, 2, 128]⟩
abbrev S16x2x1x128 : Shape := ⟨4, ![16, 2, 1, 128]⟩
abbrev S1x1x16x2x1x128 : Shape := ⟨6, ![1, 1, 16, 2, 1, 128]⟩
abbrev S2x16x128x128 : Shape := ⟨4, ![2, 16, 128, 128]⟩
abbrev S2x128x4x127x2 : Shape := ⟨5, ![2, 128, 4, 127, 2]⟩
abbrev S4x127x2x2x128 : Shape := ⟨5, ![4, 127, 2, 2, 128]⟩
abbrev S4x2x2x127x128 : Shape := ⟨5, ![4, 2, 2, 127, 128]⟩
abbrev S4x4x127x128 : Shape := ⟨4, ![4, 4, 127, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x18344, .f32⟩
  | .hbm, ⟨1, _⟩ => ⟨S2x32x128x128, .f32⟩
  | .hbm, ⟨2, _⟩ => ⟨S2x32x128, .f32⟩
  | .hbm, ⟨3, _⟩ => ⟨S8192x512, .f32⟩
  | .hbm, ⟨4, _⟩ => ⟨S4x128x16x2x2x128, .f32⟩
  | .hbm, ⟨5, _⟩ => ⟨S32x2x128, .f32⟩
  | .hbm, ⟨6, _⟩ => ⟨S32x2x1x128, .f32⟩
  | .hbm, ⟨7, _⟩ => ⟨S4x127x16x2x2x128, .f32⟩
  | .hbm, ⟨8, _⟩ => ⟨S16x2x1x128, .f32⟩
  | .hbm, ⟨9, _⟩ => ⟨S1x1x16x2x1x128, .f32⟩
  | .hbm, ⟨10, _⟩ => ⟨S4x127x16x2x2x128, .f32⟩
  | .hbm, ⟨11, _⟩ => ⟨S4x127x16x2x2x128, .f32⟩
  | .hbm, ⟨12, _⟩ => ⟨S2x16x128x128, .f32⟩
  | .hbm, ⟨13, _⟩ => ⟨S2x128x4x127x2, .f32⟩
  | .hbm, ⟨14, _⟩ => ⟨S4x127x2x2x128, .f32⟩
  | .hbm, ⟨15, _⟩ => ⟨S4x127x16x2x2x128, .f32⟩
  | .hbm, ⟨16, _⟩ => ⟨S16x2x1x128, .f32⟩
  | .hbm, ⟨17, _⟩ => ⟨S1x1x16x2x1x128, .f32⟩
  | .hbm, ⟨18, _⟩ => ⟨S4x127x16x2x2x128, .f32⟩
  | .hbm, ⟨19, _⟩ => ⟨S4x127x16x2x2x128, .f32⟩
  | .hbm, ⟨20, _⟩ => ⟨S2x16x128x128, .f32⟩
  | .hbm, ⟨21, _⟩ => ⟨S2x128x4x127x2, .f32⟩
  | .hbm, ⟨22, _⟩ => ⟨S4x127x2x2x128, .f32⟩
  | .hbm, ⟨23, _⟩ => ⟨S4x127x2x2x128, .f32⟩
  | .hbm, ⟨24, _⟩ => ⟨S4x2x2x127x128, .f32⟩
  | .hbm, ⟨25, _⟩ => ⟨S4x4x127x128, .f32⟩
  | _, _ => ⟨S8192x18344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Proof.Mask.lean ====
/- A softmax over any mask: the kernel's window of columns and the reference's full row give the same weights. -/
module

public import Idealize.ShloMosaic.Lib.Pointwise

@[expose] public section

noncomputable section

open Idealize.ShloMosaic

namespace Cert.Mask

/-- The kernel's guard. -/
def gk (m : EReal) : EReal := if m = ⊥ then 0 else m

/-- The reference's guard. -/
def gr (m : EReal) : EReal := if max m (-m) < ⊤ then m else 0

/-- An exponential is not negative. -/
theorem exp_nonneg (x : EReal) : 0 ≤ Ideal.exp x := by
  induction x using EReal.rec with
  | bot => exact le_refl _
  | top => exact le_top
  | coe r => exact EReal.coe_nonneg.mpr (Real.exp_pos r).le

/-- Zero over anything positive is zero. -/
theorem div_zero_pos (y : EReal) (hy : 0 < y) : Ideal.div 0 y = 0 := by
  unfold Ideal.div
  rw [if_neg hy.ne', zero_mul]

/-- Anything over the infinite is zero. -/
theorem div_top (x : EReal) : Ideal.div x ⊤ = 0 := by
  unfold Ideal.div
  rw [if_neg (by simp), EReal.inv_top, mul_zero]

/-- The bits of minus infinity. -/
theorem neg_inf : Ideal.ofBits .f32 0xFF800000#32 = ⊥ := by simp [Ideal.ofBits, Ideal.ieee]
/-- The bits of infinity. -/
theorem pos_inf : Ideal.ofBits .f32 0x7F800000#32 = ⊤ := by simp [Ideal.ofBits, Ideal.ieee]

/-- The denominator's floor. -/
def eps : EReal := Ideal.ofBits .f32 0x0DA24260#32

/-- The denominator's floor is positive. -/
theorem eps_pos : 0 < eps := by
  simp [eps, Ideal.ofBits, Ideal.ieee, -EReal.coe_mul]

variable (P : ℕ → Prop) [DecidablePred P]

/-- The maximum over the columns of `T` that the mask keeps. -/
def MX (T : Finset ℕ) (s : ℕ → EReal) : EReal := T.sup fun c => if P c then s c else ⊥

/-- A numerator, for a guard `g` taken from the maximum. -/
def E (g : EReal → EReal) (T : Finset ℕ) (s : ℕ → EReal) (c : ℕ) : EReal :=
  if P c then Ideal.exp (s c - g (MX P T s)) else 0

/-- A weight. -/
def W (g : EReal → EReal) (T : Finset ℕ) (s : ℕ → EReal) (c : ℕ) : EReal :=
  Ideal.div (E P g T s c) (max (∑ d ∈ T, E P g T s d) eps)

/-- The maximum does not change with columns that the mask drops. -/
theorem mx_subset {T U : Finset ℕ} (h : T ⊆ U) (hp : ∀ c ∈ U, c ∉ T → ¬P c) (s : ℕ → EReal) : MX P T s = MX P U s := by
  refine le_antisymm (Finset.sup_mono h) (Finset.sup_le fun c hc => ?_)
  by_cases hT : c ∈ T
  · exact Finset.le_sup (f := fun c => if P c then s c else ⊥) hT
  · rw [if_neg (hp c hc hT)]; exact bot_le

/-- The weights do not change with columns that the mask drops. -/
theorem W_subset (g : EReal → EReal) {T U : Finset ℕ} (h : T ⊆ U) (hp : ∀ c ∈ U, c ∉ T → ¬P c) (s : ℕ → EReal) (c : ℕ) : W P g T s c = W P g U s c := by
  have hE : ∀ d, E P g T s d = E P g U s d := fun d => by unfold E; rw [mx_subset P h hp]
  unfold W
  simp only [hE]
  rw [Finset.sum_subset (f := E P g U s) h fun d hd hT => if_neg (hp d hd hT)]

/-- A numerator is not negative. -/
theorem E_nonneg (g : EReal → EReal) (T : Finset ℕ) (s : ℕ → EReal) (c : ℕ) : 0 ≤ E P g T s c := by
  unfold E
  split
  · exact exp_nonneg _
  · exact le_refl _

/-- A weight that the mask drops is zero. -/
theorem W_off (g : EReal → EReal) (T : Finset ℕ) (s : ℕ → EReal) (c : ℕ) (hc : ¬P c) : W P g T s c = 0 := by
  unfold W
  have : E P g T s c = 0 := if_neg hc
  rw [this]
  exact div_zero_pos _ (lt_of_lt_of_le eps_pos (le_max_right _ _))

/-- The two guards give the same weights. -/
theorem W_guard (T : Finset ℕ) (s : ℕ → EReal) (c : ℕ) : W P gk T s c = W P gr T s c := by
  by_cases ht : MX P T s = ⊤
  · have hk : ∀ d, E P gk T s d = 0 := fun d => by
      unfold E
      split
      · rw [ht]
        have : gk ⊤ = ⊤ := if_neg (by simp)
        rw [this, sub_eq_add_neg, EReal.neg_top, EReal.add_bot]
        rfl
      · rfl
    have hr : ∑ d ∈ T, E P gr T s d = ⊤ := by
      have hs : ∃ d ∈ T, (if P d then s d else ⊥) = ⊤ := by
        by_contra hne
        push Not at hne
        have : MX P T s < ⊤ := (Finset.sup_lt_iff (by simp)).mpr fun d hd => lt_top_iff_ne_top.mpr (hne d hd)
        exact this.ne ht
      obtain ⟨d, hdT, hd⟩ := hs
      have hE : E P gr T s d = ⊤ := by
        unfold E
        by_cases hc : P d
        · rw [if_pos hc] at hd ⊢
          have : gr ⊤ = 0 := if_neg (by simp)
          rw [hd, ht, this, sub_zero]
          rfl
        · rw [if_neg hc] at hd
          exact absurd hd (by simp)
      refine top_le_iff.mp ?_
      rw [← hE]
      exact Finset.single_le_sum (f := fun d => E P gr T s d) (fun e _ => E_nonneg P gr T s e) hdT
    unfold W
    rw [hr, hk, max_eq_left le_top, div_top]
    exact div_zero_pos _ (lt_of_lt_of_le eps_pos (le_max_right _ _))
  · have : gk (MX P T s) = gr (MX P T s) := by
      unfold gk gr
      by_cases hb : MX P T s = ⊥
      · rw [hb]; simp
      · rw [if_neg hb, if_pos]
        rw [max_lt_iff]
        refine ⟨lt_top_iff_ne_top.mpr ht, lt_top_iff_ne_top.mpr fun h => hb ?_⟩
        rwa [EReal.neg_eq_top_iff] at h
    unfold W E
    rw [this]

/-- A sum over a window of columns is a sum over an interval. -/
theorem sum_window (a n : ℕ) (f : ℕ → EReal) : ∑ c : Fin n, f (a + c) = ∑ c ∈ Finset.Ico a (a + n), f c := by
  rw [Finset.sum_Ico_eq_sum_range, Nat.add_sub_cancel_left, Finset.sum_range]

/-- A maximum over a window of columns is a maximum over an interval. -/
theorem sup_window (a n : ℕ) (f : ℕ → EReal) : (Finset.univ.fold max ⊥ fun c : Fin n => f (a + c)) = (Finset.Ico a (a + n)).sup f := by
  refine le_antisymm (Finset.sup_le (f := fun c : Fin n => f (a + c)) fun c _ => Finset.le_sup (f := f) (Finset.mem_Ico.mpr ⟨by omega, by omega⟩)) (Finset.sup_le fun c hc => ?_)
  obtain ⟨h1, h2⟩ := Finset.mem_Ico.mp hc
  have e : c = a + (⟨c - a, by omega⟩ : Fin n).val := by show c = a + (c - a); omega
  rw [e]
  exact Finset.le_sup (f := fun c : Fin n => f (a + c)) (Finset.mem_univ _)

/-- A masked score of the kernel. -/
def SC {n : ℕ} (b : Fin n → BitVec 1) (z : Fin n → EReal) (c : Fin n) : EReal :=
  Scalar.select (b c) (z c) (Ideal.ofBits .f32 0xFF800000#32)

/-- A row's maximum over its masked scores. -/
def MAXK {n : ℕ} (b : Fin n → BitVec 1) (z : Fin n → EReal) : EReal :=
  Finset.univ.fold max (Ideal.ofBits .f32 0xFF800000#32) fun c => SC b z c

/-- A numerator of the kernel. -/
def EK {n : ℕ} (b : Fin n → BitVec 1) (z : Fin n → EReal) (c : Fin n) : EReal :=
  Scalar.select (b c) (Ideal.exp (SC b z c - if MAXK b z = Ideal.ofBits .f32 0xFF800000#32 then 0 else MAXK b z)) 0

/-- A weight of the kernel. -/
def WK {n : ℕ} (b : Fin n → BitVec 1) (z : Fin n → EReal) (c : Fin n) : EReal :=
  Ideal.div (EK b z c) (max (∑ d : Fin n, EK b z d) (Ideal.ofBits .f32 0x0DA24260#32))

/-- The kernel's weights over its window of columns are the weights with the kernel's guard. -/
theorem wk_eq (a n : ℕ) (b : Fin n → BitVec 1) (z : Fin n → EReal) (s : ℕ → EReal) (hb : ∀ c : Fin n, b c = if P (a + c) then 1#1 else 0#1)
    (hz : ∀ c : Fin n, z c = s (a + c)) (c : Fin n) : WK b z c = W P gk (Finset.Ico a (a + n)) s (a + c) := by
  have hm : MAXK b z = MX P (Finset.Ico a (a + n)) s := by
    unfold MAXK MX SC
    rw [neg_inf, ← sup_window]
    congr 1
    funext d
    rw [hb, hz]
    split <;> simp [Scalar.select]
  have he : ∀ d : Fin n, EK b z d = E P gk (Finset.Ico a (a + n)) s (a + d) := fun d => by
    unfold EK E SC
    rw [hm, hb, hz, neg_inf]
    split <;> simp [Scalar.select, gk]
  unfold WK W
  simp only [he]
  rw [sum_window a n (E P gk (Finset.Ico a (a + n)) s)]
  rfl

/-- The kernel's weights over its window of columns are the reference's over all the columns. -/
theorem wk_full (a n N : ℕ) (h : a + n ≤ N) (b : Fin n → BitVec 1) (z : Fin n → EReal) (s : ℕ → EReal) (hb : ∀ c : Fin n, b c = if P (a + c) then 1#1 else 0#1)
    (hz : ∀ c : Fin n, z c = s (a + c)) (hP : ∀ c, c < N → P c → a ≤ c ∧ c < a + n) (c : Fin n) : WK b z c = W P gr (Finset.range N) s (a + c) := by
  rw [wk_eq P a n b z s hb hz, W_guard]
  refine W_subset P gr (fun c hc => ?_) (fun c hc hn h => hn (Finset.mem_Ico.mpr (hP c (Finset.mem_range.mp hc) h))) s _
  rw [Finset.mem_Ico] at hc; rw [Finset.mem_range]; omega

/-- A row of the kernel, over its window of columns, is the row over all the columns. -/
theorem row_eq (a n N : ℕ) (h : a + n ≤ N) (b : Fin n → BitVec 1) (z v : Fin n → EReal) (s V : ℕ → EReal) (hb : ∀ c : Fin n, b c = if P (a + c) then 1#1 else 0#1)
    (hz : ∀ c : Fin n, z c = s (a + c)) (hv : ∀ c : Fin n, v c = V (a + c)) (hP : ∀ c, c < N → P c → a ≤ c ∧ c < a + n) :
    ∑ c : Fin n, WK b z c * v c = ∑ c : Fin N, V c * W P gr (Finset.range N) s c := by
  have hs : Finset.Ico a (a + n) ⊆ Finset.range N := fun c hc => by
    rw [Finset.mem_Ico] at hc; rw [Finset.mem_range]; omega
  have hp : ∀ c ∈ Finset.range N, c ∉ Finset.Ico a (a + n) → ¬P c := fun c hc hn h => hn (Finset.mem_Ico.mpr (hP c (Finset.mem_range.mp hc) h))
  simp only [wk_full P a n N h b z s hb hz hP, hv]
  rw [sum_window a n fun c => W P gr (Finset.range N) s c * V c, Finset.sum_subset hs fun c hc hn => by rw [W_off P gr _ s c (hp c hc hn), zero_mul], Finset.sum_range]
  exact Finset.sum_congr rfl fun c _ => mul_comm _ _

/-- The reference's row over all the columns. -/
theorem full_eq (N : ℕ) (b : Fin N → BitVec 1) (z : Fin N → EReal) (s : ℕ → EReal) (hb : ∀ c : Fin N, b c = if P c then 1#1 else 0#1) (hz : ∀ c : Fin N, z c = s c) (c : Fin N)
    (M : EReal) (hM : M = Finset.univ.fold max ⊥ fun d : Fin N => Scalar.select (b d) (z d) ⊥) :
    Ideal.div (Scalar.select (b c) (Ideal.exp (Scalar.select (b c) (z c) ⊥ - gr M)) 0)
      (max (∑ d : Fin N, Scalar.select (b d) (Ideal.exp (Scalar.select (b d) (z d) ⊥ - gr M)) 0) eps) = W P gr (Finset.range N) s c := by
  have hm : M = MX P (Finset.range N) s := by
    rw [hM]
    unfold MX
    rw [Finset.range_eq_Ico]
    have := sup_window 0 N fun c => if P c then s c else ⊥
    rw [Nat.zero_add] at this
    rw [← this]
    congr 1
    funext d
    rw [hb, hz, Nat.zero_add]
    split <;> simp [Scalar.select]
  have he : ∀ d : Fin N, Scalar.select (b d) (Ideal.exp (Scalar.select (b d) (z d) ⊥ - gr M)) 0 = E P gr (Finset.range N) s d := fun d => by
    unfold E
    rw [hm, hb, hz]
    split <;> simp [Scalar.select]
  unfold W
  simp only [he]
  rw [Finset.sum_range]

/-- The distance bit of two bounded positions, against any small bound below. -/
theorem dist_int (i j : ℕ) (hi : i < 2048) (hj : j < 2048) : (BitVec.ofNat 32 i - BitVec.ofNat 32 j).toInt = (i : ℤ) - j := by
  rw [BitVec.toInt_sub, BitVec.toInt_ofNat', BitVec.toInt_ofNat']
  simp only [Int.bmod_def]
  omega

/-- The causal bit of two bounded positions. -/
theorem causal_bit (i j : ℕ) (hi : i < 2048) (hj : j < 2048) :
    IntOp.cmpi .sge (IntOp.subi (BitVec.ofNat 32 i) (BitVec.ofNat 32 j)) 0#32 = if j ≤ i then 1#1 else 0#1 := by
  simp only [IntOp.cmpi, IntOp.subi, BitVec.sle, dist_int i j hi hj]
  by_cases h : j ≤ i
  · rw [if_pos h, decide_eq_true (by simpa using h)]; rfl
  · rw [if_neg h, decide_eq_false (by simpa using h)]; rfl

/-- The window bit of two bounded positions. -/
theorem near_bit (i j : ℕ) (hi : i < 2048) (hj : j < 2048) :
    IntOp.cmpi .sle (IntOp.subi (BitVec.ofNat 32 i) (BitVec.ofNat 32 j)) 512#32 = if i ≤ j + 512 then 1#1 else 0#1 := by
  have hc : (512#32).toInt = 512 := by decide
  simp only [IntOp.cmpi, IntOp.subi, BitVec.sle, dist_int i j hi hj, hc]
  by_cases h : i ≤ j + 512
  · rw [if_pos h, decide_eq_true (by omega)]; rfl
  · rw [if_neg h, decide_eq_false (by omega)]; rfl

/-- The conjunction of two bits. -/
theorem and_bit (p q : Prop) [Decidable p] [Decidable q] [Decidable (p ∧ q)] :
    IntOp.andi (if p then 1#1 else 0#1) (if q then 1#1 else 0#1) = if p ∧ q then 1#1 else 0#1 := by
  by_cases hp : p <;> by_cases hq : q <;> simp [hp, hq, IntOp.andi]

/-- The threshold of the selection. -/
def half : EReal := Ideal.ofBits .f32 0x3F000000#32

/-- A key counts in the selected branch: not past the query, and in a chosen block of 64. -/
def PS (B : ℕ → EReal) (i : ℕ) (c : ℕ) : Prop := half < B (c / 64) ∧ c ≤ i

/-- A key counts in the window branch: not past the query, and at most 512 before it. -/
def PW (i : ℕ) (c : ℕ) : Prop := c ≤ i ∧ i ≤ c + 512

instance (B : ℕ → EReal) (i : ℕ) : DecidablePred (PS B i) := fun _ => Classical.dec _
instance (i : ℕ) : DecidablePred (PW i) := fun _ => Classical.dec _

/-- The selected branch's bit. -/
theorem sel_bit (B : ℕ → EReal) (e : EReal) [Decidable (half < e)] (i c : ℕ) (hi : i < 2048) (hc : c < 2048) (he : e = B (c / 64)) :
    IntOp.andi (BitVec.ofBool (decide (half < e))) (IntOp.cmpi .sge (IntOp.subi (BitVec.ofNat 32 i) (BitVec.ofNat 32 c)) 0#32) = if PS B i c then 1#1 else 0#1 := by
  have hb : BitVec.ofBool (decide (half < e)) = if half < e then 1#1 else 0#1 := by
    by_cases h : half < e <;> simp [h]
  rw [hb, causal_bit i c hi hc, and_bit]
  subst he
  exact if_congr (Iff.rfl) rfl rfl

/-- The window branch's bit. -/
theorem win_bit (i c : ℕ) (hi : i < 2048) (hc : c < 2048) :
    IntOp.andi (IntOp.cmpi .sge (IntOp.subi (BitVec.ofNat 32 i) (BitVec.ofNat 32 c)) 0#32) (IntOp.cmpi .sle (IntOp.subi (BitVec.ofNat 32 i) (BitVec.ofNat 32 c)) 512#32)
      = if PW i c then 1#1 else 0#1 := by
  rw [causal_bit i c hi hc, near_bit i c hi hc, and_bit]
  exact if_congr (Iff.rfl) rfl rfl

/-- A score: the scaled product less the distance penalty. -/
def S (sl : EReal) (i : ℕ) (Q : Fin 128 → EReal) (K : ℕ → Fin 128 → EReal) (c : ℕ) : EReal :=
  (∑ x : Fin 128, Q x * K c x) * Ideal.ofBits .f32 0x3DB504F3#32
    - sl * FloatOps.sitofp (F := Ideal) .f32 (IntOp.subi (BitVec.ofNat 32 i) (BitVec.ofNat 32 c))

/-- A row over all the keys. -/
def FULL (s V : ℕ → EReal) : EReal := ∑ c : Fin 2048, V c * W P gr (Finset.range 2048) s c

/-- A distance in the kernel, from a row block's first row and a key block's first column. -/
def DK (q0 ws r c : ℕ) : BitVec 32 :=
  IntOp.subi (IntOp.addi (BitVec.ofNat 32 q0) (BitVec.ofNat 32 r)) (IntOp.addi (BitVec.ofNat 32 ws) (BitVec.ofNat 32 c))

/-- A distance in the kernel is the distance of the positions. -/
theorem dk_eq (q0 ws r c : ℕ) : DK q0 ws r c = IntOp.subi (BitVec.ofNat 32 (q0 + r)) (BitVec.ofNat 32 (ws + c)) := by
  rw [BitVec.ofNat_add, BitVec.ofNat_add]; rfl

/-- A distance in the kernel over a key block that starts at the first column. -/
def DK0 (q0 r c : ℕ) : BitVec 32 := IntOp.subi (IntOp.addi (BitVec.ofNat 32 q0) (BitVec.ofNat 32 r)) (BitVec.ofNat 32 c)

/-- It is the distance of the positions. -/
theorem dk0_eq (q0 r c : ℕ) : DK0 q0 r c = IntOp.subi (BitVec.ofNat 32 (q0 + r)) (BitVec.ofNat 32 c) := by
  rw [BitVec.ofNat_add]; rfl

/-- A score in the kernel. -/
def ZK (sl : EReal) {n : ℕ} (q : Fin 128 → EReal) (k : Fin n → Fin 128 → EReal) (p : Fin n → BitVec 32) (c : Fin n) : EReal :=
  (∑ x : Fin 128, q x * k c x) * Ideal.ofBits .f32 0x3DB504F3#32 - sl * FloatOps.sitofp (F := Ideal) .f32 (p c)

/-- A row of the kernel's selected branch. -/
def SLCK (q0 : ℕ) (sl : EReal) (r : ℕ) {n : ℕ} (q : Fin 128 → EReal) (k : Fin n → Fin 128 → EReal) (e v : Fin n → EReal) : EReal :=
  ∑ c : Fin n, WK (fun c : Fin n => IntOp.andi (BitVec.ofBool (decide (half < e c))) (IntOp.cmpi .sge (DK0 q0 r c) 0#32)) (ZK sl q k fun c => DK0 q0 r c) c * v c

/-- A row of the kernel's window branch. -/
def WINK (q0 ws : ℕ) (sl : EReal) (r : ℕ) {n : ℕ} (q : Fin 128 → EReal) (k : Fin n → Fin 128 → EReal) (v : Fin n → EReal) : EReal :=
  ∑ c : Fin n, WK (fun c : Fin n => IntOp.andi (IntOp.cmpi .sge (DK q0 ws r c) 0#32) (IntOp.cmpi .sle (DK q0 ws r c) 512#32)) (ZK sl q k fun c => DK q0 ws r c) c * v c

/-- A row of the kernel's selected branch is the row over all the keys. -/
theorem slck_eq (q0 r n : ℕ) (h : q0 + r < n) (hn : n ≤ 2048) (sl : EReal) (q : Fin 128 → EReal) (k : Fin n → Fin 128 → EReal) (e v : Fin n → EReal)
    (K : ℕ → Fin 128 → EReal) (B V : ℕ → EReal) (hk : ∀ c x, k c x = K c.val x) (he : ∀ c, e c = B (c.val / 64)) (hv : ∀ c, v c = V c.val) :
    SLCK q0 sl r q k e v = FULL (PS B (q0 + r)) (S sl (q0 + r) q K) V := by
  unfold SLCK FULL
  refine row_eq (PS B (q0 + r)) 0 n 2048 (by omega) _ _ _ _ _ (fun c => ?_) (fun c => ?_) (fun c => ?_) fun c _ hP => ⟨by omega, by have := hP.2; omega⟩
  · rw [dk0_eq, Nat.zero_add]
    exact sel_bit B (e c) (q0 + r) c (by omega) (by omega) (he c)
  · unfold ZK S
    simp only [dk0_eq, Nat.zero_add, hk]
  · rw [hv, Nat.zero_add]

/-- A row of the kernel's window branch is the row over all the keys. -/
theorem wink_eq (q0 ws r n : ℕ) (h : q0 + r < ws + n) (hw : ws ≤ q0 - 512) (hn : ws + n ≤ 2048) (sl : EReal) (q : Fin 128 → EReal) (k : Fin n → Fin 128 → EReal) (v : Fin n → EReal)
    (K : ℕ → Fin 128 → EReal) (V : ℕ → EReal) (hk : ∀ c x, k c x = K (ws + c.val) x) (hv : ∀ c, v c = V (ws + c.val)) :
    WINK q0 ws sl r q k v = FULL (PW (q0 + r)) (S sl (q0 + r) q K) V := by
  unfold WINK FULL
  refine row_eq (PW (q0 + r)) ws n 2048 hn _ _ _ _ _ (fun c => ?_) (fun c => ?_) hv fun c _ hP => ⟨by have := hP.2; omega, by have := hP.1; omega⟩
  · rw [dk_eq]
    exact win_bit (q0 + r) (ws + c) (by omega) (by omega)
  · unfold ZK S
    simp only [dk_eq, hk]

/-- The block of a column, as the kernel divides. -/
def BLK (c : ℕ) : BitVec 32 :=
  Scalar.select (IntOp.andi
      (IntOp.cmpi .ne (IntOp.subi (BitVec.setWidth 32 (IntOp.cmpi .sgt (BitVec.ofNat 32 c) 0#32)) (BitVec.setWidth 32 (IntOp.cmpi .slt (BitVec.ofNat 32 c) 0#32)))
        (Scalar.subi (Scalar.extui (Scalar.cmpi .sgt 64#32 0#32)) (Scalar.extui (Scalar.cmpi .slt 64#32 0#32))))
      (IntOp.cmpi .ne (IntOp.remsi .vector (BitVec.ofNat 32 c) 64#32) 0#32))
    (IntOp.subi (IntOp.divsi .vector (BitVec.ofNat 32 c) 64#32) 1#32) (IntOp.divsi .vector (BitVec.ofNat 32 c) 64#32)

/-- The block of a column. -/
theorem blk_eq : ∀ c : Fin 2048, BLK c = BitVec.ofNat 32 (c.val / 64) := by decide +kernel

/-- Two bounded numbers are equal as words when they are equal. -/
theorem eq_bit (a b : ℕ) (ha : a < 2048) (hb : b < 2048) : IntOp.cmpi .eq (BitVec.ofNat 32 a) (BitVec.ofNat 32 b) = if a = b then 1#1 else 0#1 := by
  have : (BitVec.ofNat 32 a = BitVec.ofNat 32 b) ↔ a = b := by
    rw [← BitVec.toNat_inj, BitVec.toNat_ofNat, BitVec.toNat_ofNat]
    omega
  by_cases h : a = b
  · subst h; simp [IntOp.cmpi]
  · rw [if_neg h]
    show BitVec.ofBool (BitVec.ofNat 32 a == BitVec.ofNat 32 b) = 0#1
    rw [beq_eq_false_iff_ne.mpr fun e => h (this.mp e)]
    rfl

/-- A sum over the lanes with one lane kept, the lane named on the left. -/
theorem pick_l (k : Fin 128) (f : Fin 128 → EReal) : ∑ x : Fin 128, Scalar.select (IntOp.cmpi .eq (BitVec.ofNat 32 k) (BitVec.ofNat 32 x)) (f x) 0 = f k := by
  rw [Finset.sum_eq_single k]
  · rw [eq_bit _ _ (by omega) (by omega), if_pos rfl]; rfl
  · intro x _ hx
    rw [eq_bit _ _ (by omega) (by omega), if_neg fun h => hx (Fin.ext h.symm)]; rfl
  · intro h; exact absurd (Finset.mem_univ _) h

/-- A sum over the lanes with one lane kept, the lane named on the right. -/
theorem pick_r (k : Fin 128) (f : Fin 128 → EReal) : ∑ x : Fin 128, Scalar.select (IntOp.cmpi .eq (BitVec.ofNat 32 x) (BitVec.ofNat 32 k)) (f x) 0 = f k := by
  rw [← pick_l k f]
  refine Finset.sum_congr rfl fun x _ => ?_
  rw [eq_bit _ _ (by omega) (by omega), eq_bit _ _ (by omega) (by omega)]
  simp only [eq_comm]

/-- A gate. -/
def SG (x : EReal) : EReal := Ideal.div 1 (1 + Ideal.exp (-x))

/-- The gated sum of one output. -/
def GATED (g0 g1 g2 oc os ow : EReal) : EReal := SG g0 * oc + SG g1 * os + SG g2 * ow

end Cert.Mask
end
-- ==== Proof.Soft.lean ====
/- The rows of the differential attention: the difference of two causal softmax maps over a prefix of the columns is the one over all. -/
module

public import proofs.«01_k».proof.Proof.Mask

@[expose] public section

noncomputable section

open Idealize.ShloMosaic

namespace Cert.Soft

/-- A weight of the causal softmax over all the columns. -/
def W (i : ℕ) (s : ℕ → EReal) (c : ℕ) : EReal := Cert.Mask.W (· ≤ i) Cert.Mask.gr (Finset.range 2048) s c

/-- A sum over both halves of the lanes with the second half masked. -/
theorem sum_lo (f : Fin 128 → EReal) :
    ∑ x : Fin 128, Scalar.select (IntOp.cmpi .slt (BitVec.ofNat 32 ↑x) 64#32) (f x) 0 = ∑ x : Fin 64, f ⟨x, by omega⟩ := by
  have hb : ∀ x : Fin 128, IntOp.cmpi .slt (BitVec.ofNat 32 ↑x) 64#32 = if x.val < 64 then 1#1 else 0#1 := by decide +kernel
  simp only [hb]
  rw [Fin.sum_univ_two_halves 64 64 rfl]
  simp [Scalar.select]

/-- A sum over both halves of the lanes with the first half masked. -/
theorem sum_hi (f : Fin 128 → EReal) :
    ∑ x : Fin 128, Scalar.select (IntOp.cmpi .sge (BitVec.ofNat 32 ↑x) 64#32) (f x) 0 = ∑ x : Fin 64, f ⟨64 + x, by omega⟩ := by
  have hb : ∀ x : Fin 128, IntOp.cmpi .sge (BitVec.ofNat 32 ↑x) 64#32 = if 64 ≤ x.val then 1#1 else 0#1 := by decide +kernel
  simp only [hb]
  rw [Fin.sum_univ_two_halves 64 64 rfl, Finset.sum_eq_zero (s := Finset.univ (α := Fin 64)) (f := fun p => _) fun p _ => ?_, zero_add]
  · refine Finset.sum_congr rfl fun q _ => ?_
    simp [Scalar.select]
  · simp [Scalar.select]

/-- The distance computed from a row block is the distance of the positions. -/
theorem dist_eq (t r c : ℕ) :
    IntOp.subi (IntOp.addi (Scalar.muli (BitVec.ofNat 32 t) 256#32) (BitVec.ofNat 32 r)) (BitVec.ofNat 32 c)
      = IntOp.subi (BitVec.ofNat 32 (256 * t + r)) (BitVec.ofNat 32 c) := by
  simp only [IntOp.subi, IntOp.addi, Scalar.muli, IntOp.muli]
  rw [BitVec.ofNat_add, BitVec.ofNat_mul, BitVec.mul_comm]

/-- The causal bit of a row block's row and a column. -/
def BIT (a : BitVec 32) (r c : ℕ) : BitVec 1 :=
  IntOp.cmpi .sge (IntOp.subi (IntOp.addi (Scalar.muli a 256#32) (BitVec.ofNat 32 r)) (BitVec.ofNat 32 c)) 0#32

/-- The distance penalty of a row block's row and a column. -/
def PEN (a : BitVec 32) (sl : EReal) (r c : ℕ) : EReal :=
  (0 - sl) * FloatOps.sitofp (F := Ideal) .f32 (IntOp.subi (IntOp.addi (Scalar.muli a 256#32) (BitVec.ofNat 32 r)) (BitVec.ofNat 32 c))

/-- The first map's raw score in the kernel. -/
def ZLO (a : BitVec 32) (sl : EReal) (r : ℕ) {n : ℕ} (q : Fin 128 → EReal) (k : Fin n → Fin 128 → EReal) (c : Fin n) : EReal :=
  (∑ x : Fin 128, Scalar.select (IntOp.cmpi .slt (BitVec.ofNat 32 ↑x) 64#32) (q x * k c x) 0) * Ideal.ofBits .f32 0x3E000000#32 + PEN a sl r c

/-- The second map's raw score in the kernel. -/
def ZHI (a : BitVec 32) (sl : EReal) (r : ℕ) {n : ℕ} (q : Fin 128 → EReal) (k : Fin n → Fin 128 → EReal) (c : Fin n) : EReal :=
  (∑ x : Fin 128, Scalar.select (IntOp.cmpi .sge (BitVec.ofNat 32 ↑x) 64#32) (q x * k c x) 0) * Ideal.ofBits .f32 0x3E000000#32 + PEN a sl r c

/-- One row of the kernel before its normalisation. -/
def MIXK (a : BitVec 32) (sl lam : EReal) (r : ℕ) {n : ℕ} (q : Fin 128 → EReal) (k : Fin n → Fin 128 → EReal) (v : Fin n → EReal) : EReal :=
  ∑ c : Fin n, (Cert.Mask.WK (fun c => BIT a r c) (ZLO a sl r q k) c - lam * Cert.Mask.WK (fun c => BIT a r c) (ZHI a sl r q k) c) * v c

/-- The bit is the order of the positions. -/
theorem bit_eq (t r c : ℕ) (h : 256 * t + r < 2048) (hc : c < 2048) : BIT (BitVec.ofNat 32 t) r c = if c ≤ 256 * t + r then 1#1 else 0#1 := by
  unfold BIT
  rw [dist_eq, Cert.Mask.causal_bit _ _ h hc]

/-- The kernel's weights over its prefix of columns are the weights over all the columns. -/
theorem wk_eq (t r n : ℕ) (h : 256 * t + r < n) (hn : n ≤ 2048) (z : Fin n → EReal) (s : ℕ → EReal) (hz : ∀ c : Fin n, z c = s c) (c : Fin n) :
    Cert.Mask.WK (fun c : Fin n => BIT (BitVec.ofNat 32 t) r c) z c = W (256 * t + r) s c := by
  have := Cert.Mask.wk_full (· ≤ 256 * t + r) 0 n 2048 (by omega) (fun c : Fin n => BIT (BitVec.ofNat 32 t) r c) z s
    (fun c => by rw [Nat.zero_add]; exact bit_eq t r c (by omega) (by omega)) (fun c => by rw [Nat.zero_add]; exact hz c) (fun c _ hP => ⟨by omega, by omega⟩) c
  rwa [Nat.zero_add] at this

/-- A weight past the row is zero. -/
theorem W_past (i : ℕ) (s : ℕ → EReal) (c : ℕ) (hc : i < c) : W i s c = 0 := Cert.Mask.W_off _ _ _ _ _ (by omega)

/-- A mix of the values over a prefix that holds the row's own column is the mix over all the columns. -/
theorem mix_prefix (lam : EReal) (i n : ℕ) (hi : i < n) (h : n ≤ 2048) (s1 s2 v : ℕ → EReal) :
    ∑ c : Fin n, (W i s1 c - lam * W i s2 c) * v c = ∑ c : Fin 2048, v c * (W i s1 c - lam * W i s2 c) := by
  simp only [mul_comm (v _)]
  rw [← Finset.sum_range fun c => (W i s1 c - lam * W i s2 c) * v c, ← Finset.sum_range fun c => (W i s1 c - lam * W i s2 c) * v c]
  refine Finset.sum_subset (Finset.range_mono h) fun c _ hc => ?_
  rw [Finset.mem_range] at hc
  rw [W_past i s1 c (by omega), W_past i s2 c (by omega)]
  simp

/-- One row of the kernel is the reference's mix over all columns. -/
theorem mixk_eq (t r n : ℕ) (h : 256 * t + r < n) (hn : n ≤ 2048) (sl lam : EReal) (q : Fin 128 → EReal) (k : Fin n → Fin 128 → EReal) (v : Fin n → EReal)
    (Q : Fin 128 → EReal) (K : ℕ → Fin 128 → EReal) (V : ℕ → EReal) (hq : ∀ x, q x = Q x) (hk : ∀ c x, k c x = K c.val x) (hv : ∀ c, v c = V c.val) :
    MIXK (BitVec.ofNat 32 t) sl lam r q k v
      = ∑ c : Fin 2048, V c * (W (256 * t + r) (fun c => (∑ x : Fin 64, Q ⟨x, by omega⟩ * K c ⟨x, by omega⟩)
            * Ideal.ofBits .f32 0x3E000000#32 + -sl * FloatOps.sitofp (F := Ideal) .f32 (IntOp.subi (BitVec.ofNat 32 (256 * t + r)) (BitVec.ofNat 32 c))) c
          - lam * W (256 * t + r) (fun c => (∑ x : Fin 64, Q ⟨64 + x, by omega⟩ * K c ⟨64 + x, by omega⟩)
            * Ideal.ofBits .f32 0x3E000000#32 + -sl * FloatOps.sitofp (F := Ideal) .f32 (IntOp.subi (BitVec.ofNat 32 (256 * t + r)) (BitVec.ofNat 32 c))) c) := by
  rw [← mix_prefix lam (256 * t + r) n h hn]
  unfold MIXK
  refine Finset.sum_congr rfl fun c _ => ?_
  rw [wk_eq t r n h hn _ _ fun d => ?_, wk_eq t r n h hn _ _ fun d => ?_, hv]
  · unfold ZHI PEN
    rw [sum_hi, dist_eq]
    simp only [hq, hk, zero_sub]
  · unfold ZLO PEN
    rw [sum_lo, dist_eq]
    simp only [hq, hk, zero_sub]

/-- The normalisation of one row of one head. -/
def NRM (o : Fin 128 → EReal) (g : EReal) (d : Fin 128) : EReal :=
  o d * Ideal.rsqrt (Ideal.div (∑ e : Fin 128, o e * o e) (Ideal.ofBits .f32 0x43000000#32) + Ideal.ofBits .f32 0x3727C5AC#32) * g * Ideal.ofBits .f32 0x3F4CCCCD#32

end Cert.Soft
end
-- ==== Proof.DiffRows.lean ====
/- The rows of the differential attention kernel, one reading for each of its eight bodies. -/
module

public import proofs.«01_k».proof.Proof.Gen.KernelIdeal.Skeleton
public import proofs.«01_k».proof.Proof.Soft

@[expose] public section

set_option maxRecDepth 16384

noncomputable section

namespace Cert.KernelIdeal.Diff

open Idealize.ShloMosaic Idealize.ShloMosaic.TcCoe Idealize.SL.Sem
open Cert.KernelIdeal Cert.KernelIdeal.Gen

/-- The weight of the second map. -/
theorem lam_at (l : Vec Ideal S4x64 .f32) :
    k0_pay84 l (ix2 0 0) = Ideal.exp (∑ x : Fin 64, l (ix2 0 x) * l (ix2 1 x)) - Ideal.exp (∑ x : Fin 64, l (ix2 2 x) * l (ix2 3 x)) + Ideal.ofBits .f32 0x3E4CCCCD#32 := by
  pointwise [k0_pay84]

/-- The normalisation at an index. -/
theorem norm_at (o : FVec Ideal S256x128 .f32) (g : Vec Ideal S1x128 .f32) (r : Fin 256) (d : Fin 128) :
    k0_pay1 o g (ix2 r d) = Cert.Soft.NRM (fun e => o (ix2 r e)) (g (ix2 0 d)) d := by
  pointwise [k0_pay1]
  rfl

/-- All bodies normalise alike. -/
theorem norm_same : k0_pay2 (F := Ideal) = k0_pay1 ∧ k0_pay3 (F := Ideal) = k0_pay1 ∧ k0_pay85 (F := Ideal) = k0_pay1 ∧ k0_pay86 (F := Ideal) = k0_pay1
    ∧ k0_pay87 (F := Ideal) = k0_pay1 ∧ k0_pay88 (F := Ideal) = k0_pay1 ∧ k0_pay89 (F := Ideal) = k0_pay1 := ⟨rfl, rfl, rfl, rfl, rfl, rfl, rfl⟩

/-- A row of the body over 256 keys. -/
theorem mix_A (a : BitVec 32) (sl : Ideal .f32) (l : FVec Ideal S1x1 .f32) (q : Vec Ideal S256x128 .f32) (k v : Vec Ideal S256x128 .f32) (r : Fin 256) (d : Fin 128) :
    k0_pay13 l (k0_pay5 q) (k0_pay6 k) (k0_pay7 v) (k0_pay9 a) (k0_pay10 a sl) (k0_pay11 a sl q k) (k0_pay12 a sl q k) (ix2 r d)
      = Cert.Soft.MIXK a sl (l (ix2 0 0)) r (fun x => q (ix2 r x)) (fun c x => k (ix2 c x)) (fun c => v (ix2 c d)) := by
  pointwise [k0_pay4, k0_pay5, k0_pay6, k0_pay7, k0_pay8, k0_pay9, k0_pay10, k0_pay11, k0_pay12, k0_pay13]
  rfl

/-- A row of the body over 512 keys. -/
theorem mix_B (a : BitVec 32) (sl : Ideal .f32) (l : FVec Ideal S1x1 .f32) (q : Vec Ideal S256x128 .f32) (k v : Vec Ideal S512x128 .f32) (r : Fin 256) (d : Fin 128) :
    k0_pay23 l (k0_pay15 q) (k0_pay16 k) (k0_pay17 v) (k0_pay19 a) (k0_pay20 a sl) (k0_pay21 a sl q k) (k0_pay22 a sl q k) (ix2 r d)
      = Cert.Soft.MIXK a sl (l (ix2 0 0)) r (fun x => q (ix2 r x)) (fun c x => k (ix2 c x)) (fun c => v (ix2 c d)) := by
  pointwise [k0_pay14, k0_pay15, k0_pay16, k0_pay17, k0_pay18, k0_pay19, k0_pay20, k0_pay21, k0_pay22, k0_pay23]
  rfl

/-- A row of the body over 768 keys. -/
theorem mix_C (a : BitVec 32) (sl : Ideal .f32) (l : FVec Ideal S1x1 .f32) (q : Vec Ideal S256x128 .f32) (k v : Vec Ideal S768x128 .f32) (r : Fin 256) (d : Fin 128) :
    k0_pay33 l (k0_pay25 q) (k0_pay26 k) (k0_pay27 v) (k0_pay29 a) (k0_pay30 a sl) (k0_pay31 a sl q k) (k0_pay32 a sl q k) (ix2 r d)
      = Cert.Soft.MIXK a sl (l (ix2 0 0)) r (fun x => q (ix2 r x)) (fun c x => k (ix2 c x)) (fun c => v (ix2 c d)) := by
  pointwise [k0_pay24, k0_pay25, k0_pay26, k0_pay27, k0_pay28, k0_pay29, k0_pay30, k0_pay31, k0_pay32, k0_pay33]
  rfl

/-- A row of the body over 1024 keys. -/
theorem mix_D (a : BitVec 32) (sl : Ideal .f32) (l : FVec Ideal S1x1 .f32) (q : Vec Ideal S256x128 .f32) (k v : Vec Ideal S1024x128 .f32) (r : Fin 256) (d : Fin 128) :
    k0_pay43 l (k0_pay35 q) (k0_pay36 k) (k0_pay37 v) (k0_pay39 a) (k0_pay40 a sl) (k0_pay41 a sl q k) (k0_pay42 a sl q k) (ix2 r d)
      = Cert.Soft.MIXK a sl (l (ix2 0 0)) r (fun x => q (ix2 r x)) (fun c x => k (ix2 c x)) (fun c => v (ix2 c d)) := by
  pointwise [k0_pay34, k0_pay35, k0_pay36, k0_pay37, k0_pay38, k0_pay39, k0_pay40, k0_pay41, k0_pay42, k0_pay43]
  rfl

/-- A row of the body over 1280 keys. -/
theorem mix_E (a : BitVec 32) (sl : Ideal .f32) (l : FVec Ideal S1x1 .f32) (q : Vec Ideal S256x128 .f32) (k v : Vec Ideal S1280x128 .f32) (r : Fin 256) (d : Fin 128) :
    k0_pay53 l (k0_pay45 q) (k0_pay46 k) (k0_pay47 v) (k0_pay49 a) (k0_pay50 a sl) (k0_pay51 a sl q k) (k0_pay52 a sl q k) (ix2 r d)
      = Cert.Soft.MIXK a sl (l (ix2 0 0)) r (fun x => q (ix2 r x)) (fun c x => k (ix2 c x)) (fun c => v (ix2 c d)) := by
  pointwise [k0_pay44, k0_pay45, k0_pay46, k0_pay47, k0_pay48, k0_pay49, k0_pay50, k0_pay51, k0_pay52, k0_pay53]
  rfl

/-- A row of the body over 1536 keys. -/
theorem mix_F (a : BitVec 32) (sl : Ideal .f32) (l : FVec Ideal S1x1 .f32) (q : Vec Ideal S256x128 .f32) (k v : Vec Ideal S1536x128 .f32) (r : Fin 256) (d : Fin 128) :
    k0_pay63 l (k0_pay55 q) (k0_pay56 k) (k0_pay57 v) (k0_pay59 a) (k0_pay60 a sl) (k0_pay61 a sl q k) (k0_pay62 a sl q k) (ix2 r d)
      = Cert.Soft.MIXK a sl (l (ix2 0 0)) r (fun x => q (ix2 r x)) (fun c x => k (ix2 c x)) (fun c => v (ix2 c d)) := by
  pointwise [k0_pay54, k0_pay55, k0_pay56, k0_pay57, k0_pay58, k0_pay59, k0_pay60, k0_pay61, k0_pay62, k0_pay63]
  rfl

/-- A row of the body over 1792 keys. -/
theorem mix_G (a : BitVec 32) (sl : Ideal .f32) (l : FVec Ideal S1x1 .f32) (q : Vec Ideal S256x128 .f32) (k v : Vec Ideal S1792x128 .f32) (r : Fin 256) (d : Fin 128) :
    k0_pay73 l (k0_pay65 q) (k0_pay66 k) (k0_pay67 v) (k0_pay69 a) (k0_pay70 a sl) (k0_pay71 a sl q k) (k0_pay72 a sl q k) (ix2 r d)
      = Cert.Soft.MIXK a sl (l (ix2 0 0)) r (fun x => q (ix2 r x)) (fun c x => k (ix2 c x)) (fun c => v (ix2 c d)) := by
  pointwise [k0_pay64, k0_pay65, k0_pay66, k0_pay67, k0_pay68, k0_pay69, k0_pay70, k0_pay71, k0_pay72, k0_pay73]
  rfl

/-- A row of the body over 2048 keys. -/
theorem mix_H (a : BitVec 32) (sl : Ideal .f32) (l : FVec Ideal S1x1 .f32) (q : Vec Ideal S256x128 .f32) (k v : Vec Ideal S2048x128 .f32) (r : Fin 256) (d : Fin 128) :
    k0_pay83 l (k0_pay75 q) (k0_pay76 k) (k0_pay77 v) (k0_pay79 a) (k0_pay80 a sl) (k0_pay81 a sl q k) (k0_pay82 a sl q k) (ix2 r d)
      = Cert.Soft.MIXK a sl (l (ix2 0 0)) r (fun x => q (ix2 r x)) (fun c x => k (ix2 c x)) (fun c => v (ix2 c d)) := by
  pointwise [k0_pay74, k0_pay75, k0_pay76, k0_pay77, k0_pay78, k0_pay79, k0_pay80, k0_pay81, k0_pay82, k0_pay83]
  rfl

end Cert.KernelIdeal.Diff
end
-- ==== Proof.DiffRef.lean ====
/- The reference of the differential attention, cut into named pieces, each read at an index. -/
module

public import proofs.«01_k».proof.Proof.Gen.ReferenceIdeal.Run
public import proofs.«01_k».proof.Proof.Soft

@[expose] public section

set_option maxRecDepth 16384

noncomputable section

namespace Cert.ReferenceIdeal.Diff

open Idealize.ShloMosaic Idealize.ShloMosaic.TcCoe Idealize.SL.Sem
open Cert.ReferenceIdeal Cert.ReferenceIdeal.Gen Cert.ReferenceIdeal.Value

/-- Query position minus key position. -/
def DIST : IVec S2048x2048 32 :=
  subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- The causal mask over batch, head, query and key. -/
def MASK : IVec S4x8x2048x2048 1 :=
  broadcastInDim S4x8x2048x2048 ![2, 3] bcast_S2048x2048_S4x8x2048x2048_2_3
    (cmpi .sge DIST (broadcastInDim S2048x2048 ![] bcast_S_S2048x2048 (constantI S_ 32 0#32)))

/-- The distance penalty per head. -/
def BIAS : FVec Ideal S4x8x2048x2048 .f32 :=
  broadcastInDim S4x8x2048x2048 ![0, 1, 2, 3] bcast_S1x8x2048x2048_S4x8x2048x2048_0_1_2_3
    (broadcastInDim S1x8x2048x2048 ![1, 2, 3] bcast_S8x2048x2048_S1x8x2048x2048_1_2_3
      (mulf (broadcastInDim S8x2048x2048 ![0, 1, 2] bcast_S8x1x1_S8x2048x2048_0_1_2
          (Host.negf (broadcastInDim S8x1x1 ![0] bcast_S8_S8x1x1_0 (fun i => FloatOps.ofBits .f32 (lit0 (S8.rowMajor i))))))
        (broadcastInDim S8x2048x2048 ![0, 1, 2] bcast_S1x2048x2048_S8x2048x2048_0_1_2
          (broadcastInDim S1x2048x2048 ![1, 2] bcast_S2048x2048_S1x2048x2048_1_2 (sitofp .f32 DIST)))))

/-- One map's scores before the mask. -/
def RAW (q k : FVec Ideal S4x2048x8x64 .f32) : FVec Ideal S4x8x2048x2048 .f32 :=
  addf (mulf (Host.dotGeneral dot_S4x2048x8x64_S4x2048x8x64_S4x8x2048x2048_3_3_1_1_02_02 none q k)
    (broadcastInDim S4x8x2048x2048 ![] bcast_S_S4x8x2048x2048 (constant S_ .f32 0x3E000000#32))) BIAS

/-- The scores after the mask. -/
def SCORE (s : FVec Ideal S4x8x2048x2048 .f32) : FVec Ideal S4x8x2048x2048 .f32 :=
  select MASK s (broadcastInDim S4x8x2048x2048 ![] bcast_S_S4x8x2048x2048 (constant S_ .f32 0xFF800000#32))

/-- The row maxima. -/
def ROWMAX (s : FVec Ideal S4x8x2048x2048 .f32) : FVec Ideal S4x8x2048x1 .f32 :=
  broadcastInDim S4x8x2048x1 ![0, 1, 2] bcast_S4x8x2048_S4x8x2048x1_0_1_2
    (Host.reduce FloatOps.maximumf (SCORE s) (constant S_ .f32 0xFF800000#32) reducesTo_S4x8x2048x2048_S4x8x2048_d3 h_S_)

/-- The numerators of the softmax, from the masked scores and the row maxima. -/
def NUMX (sc : FVec Ideal S4x8x2048x2048 .f32) (mx : FVec Ideal S4x8x2048x1 .f32) : FVec Ideal S4x8x2048x2048 .f32 :=
  select MASK (Host.exp (subf sc (broadcastInDim S4x8x2048x2048 ![0, 1, 2, 3] bcast_S4x8x2048x1_S4x8x2048x2048_0_1_2_3
    (select (cmpf .olt (Host.absf mx) (broadcastInDim S4x8x2048x1 ![] bcast_S_S4x8x2048x1 (constant S_ .f32 0x7F800000#32)))
      mx (broadcastInDim S4x8x2048x1 ![] bcast_S_S4x8x2048x1 (constant S_ .f32 0x00000000#32))))))
    (broadcastInDim S4x8x2048x2048 ![] bcast_S_S4x8x2048x2048 (constant S_ .f32 0x00000000#32))

/-- The numerators over the row sums. -/
def QUOT (e : FVec Ideal S4x8x2048x2048 .f32) : FVec Ideal S4x8x2048x2048 .f32 :=
  Host.divf e (broadcastInDim S4x8x2048x2048 ![0, 1, 2, 3] bcast_S4x8x2048x1_S4x8x2048x2048_0_1_2_3
    (maximumf (broadcastInDim S4x8x2048x1 ![0, 1, 2] bcast_S4x8x2048_S4x8x2048x1_0_1_2
        (Host.reduceAdd e (constant S_ .f32 0x00000000#32) reducesTo_S4x8x2048x2048_S4x8x2048_d3 h_S_))
      (broadcastInDim S4x8x2048x1 ![] bcast_S_S4x8x2048x1 (constant S_ .f32 0x0DA24260#32))))

/-- One softmax map. -/
def SOFT (s : FVec Ideal S4x8x2048x2048 .f32) : FVec Ideal S4x8x2048x2048 .f32 :=
  QUOT (NUMX (SCORE s) (ROWMAX s))

/-- The learned weight of the second map. -/
def LAM (l : FVec Ideal S4x64 .f32) : FVec Ideal S_ .f32 :=
  addf (subf
    (Host.exp (Host.reduceAdd (mulf (shapeCast S64 (extractStridedSlice S1x64 ![0, 0] l slices_S4x64_S1x64_0_0) shapeCasts_S1x64_S64)
      (shapeCast S64 (extractStridedSlice S1x64 ![1, 0] l slices_S4x64_S1x64_1_0) shapeCasts_S1x64_S64)) (constant S_ .f32 0x00000000#32) reducesTo_S64_S_d0 h_S_))
    (Host.exp (Host.reduceAdd (mulf (shapeCast S64 (extractStridedSlice S1x64 ![2, 0] l slices_S4x64_S1x64_2_0) shapeCasts_S1x64_S64)
      (shapeCast S64 (extractStridedSlice S1x64 ![3, 0] l slices_S4x64_S1x64_3_0) shapeCasts_S1x64_S64)) (constant S_ .f32 0x00000000#32) reducesTo_S64_S_d0 h_S_)))
    (constant S_ .f32 0x3E4CCCCD#32)

/-- The difference of the two maps. -/
def ATT (l : FVec Ideal S4x64 .f32) (s1 s2 : FVec Ideal S4x8x2048x2048 .f32) : FVec Ideal S4x8x2048x2048 .f32 :=
  subf (SOFT s1) (mulf (broadcastInDim S4x8x2048x2048 ![] bcast_S_S4x8x2048x2048 (LAM l)) (SOFT s2))

/-- The map applied to the values. -/
def OUT (v : FVec Ideal S4x2048x8x128 .f32) (a : FVec Ideal S4x8x2048x2048 .f32) : FVec Ideal S4x2048x8x128 .f32 :=
  transpose S4x2048x8x128 [0, 3, 1, 2] (Host.dotGeneral dot_S4x2048x8x128_S4x8x2048x2048_S4x8x128x2048_1_3_3_2_02_01 none v a) transposes_S4x8x128x2048_S4x2048x8x128_0_3_1_2

/-- The normalisation per head. -/
def NORM (g : FVec Ideal S128 .f32) (o : FVec Ideal S4x2048x8x128 .f32) : FVec Ideal S4x2048x8x128 .f32 :=
  mulf (mulf (mulf o (broadcastInDim S4x2048x8x128 ![0, 1, 2, 3] bcast_S4x2048x8x1_S4x2048x8x128_0_1_2_3
    (Host.rsqrt (addf (Host.divf (broadcastInDim S4x2048x8x1 ![0, 1, 2] bcast_S4x2048x8_S4x2048x8x1_0_1_2
        (Host.reduceAdd (mulf o o) (constant S_ .f32 0x00000000#32) reducesTo_S4x2048x8x128_S4x2048x8_d3 h_S_))
        (broadcastInDim S4x2048x8x1 ![] bcast_S_S4x2048x8x1 (constant S_ .f32 0x43000000#32)))
      (broadcastInDim S4x2048x8x1 ![] bcast_S_S4x2048x8x1 (constant S_ .f32 0x3727C5AC#32))))))
    (broadcastInDim S4x2048x8x128 ![0, 1, 2, 3] bcast_S1x1x1x128_S4x2048x8x128_0_1_2_3 (broadcastInDim S1x1x1x128 ![3] bcast_S128_S1x1x1x128_3 g)))
    (broadcastInDim S4x2048x8x128 ![] bcast_S_S4x2048x8x128 (constant S_ .f32 0x3F4CCCCD#32))

/-- The queries by head. -/
def QS (x : FVec Ideal S8192x18344 .f32) : FVec Ideal S4x2048x8x128 .f32 :=
  shapeCast S4x2048x8x128 (extractStridedSlice S8192x1024 ![0, 8104] x slices_S8192x18344_S8192x1024_0_8104) shapeCasts_S8192x1024_S4x2048x8x128
/-- The keys by head. -/
def KS (x : FVec Ideal S8192x18344 .f32) : FVec Ideal S4x2048x8x128 .f32 :=
  shapeCast S4x2048x8x128 (extractStridedSlice S8192x1024 ![0, 9128] x slices_S8192x18344_S8192x1024_0_9128) shapeCasts_S8192x1024_S4x2048x8x128
/-- The values by head. -/
def VS (x : FVec Ideal S8192x18344 .f32) : FVec Ideal S4x2048x8x128 .f32 :=
  shapeCast S4x2048x8x128 (extractStridedSlice S8192x1024 ![0, 10152] x slices_S8192x18344_S8192x1024_0_10152) shapeCasts_S8192x1024_S4x2048x8x128

/-- The first half of a head's lanes. -/
def LO (x : FVec Ideal S4x2048x8x128 .f32) : FVec Ideal S4x2048x8x64 .f32 :=
  extractStridedSlice S4x2048x8x64 ![0, 0, 0, 0] x slices_S4x2048x8x128_S4x2048x8x64_0_0_0_0
/-- The second half of a head's lanes. -/
def HI (x : FVec Ideal S4x2048x8x128 .f32) : FVec Ideal S4x2048x8x64 .f32 :=
  extractStridedSlice S4x2048x8x64 ![0, 0, 0, 64] x slices_S4x2048x8x128_S4x2048x8x64_0_0_0_64

/-- The attention output before the normalisation. -/
def MIX (x : FVec Ideal S8192x18344 .f32) (l : FVec Ideal S4x64 .f32) : FVec Ideal S4x2048x8x128 .f32 :=
  OUT (VS x) (ATT l (RAW (LO (QS x)) (LO (KS x))) (RAW (HI (QS x)) (HI (KS x))))

/-- The reference's result over its arguments. -/
def REF (x : FVec Ideal S8192x18344 .f32) (l : FVec Ideal S4x64 .f32) (g : FVec Ideal S128 .f32) : FVec Ideal S8192x1024 .f32 :=
  shapeCast S8192x1024 (NORM g (MIX x l)) shapeCasts_S4x2048x8x128_S8192x1024

/-- The run's result is the composition of the named pieces. -/
theorem res_eq (m : (ℓ : Loc nD τ sig) → Buf (Elt Ideal) ℓ) (c : Dev nD) :
    res_out0 m c = REF (m ((c.tc : Thread nD τ).loc main_arg0)) (m ((c.tc : Thread nD τ).loc main_arg1)) (m ((c.tc : Thread nD τ).loc main_arg2)) := rfl

/-- The mask at an index. -/
theorem mask_at (b : Fin 4) (h : Fin 8) (i j : Fin 2048) :
    MASK (ix4 b h i j) = IntOp.cmpi .sge (IntOp.subi (BitVec.ofNat 32 i) (BitVec.ofNat 32 j)) 0#32 := by
  pointwise [MASK, DIST]

/-- The masked score at an index. -/
theorem score_at (s : FVec Ideal S4x8x2048x2048 .f32) (b : Fin 4) (h : Fin 8) (i j : Fin 2048) :
    SCORE s (ix4 b h i j) = Scalar.select (MASK (ix4 b h i j)) (s (ix4 b h i j)) (Ideal.ofBits .f32 0xFF800000#32) := by
  pointwise [SCORE]

/-- The row maximum at an index. -/
theorem rowmax_at (s : FVec Ideal S4x8x2048x2048 .f32) (b : Fin 4) (h : Fin 8) (i : Fin 2048) :
    ROWMAX s (ix4 b h i 0) = Finset.univ.fold max (Ideal.ofBits .f32 0xFF800000#32) fun x : Fin 2048 => SCORE s (ix4 b h i x) := by
  pointwise [ROWMAX]

/-- A numerator at an index. -/
theorem numx_at (sc : FVec Ideal S4x8x2048x2048 .f32) (mx : FVec Ideal S4x8x2048x1 .f32) (b : Fin 4) (h : Fin 8) (i j : Fin 2048) :
    NUMX sc mx (ix4 b h i j) = Scalar.select (MASK (ix4 b h i j)) (Ideal.exp (sc (ix4 b h i j)
      - if FloatOps.absf (mx (ix4 b h i 0)) < Ideal.ofBits .f32 0x7F800000#32 then mx (ix4 b h i 0) else 0)) 0 := by
  pointwise [NUMX]

/-- One softmax map at an index, from the numerators. -/
theorem quot_at (e : FVec Ideal S4x8x2048x2048 .f32) (b : Fin 4) (h : Fin 8) (i j : Fin 2048) :
    QUOT e (ix4 b h i j) = Ideal.div (e (ix4 b h i j)) (max (∑ x : Fin 2048, e (ix4 b h i x)) (Ideal.ofBits .f32 0x0DA24260#32)) := by
  pointwise [QUOT]

/-- The difference of the maps at an index. -/
theorem att_at (l : FVec Ideal S4x64 .f32) (s1 s2 : FVec Ideal S4x8x2048x2048 .f32) (b : Fin 4) (h : Fin 8) (i j : Fin 2048) :
    ATT l s1 s2 (ix4 b h i j) = SOFT s1 (ix4 b h i j)
      - (Ideal.exp (∑ x : Fin 64, l (ix2 0 x) * l (ix2 1 x)) - Ideal.exp (∑ x : Fin 64, l (ix2 2 x) * l (ix2 3 x)) + Ideal.ofBits .f32 0x3E4CCCCD#32)
        * SOFT s2 (ix4 b h i j) := by
  pointwise [ATT, LAM]

/-- The first map's raw score at an index. -/
theorem raw_lo (x : FVec Ideal S8192x18344 .f32) (b : Fin 4) (h : Fin 8) (i j : Fin 2048) :
    RAW (LO (QS x)) (LO (KS x)) (ix4 b h i j)
      = (∑ d : Fin 64, x (ix2 ⟨↑b * 2048 + ↑i, by omega⟩ ⟨8104 + (↑h * 128 + ↑d), by omega⟩) * x (ix2 ⟨↑b * 2048 + ↑j, by omega⟩ ⟨9128 + (↑h * 128 + ↑d), by omega⟩))
          * Ideal.ofBits .f32 0x3E000000#32
        + -Ideal.ofBits .f32 (lit0 (S8.rowMajor (ix1 h))) * FloatOps.sitofp .f32 (IntOp.subi (BitVec.ofNat 32 i) (BitVec.ofNat 32 j)) := by
  pointwise [RAW, LO, QS, KS, BIAS, DIST]

/-- The second map's raw score at an index. -/
theorem raw_hi (x : FVec Ideal S8192x18344 .f32) (b : Fin 4) (h : Fin 8) (i j : Fin 2048) :
    RAW (HI (QS x)) (HI (KS x)) (ix4 b h i j)
      = (∑ d : Fin 64, x (ix2 ⟨↑b * 2048 + ↑i, by omega⟩ ⟨8104 + (↑h * 128 + (64 + ↑d)), by omega⟩) * x (ix2 ⟨↑b * 2048 + ↑j, by omega⟩ ⟨9128 + (↑h * 128 + (64 + ↑d)), by omega⟩))
          * Ideal.ofBits .f32 0x3E000000#32
        + -Ideal.ofBits .f32 (lit0 (S8.rowMajor (ix1 h))) * FloatOps.sitofp .f32 (IntOp.subi (BitVec.ofNat 32 i) (BitVec.ofNat 32 j)) := by
  pointwise [RAW, HI, QS, KS, BIAS, DIST]

/-- The map applied to the values, at an index. -/
theorem out_at (x : FVec Ideal S8192x18344 .f32) (a : FVec Ideal S4x8x2048x2048 .f32) (b : Fin 4) (h : Fin 8) (i : Fin 2048) (j : Fin 128) :
    OUT (VS x) a (ix4 b i h j) = ∑ k : Fin 2048, x (ix2 ⟨↑b * 2048 + ↑k, by omega⟩ ⟨10152 + (↑h * 128 + ↑j), by omega⟩) * a (ix4 b h i k) := by
  pointwise [OUT, VS]

/-- The reference at an index: the normalisation of one row of one head. -/
theorem ref_at (x : FVec Ideal S8192x18344 .f32) (l : FVec Ideal S4x64 .f32) (g : FVec Ideal S128 .f32) (r : Fin 8192) (j : Fin 1024) (o : Fin 128 → EReal)
    (ho : ∀ d : Fin 128, MIX x l (ix4 ⟨↑r / 2048, by omega⟩ ⟨↑r % 2048, by omega⟩ ⟨↑j / 128, by omega⟩ d) = o d) :
    REF x l g (ix2 r j) = o ⟨↑j % 128, by omega⟩
      * Ideal.rsqrt (Ideal.div (∑ d : Fin 128, o d * o d) (Ideal.ofBits .f32 0x43000000#32) + Ideal.ofBits .f32 0x3727C5AC#32)
      * g (ix1 ⟨↑j % 128, by omega⟩) * Ideal.ofBits .f32 0x3F4CCCCD#32 := by
  unfold REF
  generalize MIX x l = y at ho ⊢
  pointwise [NORM]
  simp only [ho]

/-- One softmax map at an index, over the row's raw scores. -/
theorem soft_at (s : FVec Ideal S4x8x2048x2048 .f32) (b : Fin 4) (h : Fin 8) (i : Fin 2048) (S : ℕ → EReal) (hs : ∀ j : Fin 2048, s (ix4 b h i j) = S j) (j : Fin 2048) :
    SOFT s (ix4 b h i j) = Cert.Soft.W i S j := by
  unfold Cert.Soft.W
  rw [← Cert.Mask.full_eq (· ≤ i.val) 2048 (fun d => MASK (ix4 b h i d)) (fun d => s (ix4 b h i d)) S
    (fun d => by rw [mask_at, Cert.Mask.causal_bit _ _ i.isLt d.isLt]) hs j (ROWMAX s (ix4 b h i 0)) (by rw [rowmax_at]; simp only [score_at, Cert.Mask.neg_inf])]
  unfold SOFT
  rw [quot_at]
  simp only [numx_at, score_at, Cert.Mask.neg_inf, Cert.Mask.pos_inf]
  rfl

/-- The attention output at an index, over the row's queries, keys and values. -/
theorem mix_at (x : FVec Ideal S8192x18344 .f32) (l : FVec Ideal S4x64 .f32) (b : Fin 4) (h : Fin 8) (i : Fin 2048) (d : Fin 128)
    (Q : Fin 128 → EReal) (K : ℕ → Fin 128 → EReal) (V : ℕ → EReal)
    (hq : ∀ e : Fin 128, x (ix2 ⟨↑b * 2048 + ↑i, by omega⟩ ⟨8104 + (↑h * 128 + ↑e), by omega⟩) = Q e)
    (hk : ∀ (j : Fin 2048) (e : Fin 128), x (ix2 ⟨↑b * 2048 + ↑j, by omega⟩ ⟨9128 + (↑h * 128 + ↑e), by omega⟩) = K j e)
    (hv : ∀ j : Fin 2048, x (ix2 ⟨↑b * 2048 + ↑j, by omega⟩ ⟨10152 + (↑h * 128 + ↑d), by omega⟩) = V j) :
    MIX x l (ix4 b i h d) = ∑ c : Fin 2048, V c * (Cert.Soft.W i (fun c => (∑ x : Fin 64, Q ⟨x, by omega⟩ * K c ⟨x, by omega⟩)
            * Ideal.ofBits .f32 0x3E000000#32 + -Ideal.ofBits .f32 (lit0 (S8.rowMajor (ix1 h))) * FloatOps.sitofp (F := Ideal) .f32 (IntOp.subi (BitVec.ofNat 32 i) (BitVec.ofNat 32 c))) c
          - (Ideal.exp (∑ x : Fin 64, l (ix2 0 x) * l (ix2 1 x)) - Ideal.exp (∑ x : Fin 64, l (ix2 2 x) * l (ix2 3 x)) + Ideal.ofBits .f32 0x3E4CCCCD#32)
            * Cert.Soft.W i (fun c => (∑ x : Fin 64, Q ⟨64 + x, by omega⟩ * K c ⟨64 + x, by omega⟩)
            * Ideal.ofBits .f32 0x3E000000#32 + -Ideal.ofBits .f32 (lit0 (S8.rowMajor (ix1 h))) * FloatOps.sitofp (F := Ideal) .f32 (IntOp.subi (BitVec.ofNat 32 i) (BitVec.ofNat 32 c))) c) := by
  unfold MIX
  rw [out_at]
  refine Finset.sum_congr rfl fun c _ => ?_
  rw [hv, att_at, soft_at _ b h i _ (fun j => ?_), soft_at _ b h i _ (fun j => ?_)]
  · rw [raw_hi]
    simp only [← hq, ← hk]
  · rw [raw_lo]
    simp only [← hq, ← hk]

/-- The reference at a batch's row and a head's lane. -/
theorem ref_head (x : FVec Ideal S8192x18344 .f32) (l : FVec Ideal S4x64 .f32) (g : FVec Ideal S128 .f32) (r : Fin 8192) (j : Fin 1024)
    (b : Fin 4) (i : Fin 2048) (h : Fin 8) (d : Fin 128) (hr : r.val = b * 2048 + i) (hj : j.val = h * 128 + d) (o : Fin 128 → EReal)
    (ho : ∀ e : Fin 128, MIX x l (ix4 b i h e) = o e) :
    REF x l g (ix2 r j) = Cert.Soft.NRM o (g (ix1 d)) d := by
  have e1 : (⟨↑r / 2048, by omega⟩ : Fin 4) = b := Fin.ext (by show r.val / 2048 = _; omega)
  have e2 : (⟨↑r % 2048, by omega⟩ : Fin 2048) = i := Fin.ext (by show r.val % 2048 = _; omega)
  have e3 : (⟨↑j / 128, by omega⟩ : Fin 8) = h := Fin.ext (by show j.val / 128 = _; omega)
  have e4 : (⟨↑j % 128, by omega⟩ : Fin 128) = d := Fin.ext (by show j.val % 128 = _; omega)
  rw [ref_at x l g r j o (by rw [e1, e2, e3]; exact ho), e4]
  rfl

end Cert.ReferenceIdeal.Diff
end
-- ==== Proof.DiffKernel.lean ====
/- The differential attention kernel's result array is the reference's function of the arguments. -/
module

public import proofs.«01_k».proof.Proof.Gen.KernelIdeal.Value
public import Idealize.ShloMosaic.Lib.Pipeline.ValueKit
public import Idealize.ShloMosaic.Lib.Claim
public import proofs.«01_k».proof.Proof.DiffRows
public import proofs.«01_k».proof.Proof.DiffRef

@[expose] public section

set_option maxRecDepth 16384

noncomputable section

namespace Cert.KernelIdeal.Diff

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The block indices of the windows and the grid coordinates. -/
theorem idx : ∀ t : Fin cfg0.N, win0_0.index t = ![0] ∧ win0_1.index t = ![0, 0] ∧ win0_2.index t = ![0, 0]
    ∧ win0_3.index t = ![t.val / 64 * 8 + t.val % 8, 32 + t.val / 8 % 8]
    ∧ win0_4.index t = ![t.val / 64, 112 + t.val / 8 % 8] ∧ win0_5.index t = ![t.val / 64, 120 + t.val / 8 % 8]
    ∧ win0_6.index t = ![t.val / 64 * 8 + t.val % 8, t.val / 8 % 8]
    ∧ (grid0.coords t 2).val = t.val % 8 ∧ k0_off1 (grid0.coords t) = ![t.val / 8 % 8] := (by decide +kernel : ∀ t : Fin grid0.N, _)

/-- The number of grid points. -/
theorem lt_N (t : Fin cfg0.N) : t.val < 256 := t.isLt

/-- The permuted rows. -/
def PERM (x : FVec Ideal S8192x18344 .f32) : FVec Ideal S8192x18432 .f32 :=
  concatenate S8192x18432 1 [⟨S8192x1024, extractStridedSlice S8192x1024 ![0, 0] x slices_S8192x18344_S8192x1024_0_0⟩,
    ⟨S8192x1024, extractStridedSlice S8192x1024 ![0, 2584] x slices_S8192x18344_S8192x1024_0_2584⟩,
    ⟨S8192x1024, extractStridedSlice S8192x1024 ![0, 3608] x slices_S8192x18344_S8192x1024_0_3608⟩,
    ⟨S8192x1024, extractStridedSlice S8192x1024 ![0, 7080] x slices_S8192x18344_S8192x1024_0_7080⟩,
    ⟨S8192x1024, extractStridedSlice S8192x1024 ![0, 8104] x slices_S8192x18344_S8192x1024_0_8104⟩,
    ⟨S8192x1024, extractStridedSlice S8192x1024 ![0, 11176] x slices_S8192x18344_S8192x1024_0_11176⟩,
    ⟨S8192x6144, extractStridedSlice S8192x6144 ![0, 12200] x slices_S8192x18344_S8192x6144_0_12200⟩,
    ⟨S8192x2048, extractStridedSlice S8192x2048 ![0, 4888] x slices_S8192x18344_S8192x2048_0_4888⟩,
    ⟨S8192x1024, extractStridedSlice S8192x1024 ![0, 9128] x slices_S8192x18344_S8192x1024_0_9128⟩,
    ⟨S8192x1024, extractStridedSlice S8192x1024 ![0, 10152] x slices_S8192x18344_S8192x1024_0_10152⟩,
    ⟨S8192x1536, extractStridedSlice S8192x1536 ![0, 1024] x slices_S8192x18344_S8192x1536_0_1024⟩,
    ⟨S8192x256, extractStridedSlice S8192x256 ![0, 4632] x slices_S8192x18344_S8192x256_0_4632⟩,
    ⟨S8192x128, extractStridedSlice S8192x128 ![0, 6936] x slices_S8192x18344_S8192x128_0_6936⟩,
    ⟨S8192x24, extractStridedSlice S8192x24 ![0, 2560] x slices_S8192x18344_S8192x24_0_2560⟩,
    ⟨S8192x16, extractStridedSlice S8192x16 ![0, 7064] x slices_S8192x18344_S8192x16_0_7064⟩,
    ⟨S8192x88, broadcastInDim S8192x88 ![] bcast_S_S8192x88 (constant S_ .f32 0x00000000#32)⟩]
    concatenates_S8192x1024_S8192x1024_S8192x1024_S8192x1024_S8192x1024_S8192x1024_S8192x6144_S8192x2048_S8192x1024_S8192x1024_S8192x1536_S8192x256_S8192x128_S8192x24_S8192x16_S8192x88_S8192x18432_d1

/-- The array the kernel reads is the permuted rows. -/
theorem V_perm (c : Dev nD) : V m c main_v16 = PERM (m ((c : Thread nD τ).loc main_arg0)) := by
  unfold V; after_results; rfl

/-- A column read keeps its row. -/
theorem off_axis {R C D : ℕ} (r r' : Fin R) (x : Fin C) (x' : Fin D) (hr : r = r' := by rfl) :
    ∀ b : Fin 2, b ≠ 1 → ((ix2 r x b : Fin _) : ℕ) = (ix2 r' x' b : Fin _)
  | 0 => fun _ => by subst hr; rfl
  | 1 => fun h => absurd rfl h

/-- The permuted rows, at the queries. -/
theorem perm_q (X : FVec Ideal S8192x18344 .f32) (r : Fin 8192) (x : Fin 1024) :
    PERM X (ix2 r ⟨4096 + x, by omega⟩) = X (ix2 r ⟨8104 + x, by omega⟩) := by
  unfold PERM
  refine (concatenate_apply_piece (t := S8192x18432) 1 _ _ _ 4 (by simp) S8192x1024 _ rfl rfl 4096 (by simp) (ix2 r x) (off_axis r _ x _) rfl).trans ?_
  pointwise

/-- The permuted rows, at the keys. -/
theorem perm_k (X : FVec Ideal S8192x18344 .f32) (r : Fin 8192) (x : Fin 1024) :
    PERM X (ix2 r ⟨14336 + x, by omega⟩) = X (ix2 r ⟨9128 + x, by omega⟩) := by
  unfold PERM
  refine (concatenate_apply_piece (t := S8192x18432) 1 _ _ _ 8 (by simp) S8192x1024 _ rfl rfl 14336 (by simp) (ix2 r x) (off_axis r _ x _) rfl).trans ?_
  pointwise

/-- The permuted rows, at the values. -/
theorem perm_v (X : FVec Ideal S8192x18344 .f32) (r : Fin 8192) (x : Fin 1024) :
    PERM X (ix2 r ⟨15360 + x, by omega⟩) = X (ix2 r ⟨10152 + x, by omega⟩) := by
  unfold PERM
  refine (concatenate_apply_piece (t := S8192x18432) 1 _ _ _ 9 (by simp) S8192x1024 _ rfl rfl 15360 (by simp) (ix2 r x) (off_axis r _ x _) rfl).trans ?_
  pointwise

/-- The query block. -/
theorem q_read (c : Dev nD) (t : Fin cfg0.N) (r : Fin 256) (x : Fin 128) :
    (iblk m c 3 t : FVec Ideal S256x128 .f32) (ix2 r x) = m ((c : Thread nD τ).loc main_arg0)
      (ix2 ⟨(t.val / 64 * 8 + t.val % 8) * 256 + r, by have := lt_N t; omega⟩ ⟨8104 + (t.val / 8 % 8 * 128 + x), by omega⟩) := by
  have := lt_N t
  have e := perm_q (m ((c : Thread nD τ).loc main_arg0)) ⟨(t.val / 64 * 8 + t.val % 8) * 256 + r, by omega⟩ ⟨t.val / 8 % 8 * 128 + x, by omega⟩
  rw [← V_perm] at e
  refine Eq.trans ?_ e
  blk_point [iblk, idx t]

/-- The key block. -/
theorem k_read (c : Dev nD) (t : Fin cfg0.N) (r : Fin 2048) (x : Fin 128) :
    (iblk m c 4 t : FVec Ideal S2048x128 .f32) (ix2 r x) = m ((c : Thread nD τ).loc main_arg0)
      (ix2 ⟨t.val / 64 * 2048 + r, by have := lt_N t; omega⟩ ⟨9128 + (t.val / 8 % 8 * 128 + x), by omega⟩) := by
  have := lt_N t
  have e := perm_k (m ((c : Thread nD τ).loc main_arg0)) ⟨t.val / 64 * 2048 + r, by omega⟩ ⟨t.val / 8 % 8 * 128 + x, by omega⟩
  rw [← V_perm] at e
  refine Eq.trans ?_ e
  blk_point [iblk, idx t]

/-- The value block. -/
theorem v_read (c : Dev nD) (t : Fin cfg0.N) (r : Fin 2048) (x : Fin 128) :
    (iblk m c 5 t : FVec Ideal S2048x128 .f32) (ix2 r x) = m ((c : Thread nD τ).loc main_arg0)
      (ix2 ⟨t.val / 64 * 2048 + r, by have := lt_N t; omega⟩ ⟨10152 + (t.val / 8 % 8 * 128 + x), by omega⟩) := by
  have := lt_N t
  have e := perm_v (m ((c : Thread nD τ).loc main_arg0)) ⟨t.val / 64 * 2048 + r, by omega⟩ ⟨t.val / 8 % 8 * 128 + x, by omega⟩
  rw [← V_perm] at e
  refine Eq.trans ?_ e
  blk_point [iblk, idx t]

/-- The gains. -/
theorem g_read (c : Dev nD) (t : Fin cfg0.N) (d : Fin 128) :
    (iblk m c 2 t : FVec Ideal S1x128 .f32) (ix2 0 d) = m ((c : Thread nD τ).loc main_arg2) (ix1 d) := by
  blk_point [iblk, V, idx t]

/-- The learned vectors. -/
theorem l_read (c : Dev nD) (t : Fin cfg0.N) (i : Fin 4) (d : Fin 64) :
    (iblk m c 1 t : FVec Ideal S4x64 .f32) (ix2 i d) = m ((c : Thread nD τ).loc main_arg1) (ix2 i d) := by
  blk_point [iblk, V, idx t]

/-- The slopes. -/
theorem s_read (c : Dev nD) (t : Fin cfg0.N) (i : Fin 8) :
    (iblk m c 0 t : FVec Ideal S8 .f32) (ix1 i) = Ideal.ofBits .f32 (Cert.ReferenceIdeal.lit0 (Cert.ReferenceIdeal.S8.rowMajor (ix1 i))) := by
  have hl : ∀ j : S8.Idx, lit0 (S8.rowMajor j) = Cert.ReferenceIdeal.lit0 (Cert.ReferenceIdeal.S8.rowMajor j) := by
    intro j; rfl
  rw [← hl]
  blk_point [iblk, V, idx t]

/-- A prefix of the rows of a block. -/
theorem ld_prefix {n : ℕ} (B : Vec Ideal S2048x128 .f32) (hb : ∀ a, (![0, 0] : Fin 2 → ℕ) a + (![n, 128] : Fin 2 → ℕ) a ≤ S2048x128.size a) (hn : n ≤ 2048) (c : Fin n) (x : Fin 128) :
    View.ld B (Rect.unit (s := S2048x128) ![0, 0] ![n, 128] hb) (ix2 c x) = B (ix2 ⟨c, by omega⟩ x) := by
  pointwise

/-- The head's slope as the kernel loads it. -/
theorem slope_read (c : Dev nD) (t : Fin cfg0.N) (h1 h2) :
    View.ld (iblk m c 0 t : Vec Ideal S8 .f32) (Rect.unit (s := S8) (k0_off1 (grid0.coords t)) ![1] h1) (Shape.Idx.first h2)
      = Ideal.ofBits .f32 (Cert.ReferenceIdeal.lit0 (Cert.ReferenceIdeal.S8.rowMajor (ix1 ⟨t.val / 8 % 8, by omega⟩))) := by
  rw [← s_read m c t]
  refine congrArg (iblk m c 0 t : Vec Ideal S8 .f32) (funext fun a => Fin.ext ?_)
  have ha : ∀ b : Fin 1, b = 0 := by decide
  obtain rfl : a = 0 := ha a
  show k0_off1 (grid0.coords t) 0 + 1 * ((Shape.Idx.first h2 0 : Fin _) : ℕ) = t.val / 8 % 8
  have hf : ((Shape.Idx.first h2 0 : Fin _) : ℕ) < 1 := (Shape.Idx.first h2 0).isLt
  have ho : k0_off1 (grid0.coords t) 0 = t.val / 8 % 8 := congrFun (idx t).2.2.2.2.2.2.2.2 0
  omega

/-- A block of the kernel's result is the reference's, whatever prefix of the keys its body reads. -/
theorem core (c : Dev nD) (t : Fin cfg0.N) (n : ℕ) (hn : t.val % 8 * 256 + 256 ≤ n) (hn' : n ≤ 2048) (o : FVec Ideal S256x128 .f32)
    (kf vf : Fin n → Fin 128 → EReal)
    (hk : ∀ c' x, kf c' x = (iblk m c 4 t : FVec Ideal S2048x128 .f32) (ix2 ⟨c', by omega⟩ x))
    (hv : ∀ c' x, vf c' x = (iblk m c 5 t : FVec Ideal S2048x128 .f32) (ix2 ⟨c', by omega⟩ x))
    (sl : EReal) (hs : sl = Ideal.ofBits .f32 (Cert.ReferenceIdeal.lit0 (Cert.ReferenceIdeal.S8.rowMajor (ix1 ⟨t.val / 8 % 8, by omega⟩))))
    (ho : ∀ (r : Fin 256) (d : Fin 128), o (ix2 r d) = Cert.Soft.MIXK (BitVec.ofNat 32 (grid0.coords t 2)) sl (k0_pay84 (iblk m c 1 t) (ix2 0 0)) r
      (fun x => (iblk m c 3 t : FVec Ideal S256x128 .f32) (ix2 r x)) kf (fun c' => vf c' d))
    (y : S256x128.Idx) :
    k0_pay1 o (iblk m c 2 t) y = Cert.ReferenceIdeal.Diff.REF (m ((c : Thread nD τ).loc main_arg0)) (m ((c : Thread nD τ).loc main_arg1)) (m ((c : Thread nD τ).loc main_arg2))
      (((View.whole main_v18).slice (win0_6.rect t)).emb y) := by
  have hN := lt_N t
  idx_vars y
  have e : ((View.whole main_v18).slice (win0_6.rect t)).emb (ix2 y0 y1) = ix2 ⟨(t.val / 64 * 8 + t.val % 8) * 256 + y0, by omega⟩ ⟨t.val / 8 % 8 * 128 + y1, by omega⟩ := by
    blk_ext [idx t]
  rw [e, norm_at, g_read]
  symm
  refine Cert.ReferenceIdeal.Diff.ref_head _ _ _ _ _ ⟨t.val / 64, by omega⟩ ⟨256 * (t.val % 8) + y0, by omega⟩ ⟨t.val / 8 % 8, by omega⟩ y1 (by simp; omega) rfl _ fun d => ?_
  let K : ℕ → Fin 128 → EReal := fun c' x => if h : c' < 2048 then (iblk m c 4 t : FVec Ideal S2048x128 .f32) (ix2 ⟨c', h⟩ x) else 0
  let V' : ℕ → EReal := fun c' => if h : c' < 2048 then (iblk m c 5 t : FVec Ideal S2048x128 .f32) (ix2 ⟨c', h⟩ d) else 0
  have hK : ∀ (j : Fin 2048) (x : Fin 128), K j x = (iblk m c 4 t : FVec Ideal S2048x128 .f32) (ix2 j x) := fun j x => dif_pos j.isLt
  have hV : ∀ j : Fin 2048, V' j = (iblk m c 5 t : FVec Ideal S2048x128 .f32) (ix2 j d) := fun j => dif_pos j.isLt
  rw [ho, (idx t).2.2.2.2.2.2.2.1, hs, lam_at, Cert.Soft.mixk_eq (t.val % 8) y0 n (by omega) hn' _ _ _ kf _ (fun x => (iblk m c 3 t : FVec Ideal S256x128 .f32) (ix2 y0 x)) K V'
    (fun _ => rfl) (fun c' x => (hk c' x).trans (hK ⟨c', by omega⟩ x).symm) (fun c' => (hv c' d).trans (hV ⟨c', by omega⟩).symm)]
  rw [Cert.ReferenceIdeal.Diff.mix_at _ _ _ _ _ _ (fun x => (iblk m c 3 t : FVec Ideal S256x128 .f32) (ix2 y0 x)) K V']
  · simp only [l_read]
  · intro x
    rw [q_read]
    blk_ext
  · intro j x
    rw [hK, k_read]
  · intro j
    rw [hV, v_read]

/-- The kernel's result array is the reference's function of the arguments. -/
theorem final (c : Dev nD) : (dats m 0 c).arrAt 6 (cfgs 0).N
    = Cert.ReferenceIdeal.Diff.REF (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  obtain h | h | h | h | h | h | h | h : t.val % 8 = 0 ∨ t.val % 8 = 1 ∨ t.val % 8 = 2 ∨ t.val % 8 = 3 ∨ t.val % 8 = 4 ∨ t.val % 8 = 5 ∨ t.val % 8 = 6 ∨ t.val % 8 = 7 := by omega
  · rw [outsAt0_A m c t h (by omega) (by omega) (by omega) (by omega) (by omega) (by omega) (by omega)]
    frame_out
    exact core m c t 256 (by omega) (by omega) _ _ _ (fun c' x => ld_prefix _ _ (by omega) c' x) (fun c' x => ld_prefix _ _ (by omega) c' x) _
      (slope_read m c t _ _) (fun r d => mix_A _ _ _ _ _ _ r d) y
  · rw [outsAt0_B m c t (by omega) h (by omega) (by omega) (by omega) (by omega) (by omega) (by omega)]
    frame_out
    exact core m c t 512 (by omega) (by omega) _ _ _ (fun c' x => ld_prefix _ _ (by omega) c' x) (fun c' x => ld_prefix _ _ (by omega) c' x) _
      (slope_read m c t _ _) (fun r d => mix_B _ _ _ _ _ _ r d) y
  · rw [outsAt0_C m c t (by omega) (by omega) h (by omega) (by omega) (by omega) (by omega) (by omega)]
    frame_out
    exact core m c t 768 (by omega) (by omega) _ _ _ (fun c' x => ld_prefix _ _ (by omega) c' x) (fun c' x => ld_prefix _ _ (by omega) c' x) _
      (slope_read m c t _ _) (fun r d => mix_C _ _ _ _ _ _ r d) y
  · rw [outsAt0_D m c t (by omega) (by omega) (by omega) h (by omega) (by omega) (by omega) (by omega)]
    frame_out
    exact core m c t 1024 (by omega) (by omega) _ _ _ (fun c' x => ld_prefix _ _ (by omega) c' x) (fun c' x => ld_prefix _ _ (by omega) c' x) _
      (slope_read m c t _ _) (fun r d => mix_D _ _ _ _ _ _ r d) y
  · rw [outsAt0_E m c t (by omega) (by omega) (by omega) (by omega) h (by omega) (by omega) (by omega)]
    frame_out
    exact core m c t 1280 (by omega) (by omega) _ _ _ (fun c' x => ld_prefix _ _ (by omega) c' x) (fun c' x => ld_prefix _ _ (by omega) c' x) _
      (slope_read m c t _ _) (fun r d => mix_E _ _ _ _ _ _ r d) y
  · rw [outsAt0_F m c t (by omega) (by omega) (by omega) (by omega) (by omega) h (by omega) (by omega)]
    frame_out
    exact core m c t 1536 (by omega) (by omega) _ _ _ (fun c' x => ld_prefix _ _ (by omega) c' x) (fun c' x => ld_prefix _ _ (by omega) c' x) _
      (slope_read m c t _ _) (fun r d => mix_F _ _ _ _ _ _ r d) y
  · rw [outsAt0_G m c t (by omega) (by omega) (by omega) (by omega) (by omega) (by omega) h (by omega)]
    frame_out
    exact core m c t 1792 (by omega) (by omega) _ _ _ (fun c' x => ld_prefix _ _ (by omega) c' x) (fun c' x => ld_prefix _ _ (by omega) c' x) _
      (slope_read m c t _ _) (fun r d => mix_G _ _ _ _ _ _ r d) y
  · rw [outsAt0_H m c t (by omega) (by omega) (by omega) (by omega) (by omega) (by omega) (by omega) h]
    frame_out
    exact core m c t 2048 (by omega) (by omega) _ _ _ (fun _ _ => rfl) (fun _ _ => rfl) _
      (slope_read m c t _ _) (fun r d => mix_H _ _ _ _ _ _ r d) y

end Cert.KernelIdeal.Diff
end
-- ==== Proof.LayerRows.lean ====
/- One row of the merge and its layer normalisation, over extended reals. -/
module

public import Idealize.ShloMosaic.Lib.Pointwise

@[expose] public section

noncomputable section

namespace Cert.Layer

open Idealize.ShloMosaic

/-- The logistic function. -/
def SG (z : EReal) : EReal := Ideal.div 1 (1 + Ideal.exp (-z))

/-- One branch, projected: the gated row times the branch's matrix, at a column. -/
def BR (o z w : Fin 1024 → EReal) : EReal := ∑ k, o k * (z k * SG (z k)) * w k

/-- The gated sum of the three branches, at a column. -/
def MX (oa ob oc za zb zc wa wb wc : Fin 1024 → EReal) (ma mb mc : EReal) : EReal :=
  SG ma * BR oa za wa + SG mb * BR ob zb wb + SG mc * BR oc zc wc

/-- A row less its mean. -/
def CEN (r : Fin 2048 → EReal) (d : Fin 2048) : EReal := r d - Ideal.div (∑ e, r e) (Ideal.ofBits .f32 0x45000000#32)

/-- The layer normalisation of a row. -/
def LN (r : Fin 2048 → EReal) (g b : EReal) (d : Fin 2048) : EReal :=
  CEN r d * Ideal.rsqrt (Ideal.div (∑ e, CEN r e * CEN r e) (Ideal.ofBits .f32 0x45000000#32) + Ideal.ofBits .f32 0x3727C5AC#32) * g + b

/-- The scaled residual plus the output projection, at a column. -/
def RES (x : EReal) (m w : Fin 2048 → EReal) : EReal := Ideal.ofBits .f32 0x3FB504F3#32 * x + ∑ e, m e * w e

end Cert.Layer
end
-- ==== Proof.MergeRef.lean ====
/- The reference of the merge and its layer normalisation, cut into named pieces, each read at an index. -/
module

public import proofs.«01_k».proof.Proof.Gen.Reference3Ideal.Run
public import Idealize.ShloMosaic.Lib.Pointwise
public import proofs.«01_k».proof.Proof.LayerRows

@[expose] public section

set_option maxRecDepth 16384

noncomputable section

namespace Cert.Reference3Ideal.Merge

open Idealize.ShloMosaic Idealize.ShloMosaic.TcCoe Idealize.SL.Sem
open Cert.Reference3Ideal Cert.Reference3Ideal.Gen Cert.Reference3Ideal.Value

/-- One branch's gated output, from the branch's columns of the projected rows. -/
def GATED (o z : FVec Ideal S4x2048x1024 .f32) : FVec Ideal S4x2048x1x1024 .f32 :=
  broadcastInDim S4x2048x1x1024 ![0, 1, 3] bcast_S4x2048x1024_S4x2048x1x1024_0_1_3
    (mulf o (mulf z (Host.divf (broadcastInDim S4x2048x1024 ![] bcast_S_S4x2048x1024 (constant S_ .f32 0x3F800000#32))
      (addf (broadcastInDim S4x2048x1024 ![] bcast_S_S4x2048x1024 (constant S_ .f32 0x3F800000#32)) (Host.exp (Host.negf z))))))

/-- The three branches side by side. -/
def STACK (a b c : FVec Ideal S4x2048x1x1024 .f32) : FVec Ideal S4x2048x3x1024 .f32 :=
  concatenate S4x2048x3x1024 2 [⟨S4x2048x1x1024, a⟩, ⟨S4x2048x1x1024, b⟩, ⟨S4x2048x1x1024, c⟩]
    concatenates_S4x2048x1x1024_S4x2048x1x1024_S4x2048x1x1024_S4x2048x3x1024_d2

/-- Each branch's output projection. -/
def BRANCH (w : FVec Ideal S3x1024x2048 .f32) (u : FVec Ideal S4x2048x3x1024 .f32) : FVec Ideal S4x2048x3x2048 .f32 :=
  transpose S4x2048x3x2048 [2, 3, 0, 1] (Host.dotGeneral dot_S3x1024x2048_S4x2048x3x1024_S3x2048x4x2048_1_3_2_01_0_2 none w u)
    transposes_S3x2048x4x2048_S4x2048x3x2048_2_3_0_1

/-- The gates of the merge. -/
def GATE (h : FVec Ideal S4x2048x18344 .f32) : FVec Ideal S4x2048x3x2048 .f32 :=
  Host.divf (broadcastInDim S4x2048x3x2048 ![] bcast_S_S4x2048x3x2048 (constant S_ .f32 0x3F800000#32))
    (addf (broadcastInDim S4x2048x3x2048 ![] bcast_S_S4x2048x3x2048 (constant S_ .f32 0x3F800000#32))
      (Host.exp (Host.negf (shapeCast S4x2048x3x2048 (extractStridedSlice S4x2048x6144 ![0, 0, 12200] h slices_S4x2048x18344_S4x2048x6144_0_0_12200) shapeCasts_S4x2048x6144_S4x2048x3x2048))))

/-- The gated sum of the branches. -/
def MIXED (g b : FVec Ideal S4x2048x3x2048 .f32) : FVec Ideal S4x2048x2048 .f32 :=
  Host.reduceAdd (mulf g b) (constant S_ .f32 0x00000000#32) reducesTo_S4x2048x3x2048_S4x2048x2048_d2 h_S_

/-- The output projection added to the scaled residual. -/
def RESID (x m : FVec Ideal S4x2048x2048 .f32) (w : FVec Ideal S2048x2048 .f32) : FVec Ideal S4x2048x2048 .f32 :=
  addf (mulf (broadcastInDim S4x2048x2048 ![] bcast_S_S4x2048x2048 (constant S_ .f32 0x3FB504F3#32)) x)
    (Host.dotGeneral dot_S4x2048x2048_S2048x2048_S4x2048x2048_2_0_01_1_n_n none m w)

/-- The mean over a row. -/
def MEAN (r : FVec Ideal S4x2048x2048 .f32) : FVec Ideal S4x2048x1 .f32 :=
  Host.divf (broadcastInDim S4x2048x1 ![0, 1] bcast_S4x2048_S4x2048x1_0_1
    (Host.reduceAdd r (constant S_ .f32 0x00000000#32) reducesTo_S4x2048x2048_S4x2048_d2 h_S_))
    (broadcastInDim S4x2048x1 ![] bcast_S_S4x2048x1 (constant S_ .f32 0x45000000#32))

/-- A row less its mean. -/
def CENTRED (r : FVec Ideal S4x2048x2048 .f32) : FVec Ideal S4x2048x2048 .f32 :=
  subf r (broadcastInDim S4x2048x2048 ![0, 1, 2] bcast_S4x2048x1_S4x2048x2048_0_1_2 (MEAN r))

/-- A vector of gains or offsets for every row. -/
def ROWS (g : FVec Ideal S2048 .f32) : FVec Ideal S4x2048x2048 .f32 :=
  broadcastInDim S4x2048x2048 ![0, 1, 2] bcast_S1x1x2048_S4x2048x2048_0_1_2 (broadcastInDim S1x1x2048 ![2] bcast_S2048_S1x1x2048_2 g)

/-- The normalisation of centred rows. -/
def SCALED (x : FVec Ideal S4x2048x2048 .f32) (g b : FVec Ideal S2048 .f32) : FVec Ideal S4x2048x2048 .f32 :=
  addf (mulf (mulf x (broadcastInDim S4x2048x2048 ![0, 1, 2] bcast_S4x2048x1_S4x2048x2048_0_1_2
    (Host.rsqrt (addf (MEAN (mulf x x)) (broadcastInDim S4x2048x1 ![] bcast_S_S4x2048x1 (constant S_ .f32 0x3727C5AC#32)))))) (ROWS g)) (ROWS b)

/-- A branch's columns of the projected rows. -/
def ZA (h : FVec Ideal S4x2048x18344 .f32) : FVec Ideal S4x2048x1024 .f32 :=
  extractStridedSlice S4x2048x1024 ![0, 0, 2584] h slices_S4x2048x18344_S4x2048x1024_0_0_2584
/-- A branch's columns of the projected rows. -/
def ZB (h : FVec Ideal S4x2048x18344 .f32) : FVec Ideal S4x2048x1024 .f32 :=
  extractStridedSlice S4x2048x1024 ![0, 0, 7080] h slices_S4x2048x18344_S4x2048x1024_0_0_7080
/-- A branch's columns of the projected rows. -/
def ZC (h : FVec Ideal S4x2048x18344 .f32) : FVec Ideal S4x2048x1024 .f32 :=
  extractStridedSlice S4x2048x1024 ![0, 0, 11176] h slices_S4x2048x18344_S4x2048x1024_0_0_11176

/-- The reference's result over its arguments. -/
def REF (x : FVec Ideal S4x2048x2048 .f32) (h : FVec Ideal S4x2048x18344 .f32) (oa : FVec Ideal S4x2048x1024 .f32) (ob : FVec Ideal S4x2048x8x128 .f32)
    (oc : FVec Ideal S4x2048x1024 .f32) (wb : FVec Ideal S3x1024x2048 .f32) (wo : FVec Ideal S2048x2048 .f32) (g b : FVec Ideal S2048 .f32) : FVec Ideal S4x2048x2048 .f32 :=
  SCALED (CENTRED (RESID x (MIXED (GATE h) (BRANCH wb (STACK (GATED oa (ZA h))
    (GATED (shapeCast S4x2048x1024 ob shapeCasts_S4x2048x8x128_S4x2048x1024) (ZB h)) (GATED oc (ZC h))))) wo)) g b

/-- The run's result is the composition of the named pieces. -/
theorem res_eq (m : (ℓ : Loc nD τ sig) → Buf (Elt Ideal) ℓ) (c : Dev nD) :
    res_out0 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-- The stacked branches at an index. -/
theorem stack_at (x y z : FVec Ideal S4x2048x1x1024 .f32) (b : Fin 4) (s : Fin 2048) (d : Fin 1024) :
    STACK x y z (ix4 b s 0 d) = x (ix4 b s 0 d) ∧ STACK x y z (ix4 b s 1 d) = y (ix4 b s 0 d) ∧ STACK x y z (ix4 b s 2 d) = z (ix4 b s 0 d) := by
  refine ⟨?_, ?_, ?_⟩ <;> pointwise [STACK]

/-- A gated branch at an index. -/
theorem gated_at (o z : FVec Ideal S4x2048x1024 .f32) (b : Fin 4) (s : Fin 2048) (k : Fin 1024) :
    GATED o z (ix4 b s 0 k) = o (ix3 b s k) * (z (ix3 b s k) * Cert.Layer.SG (z (ix3 b s k))) := by
  pointwise [GATED]
  rfl

/-- A projected branch at an index. -/
theorem branch_at (w : FVec Ideal S3x1024x2048 .f32) (u : FVec Ideal S4x2048x3x1024 .f32) (b : Fin 4) (s : Fin 2048) (n : Fin 3) (d : Fin 2048) :
    BRANCH w u (ix4 b s n d) = ∑ k : Fin 1024, w (ix3 n k d) * u (ix4 b s n k) := by
  pointwise [BRANCH]

/-- A gate at an index. -/
theorem gate_at (h : FVec Ideal S4x2048x18344 .f32) (b : Fin 4) (s : Fin 2048) (n : Fin 3) (d : Fin 2048) :
    GATE h (ix4 b s n d) = Cert.Layer.SG (h (ix3 b s ⟨12200 + (n * 2048 + d), by omega⟩)) := by
  pointwise [GATE]
  rfl

/-- The gated sum at an index. -/
theorem mixed_at (g u : FVec Ideal S4x2048x3x2048 .f32) (b : Fin 4) (s d : Fin 2048) :
    MIXED g u (ix3 b s d) = ∑ n : Fin 3, g (ix4 b s n d) * u (ix4 b s n d) := by
  pointwise [MIXED]

/-- The residual sum at an index. -/
theorem resid_at (x y : FVec Ideal S4x2048x2048 .f32) (w : FVec Ideal S2048x2048 .f32) (b : Fin 4) (s d : Fin 2048) :
    RESID x y w (ix3 b s d) = Cert.Layer.RES (x (ix3 b s d)) (fun e => y (ix3 b s e)) (fun e => w (ix2 e d)) := by
  pointwise [RESID]
  rfl

/-- A centred row at an index. -/
theorem centred_at (r : FVec Ideal S4x2048x2048 .f32) (b : Fin 4) (s d : Fin 2048) :
    CENTRED r (ix3 b s d) = Cert.Layer.CEN (fun e => r (ix3 b s e)) d := by
  pointwise [CENTRED, MEAN]
  rfl

/-- The normalisation of a centred row at an index. -/
theorem scaled_at (x : FVec Ideal S4x2048x2048 .f32) (g h : FVec Ideal S2048 .f32) (b : Fin 4) (s d : Fin 2048) :
    SCALED x g h (ix3 b s d) = x (ix3 b s d) * Ideal.rsqrt (Ideal.div (∑ e : Fin 2048, x (ix3 b s e) * x (ix3 b s e)) (Ideal.ofBits .f32 0x45000000#32)
      + Ideal.ofBits .f32 0x3727C5AC#32) * g (ix1 d) + h (ix1 d) := by
  pointwise [SCALED, MEAN, ROWS]

/-- The branches' columns at an index. -/
theorem z_at (h : FVec Ideal S4x2048x18344 .f32) (b : Fin 4) (s : Fin 2048) (k : Fin 1024) :
    ZA h (ix3 b s k) = h (ix3 b s ⟨2584 + k, by omega⟩) ∧ ZB h (ix3 b s k) = h (ix3 b s ⟨7080 + k, by omega⟩) ∧ ZC h (ix3 b s k) = h (ix3 b s ⟨11176 + k, by omega⟩) := by
  refine ⟨?_, ?_, ?_⟩ <;> pointwise [ZA, ZB, ZC]

/-- The heads of a branch side by side. -/
theorem heads_at (o : FVec Ideal S4x2048x8x128 .f32) (b : Fin 4) (s : Fin 2048) (k : Fin 1024) :
    shapeCast S4x2048x1024 o shapeCasts_S4x2048x8x128_S4x2048x1024 (ix3 b s k) = o (ix4 b s ⟨k / 128, by omega⟩ ⟨k % 128, by omega⟩) := by
  pointwise

/-- The gated sum of the branches, from the arguments. -/
def MROW (h : FVec Ideal S4x2048x18344 .f32) (oa : FVec Ideal S4x2048x1024 .f32) (ob : FVec Ideal S4x2048x8x128 .f32)
    (oc : FVec Ideal S4x2048x1024 .f32) (wb : FVec Ideal S3x1024x2048 .f32) (b : Fin 4) (s d : Fin 2048) : EReal :=
  Cert.Layer.MX (fun k => oa (ix3 b s k)) (fun k => ob (ix4 b s ⟨k / 128, by omega⟩ ⟨k % 128, by omega⟩)) (fun k => oc (ix3 b s k))
    (fun k => h (ix3 b s ⟨2584 + k, by omega⟩)) (fun k => h (ix3 b s ⟨7080 + k, by omega⟩)) (fun k => h (ix3 b s ⟨11176 + k, by omega⟩))
    (fun k => wb (ix3 0 k d)) (fun k => wb (ix3 1 k d)) (fun k => wb (ix3 2 k d))
    (h (ix3 b s ⟨12200 + d, by omega⟩)) (h (ix3 b s ⟨14248 + d, by omega⟩)) (h (ix3 b s ⟨16296 + d, by omega⟩))

/-- The reference's gated sum is the row's. -/
theorem mrow_at (h : FVec Ideal S4x2048x18344 .f32) (oa : FVec Ideal S4x2048x1024 .f32) (ob : FVec Ideal S4x2048x8x128 .f32)
    (oc : FVec Ideal S4x2048x1024 .f32) (wb : FVec Ideal S3x1024x2048 .f32) (b : Fin 4) (s d : Fin 2048) :
    MIXED (GATE h) (BRANCH wb (STACK (GATED oa (ZA h)) (GATED (shapeCast S4x2048x1024 ob shapeCasts_S4x2048x8x128_S4x2048x1024) (ZB h)) (GATED oc (ZC h)))) (ix3 b s d)
      = MROW h oa ob oc wb b s d := by
  rw [mixed_at, Fin.sum_univ_three]
  simp only [gate_at, branch_at, (stack_at _ _ _ b s _).1, (stack_at _ _ _ b s _).2.1, (stack_at _ _ _ b s _).2.2, gated_at,
    (z_at h b s _).1, (z_at h b s _).2.1, (z_at h b s _).2.2, heads_at, mul_comm (wb _)]
  unfold MROW Cert.Layer.MX Cert.Layer.BR
  congr! 6 <;> simp <;> omega

/-- The reference's result at an index. -/
theorem ref_at (x : FVec Ideal S4x2048x2048 .f32) (h : FVec Ideal S4x2048x18344 .f32) (oa : FVec Ideal S4x2048x1024 .f32) (ob : FVec Ideal S4x2048x8x128 .f32)
    (oc : FVec Ideal S4x2048x1024 .f32) (wb : FVec Ideal S3x1024x2048 .f32) (wo : FVec Ideal S2048x2048 .f32) (g z : FVec Ideal S2048 .f32) (b : Fin 4) (s d : Fin 2048) :
    REF x h oa ob oc wb wo g z (ix3 b s d)
      = Cert.Layer.LN (fun e => Cert.Layer.RES (x (ix3 b s e)) (fun f => MROW h oa ob oc wb b s f) (fun f => wo (ix2 f e))) (g (ix1 d)) (z (ix1 d)) d := by
  unfold REF Cert.Layer.LN
  rw [scaled_at]
  simp only [centred_at, resid_at, mrow_at]

end Cert.Reference3Ideal.Merge
end
-- ==== Proof.MergePerm.lean ====
/- The arrays the merge kernel reads, over its arguments, and its body at an index. -/
module

public import proofs.«01_k».proof.Proof.Gen.Kernel3Ideal.Frame
public import Idealize.ShloMosaic.Lib.Pipeline.ValueKit
public import Idealize.ShloMosaic.Lib.Claim
public import proofs.«01_k».proof.Proof.MergeRef

@[expose] public section

set_option maxRecDepth 16384

noncomputable section

namespace Cert.Kernel3Ideal.Merge

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ)

/-- The number of grid points. -/
theorem lt_N (t : Fin cfg0.N) : t.val < 64 := t.isLt

/-- The block indices of the windows. -/
theorem idx : ∀ t : Fin cfg0.N, win0_0.index t = ![t.val, 0] ∧ win0_1.index t = ![t.val, 0] ∧ win0_2.index t = ![t.val, 0]
    ∧ win0_3.index t = ![t.val, 1] ∧ win0_4.index t = ![t.val, 3] ∧ win0_5.index t = ![t.val, 5]
    ∧ win0_6.index t = ![t.val, 1] ∧ win0_7.index t = ![t.val, 0] ∧ win0_8.index t = ![0, 0, 0] ∧ win0_9.index t = ![0, 0]
    ∧ win0_10.index t = ![0, 0] ∧ win0_11.index t = ![0, 0] ∧ win0_12.index t = ![t.val, 0] := (by decide +kernel : ∀ t : Fin grid0.N, _)

/-- The body's result at an index. -/
theorem out_row (x0 x1 x2 x3 x4 x5 : Vec Ideal S128x1024 .f32) (x6 : Vec Ideal S128x6144 .f32) (x7 : Vec Ideal S128x2048 .f32) (x8 : Vec Ideal S3x1024x2048 .bf16)
    (x9 : Vec Ideal S2048x2048 .bf16) (x10 x11 : Vec Ideal S1x2048 .f32) (r : Fin 128) (d : Fin 2048) :
    k0_pay8 (k0_pay5 (k0_pay1 (View.ld x3 r0_0) (View.ld x0 r0_0) (View.ld x8 r0_1) (View.ld x6 r0_2)) (k0_pay2 (View.ld x4 r0_0)) (k0_pay3 (View.ld x1 r0_0)) (k0_pay4 (View.ld x4 r0_0)) (Scalar.ofBits .f32 0x3F800000#32) (View.ld x8 r0_3) (View.ld x6 r0_4))
      (k0_pay6 (View.ld x5 r0_0) (View.ld x2 r0_0) (View.ld x8 r0_5)) (k0_pay7 (View.ld x6 r0_6)) (View.ld x9 r0_7) (View.ld x7 r0_8) (View.ld x10 r0_9) (View.ld x11 r0_9) (ix2 r d)
      = Cert.Layer.LN (fun e => Cert.Layer.RES (x7 (ix2 r e)) (fun f => Cert.Layer.MX (fun k => x0 (ix2 r k)) (fun k => x1 (ix2 r k)) (fun k => x2 (ix2 r k))
          (fun k => x3 (ix2 r k)) (fun k => x4 (ix2 r k)) (fun k => x5 (ix2 r k)) (fun k => x8 (ix3 0 k f)) (fun k => x8 (ix3 1 k f)) (fun k => x8 (ix3 2 k f))
          (x6 (ix2 r ⟨f, by omega⟩)) (x6 (ix2 r ⟨2048 + f, by omega⟩)) (x6 (ix2 r ⟨4096 + f, by omega⟩))) (fun f => x9 (ix2 f e)))
        (x10 (ix2 0 d)) (x11 (ix2 0 d)) d := by
  pointwise [k0_pay8, k0_pay7, k0_pay6, k0_pay5, k0_pay1, k0_pay2, k0_pay3, k0_pay4]
  simp only [zero_sub]
  rfl

/-- The permuted rows. -/
def PERM (x : FVec Ideal S8192x18344 .f32) : FVec Ideal S8192x18432 .f32 :=
  concatenate S8192x18432 1 [⟨S8192x1024, extractStridedSlice S8192x1024 ![0, 0] x slices_S8192x18344_S8192x1024_0_0⟩,
    ⟨S8192x1024, extractStridedSlice S8192x1024 ![0, 2584] x slices_S8192x18344_S8192x1024_0_2584⟩,
    ⟨S8192x1024, extractStridedSlice S8192x1024 ![0, 3608] x slices_S8192x18344_S8192x1024_0_3608⟩,
    ⟨S8192x1024, extractStridedSlice S8192x1024 ![0, 7080] x slices_S8192x18344_S8192x1024_0_7080⟩,
    ⟨S8192x1024, extractStridedSlice S8192x1024 ![0, 8104] x slices_S8192x18344_S8192x1024_0_8104⟩,
    ⟨S8192x1024, extractStridedSlice S8192x1024 ![0, 11176] x slices_S8192x18344_S8192x1024_0_11176⟩,
    ⟨S8192x6144, extractStridedSlice S8192x6144 ![0, 12200] x slices_S8192x18344_S8192x6144_0_12200⟩,
    ⟨S8192x2048, extractStridedSlice S8192x2048 ![0, 4888] x slices_S8192x18344_S8192x2048_0_4888⟩,
    ⟨S8192x1024, extractStridedSlice S8192x1024 ![0, 9128] x slices_S8192x18344_S8192x1024_0_9128⟩,
    ⟨S8192x1024, extractStridedSlice S8192x1024 ![0, 10152] x slices_S8192x18344_S8192x1024_0_10152⟩,
    ⟨S8192x1536, extractStridedSlice S8192x1536 ![0, 1024] x slices_S8192x18344_S8192x1536_0_1024⟩,
    ⟨S8192x256, extractStridedSlice S8192x256 ![0, 4632] x slices_S8192x18344_S8192x256_0_4632⟩,
    ⟨S8192x128, extractStridedSlice S8192x128 ![0, 6936] x slices_S8192x18344_S8192x128_0_6936⟩,
    ⟨S8192x24, extractStridedSlice S8192x24 ![0, 2560] x slices_S8192x18344_S8192x24_0_2560⟩,
    ⟨S8192x16, extractStridedSlice S8192x16 ![0, 7064] x slices_S8192x18344_S8192x16_0_7064⟩,
    ⟨S8192x88, broadcastInDim S8192x88 ![] bcast_S_S8192x88 (constant S_ .f32 0x00000000#32)⟩]
    concatenates_S8192x1024_S8192x1024_S8192x1024_S8192x1024_S8192x1024_S8192x1024_S8192x6144_S8192x2048_S8192x1024_S8192x1024_S8192x1536_S8192x256_S8192x128_S8192x24_S8192x16_S8192x88_S8192x18432_d1

/-- The rows of all batches, one after another. -/
def FLAT (x : FVec Ideal S4x2048x18344 .f32) : FVec Ideal S8192x18344 .f32 := shapeCast S8192x18344 x shapeCasts_S4x2048x18344_S8192x18344

/-- A row of all batches' is a batch's. -/
theorem flat_at (x : FVec Ideal S4x2048x18344 .f32) (r : Fin 8192) (d : Fin 18344) :
    FLAT x (ix2 r d) = x (ix3 ⟨r / 2048, by omega⟩ ⟨r % 2048, by omega⟩ d) := by
  pointwise [FLAT]

/-- A row of all batches' is a batch's, for a branch. -/
theorem flat_branch (x : FVec Ideal S4x2048x1024 .f32) (r : Fin 8192) (d : Fin 1024) :
    shapeCast S8192x1024 x shapeCasts_S4x2048x1024_S8192x1024 (ix2 r d) = x (ix3 ⟨r / 2048, by omega⟩ ⟨r % 2048, by omega⟩ d) := by
  pointwise

/-- A row of all batches' is a batch's, for a branch of heads. -/
theorem flat_heads (x : FVec Ideal S4x2048x8x128 .f32) (r : Fin 8192) (d : Fin 1024) :
    shapeCast S8192x1024 x shapeCasts_S4x2048x8x128_S8192x1024 (ix2 r d) = x (ix4 ⟨r / 2048, by omega⟩ ⟨r % 2048, by omega⟩ ⟨d / 128, by omega⟩ ⟨d % 128, by omega⟩) := by
  pointwise

/-- A row of all batches' is a batch's, for the residual. -/
theorem flat_x (x : FVec Ideal S4x2048x2048 .f32) (r : Fin 8192) (d : Fin 2048) :
    shapeCast S8192x2048 x shapeCasts_S4x2048x2048_S8192x2048 (ix2 r d) = x (ix3 ⟨r / 2048, by omega⟩ ⟨r % 2048, by omega⟩ d) := by
  pointwise

/-- A vector as one row. -/
theorem flat_g (x : FVec Ideal S2048 .f32) (d : Fin 2048) : shapeCast S1x2048 x shapeCasts_S2048_S1x2048 (ix2 0 d) = x (ix1 d) := by
  pointwise

/-- Splitting the rows by batch and joining them again changes nothing. -/
theorem join_split (x : FVec Ideal S8192x18432 .f32) :
    shapeCast S8192x18432 (shapeCast S4x2048x18432 x shapeCasts_S8192x18432_S4x2048x18432) shapeCasts_S4x2048x18432_S8192x18432 = x := by
  funext y
  idx_vars y
  pointwise
  blk_ext

/-- The array the kernel reads is the permuted rows. -/
theorem V_perm (c : Dev nD) : V m c main_v24 = PERM (FLAT (m ((c : Thread nD τ).loc main_arg1))) := by
  refine Eq.trans (?_ : _ = shapeCast S8192x18432 (shapeCast S4x2048x18432 (PERM (FLAT (m ((c : Thread nD τ).loc main_arg1)))) shapeCasts_S8192x18432_S4x2048x18432) shapeCasts_S4x2048x18432_S8192x18432) (join_split _)
  unfold V V0
  simp only [List.flatten_cons, List.flatten_nil, List.append_nil]
  after_results
  rfl

/-- The arrays the kernel reads, over the arguments. -/
theorem V_oa (c : Dev nD) : V m c main_v21 = shapeCast S8192x1024 (m ((c : Thread nD τ).loc main_arg2)) shapeCasts_S4x2048x1024_S8192x1024 := by
  unfold V V0
  simp only [List.flatten_cons, List.flatten_nil, List.append_nil]
  after_results
  rfl
/-- The second branch's rows. -/
theorem V_ob (c : Dev nD) : V m c main_v22 = shapeCast S8192x1024 (m ((c : Thread nD τ).loc main_arg3)) shapeCasts_S4x2048x8x128_S8192x1024 := by
  unfold V V0
  simp only [List.flatten_cons, List.flatten_nil, List.append_nil]
  after_results
  rfl
/-- The third branch's rows. -/
theorem V_oc (c : Dev nD) : V m c main_v23 = shapeCast S8192x1024 (m ((c : Thread nD τ).loc main_arg4)) shapeCasts_S4x2048x1024_S8192x1024 := by
  unfold V V0
  simp only [List.flatten_cons, List.flatten_nil, List.append_nil]
  after_results
  rfl
/-- The residual's rows. -/
theorem V_x (c : Dev nD) : V m c main_v25 = shapeCast S8192x2048 (m ((c : Thread nD τ).loc main_arg0)) shapeCasts_S4x2048x2048_S8192x2048 := by
  unfold V V0
  simp only [List.flatten_cons, List.flatten_nil, List.append_nil]
  after_results
  rfl
/-- The branches' matrices. -/
theorem V_wb (c : Dev nD) : V m c main_v19 = (truncf .bf16 (m ((c : Thread nD τ).loc main_arg5) : FVec Ideal S3x1024x2048 .f32) bitsLt_bf16_f32 : FVec Ideal S3x1024x2048 .bf16) := by
  unfold V V0
  simp only [List.flatten_cons, List.flatten_nil, List.append_nil]
  after_results
/-- The output matrix. -/
theorem V_wo (c : Dev nD) : V m c main_v20 = (truncf .bf16 (m ((c : Thread nD τ).loc main_arg6) : FVec Ideal S2048x2048 .f32) bitsLt_bf16_f32 : FVec Ideal S2048x2048 .bf16) := by
  unfold V V0
  simp only [List.flatten_cons, List.flatten_nil, List.append_nil]
  after_results
/-- The gains. -/
theorem V_g (c : Dev nD) : V m c main_v26 = shapeCast S1x2048 (m ((c : Thread nD τ).loc main_arg7)) shapeCasts_S2048_S1x2048 := by
  unfold V V0
  simp only [List.flatten_cons, List.flatten_nil, List.append_nil]
  after_results
  rfl
/-- The offsets. -/
theorem V_b (c : Dev nD) : V m c main_v27 = shapeCast S1x2048 (m ((c : Thread nD τ).loc main_arg8)) shapeCasts_S2048_S1x2048 := by
  unfold V V0
  simp only [List.flatten_cons, List.flatten_nil, List.append_nil]
  after_results
  rfl

/-- A column read keeps its row. -/
theorem off_axis {R C D : ℕ} (r r' : Fin R) (x : Fin C) (x' : Fin D) (hr : r = r' := by rfl) :
    ∀ b : Fin 2, b ≠ 1 → ((ix2 r x b : Fin _) : ℕ) = (ix2 r' x' b : Fin _)
  | 0 => fun _ => by subst hr; rfl
  | 1 => fun h => absurd rfl h

/-- The permuted rows, at the first gate. -/
theorem perm_a (X : FVec Ideal S8192x18344 .f32) (r : Fin 8192) (x : Fin 1024) :
    PERM X (ix2 r ⟨1024 + x, by omega⟩) = X (ix2 r ⟨2584 + x, by omega⟩) := by
  unfold PERM
  refine (concatenate_apply_piece (t := S8192x18432) 1 _ _ _ 1 (by simp) S8192x1024 _ rfl rfl 1024 (by simp) (ix2 r x) (off_axis r _ x _) rfl).trans ?_
  pointwise

/-- The permuted rows, at the second gate. -/
theorem perm_b (X : FVec Ideal S8192x18344 .f32) (r : Fin 8192) (x : Fin 1024) :
    PERM X (ix2 r ⟨3072 + x, by omega⟩) = X (ix2 r ⟨7080 + x, by omega⟩) := by
  unfold PERM
  refine (concatenate_apply_piece (t := S8192x18432) 1 _ _ _ 3 (by simp) S8192x1024 _ rfl rfl 3072 (by simp) (ix2 r x) (off_axis r _ x _) rfl).trans ?_
  pointwise

/-- The permuted rows, at the third gate. -/
theorem perm_c (X : FVec Ideal S8192x18344 .f32) (r : Fin 8192) (x : Fin 1024) :
    PERM X (ix2 r ⟨5120 + x, by omega⟩) = X (ix2 r ⟨11176 + x, by omega⟩) := by
  unfold PERM
  refine (concatenate_apply_piece (t := S8192x18432) 1 _ _ _ 5 (by simp) S8192x1024 _ rfl rfl 5120 (by simp) (ix2 r x) (off_axis r _ x _) rfl).trans ?_
  pointwise

/-- The permuted rows, at the gates of the merge. -/
theorem perm_m (X : FVec Ideal S8192x18344 .f32) (r : Fin 8192) (x : Fin 6144) :
    PERM X (ix2 r ⟨6144 + x, by omega⟩) = X (ix2 r ⟨12200 + x, by omega⟩) := by
  unfold PERM
  refine (concatenate_apply_piece (t := S8192x18432) 1 _ _ _ 6 (by simp) S8192x6144 _ rfl rfl 6144 (by simp) (ix2 r x) (off_axis r _ x _) rfl).trans ?_
  pointwise

end Cert.Kernel3Ideal.Merge
end
-- ==== Proof.MergeKernel.lean ====
/- The merge kernel's result array is the reference's function of the arguments. -/
module

public import proofs.«01_k».proof.Proof.Gen.Kernel3Ideal.Frame
public import Idealize.ShloMosaic.Lib.Pipeline.ValueKit
public import Idealize.ShloMosaic.Lib.Claim
public import proofs.«01_k».proof.Proof.MergePerm

@[expose] public section

set_option maxRecDepth 16384

noncomputable section

namespace Cert.Kernel3Ideal.Merge

open Idealize.ShloMosaic Idealize.ShloMosaic.TcCoe Idealize.SL.Sem
open Cert.Kernel3Ideal Cert.Kernel3Ideal.Gen
open Idealize.ShloMosaic.Pipeline (Dat)

variable (m : (ℓ : Loc nD τ sig) → Buf (Elt Ideal) ℓ)

/-- The block of the first gate, as a block of any contents. -/
theorem za_blk (c : Dev nD) (A : (b : Ref sig .tc) → Buf (Elt Ideal) ((c : Thread nD τ).loc b)) (t : Fin cfg0.N) (r : Fin 128) (x : Fin 1024) :
    (((cfg0.win 3).blk t).view.read (Elt Ideal) (A (Pipeline.arrRef spec0 3)) : FVec Ideal S128x1024 .f32) (ix2 r x) = A main_v24 (ix2 ⟨t.val * 128 + r, by have := lt_N t; omega⟩ ⟨1024 + x, by omega⟩) := by
  have := lt_N t
  refine (rfl : _ = A main_v24 ((win0_3.blk t).view.emb (ix2 r x))).trans (congrArg (A main_v24) ?_)
  blk_ext [idx t]

/-- The block of the first gate. -/
theorem za_read (c : Dev nD) (t : Fin cfg0.N) (r : Fin 128) (x : Fin 1024) :
    (iblk m c 3 t : FVec Ideal S128x1024 .f32) (ix2 r x) = m ((c : Thread nD τ).loc main_arg1) (ix3 ⟨(t.val * 128 + r) / 2048, by have := lt_N t; omega⟩ ⟨(t.val * 128 + r) % 2048, by omega⟩ ⟨2584 + x, by omega⟩) := by
  unfold iblk
  rw [za_blk c (V m c)]
  exact (congrFun (V_perm m c) _).trans ((perm_a _ _ _).trans (flat_at _ _ _))

/-- The block of the second gate, as a block of any contents. -/
theorem zb_blk (c : Dev nD) (A : (b : Ref sig .tc) → Buf (Elt Ideal) ((c : Thread nD τ).loc b)) (t : Fin cfg0.N) (r : Fin 128) (x : Fin 1024) :
    (((cfg0.win 4).blk t).view.read (Elt Ideal) (A (Pipeline.arrRef spec0 4)) : FVec Ideal S128x1024 .f32) (ix2 r x) = A main_v24 (ix2 ⟨t.val * 128 + r, by have := lt_N t; omega⟩ ⟨3072 + x, by omega⟩) := by
  have := lt_N t
  refine (rfl : _ = A main_v24 ((win0_4.blk t).view.emb (ix2 r x))).trans (congrArg (A main_v24) ?_)
  blk_ext [idx t]

/-- The block of the second gate. -/
theorem zb_read (c : Dev nD) (t : Fin cfg0.N) (r : Fin 128) (x : Fin 1024) :
    (iblk m c 4 t : FVec Ideal S128x1024 .f32) (ix2 r x) = m ((c : Thread nD τ).loc main_arg1) (ix3 ⟨(t.val * 128 + r) / 2048, by have := lt_N t; omega⟩ ⟨(t.val * 128 + r) % 2048, by omega⟩ ⟨7080 + x, by omega⟩) := by
  unfold iblk
  rw [zb_blk c (V m c)]
  exact (congrFun (V_perm m c) _).trans ((perm_b _ _ _).trans (flat_at _ _ _))

/-- The block of the third gate, as a block of any contents. -/
theorem zc_blk (c : Dev nD) (A : (b : Ref sig .tc) → Buf (Elt Ideal) ((c : Thread nD τ).loc b)) (t : Fin cfg0.N) (r : Fin 128) (x : Fin 1024) :
    (((cfg0.win 5).blk t).view.read (Elt Ideal) (A (Pipeline.arrRef spec0 5)) : FVec Ideal S128x1024 .f32) (ix2 r x) = A main_v24 (ix2 ⟨t.val * 128 + r, by have := lt_N t; omega⟩ ⟨5120 + x, by omega⟩) := by
  have := lt_N t
  refine (rfl : _ = A main_v24 ((win0_5.blk t).view.emb (ix2 r x))).trans (congrArg (A main_v24) ?_)
  blk_ext [idx t]

/-- The block of the third gate. -/
theorem zc_read (c : Dev nD) (t : Fin cfg0.N) (r : Fin 128) (x : Fin 1024) :
    (iblk m c 5 t : FVec Ideal S128x1024 .f32) (ix2 r x) = m ((c : Thread nD τ).loc main_arg1) (ix3 ⟨(t.val * 128 + r) / 2048, by have := lt_N t; omega⟩ ⟨(t.val * 128 + r) % 2048, by omega⟩ ⟨11176 + x, by omega⟩) := by
  unfold iblk
  rw [zc_blk c (V m c)]
  exact (congrFun (V_perm m c) _).trans ((perm_c _ _ _).trans (flat_at _ _ _))

/-- The block of the gates of the merge, as a block of any contents. -/
theorem zm_blk (c : Dev nD) (A : (b : Ref sig .tc) → Buf (Elt Ideal) ((c : Thread nD τ).loc b)) (t : Fin cfg0.N) (r : Fin 128) (x : Fin 6144) :
    (((cfg0.win 6).blk t).view.read (Elt Ideal) (A (Pipeline.arrRef spec0 6)) : FVec Ideal S128x6144 .f32) (ix2 r x) = A main_v24 (ix2 ⟨t.val * 128 + r, by have := lt_N t; omega⟩ ⟨6144 + x, by omega⟩) := by
  have := lt_N t
  refine (rfl : _ = A main_v24 ((win0_6.blk t).view.emb (ix2 r x))).trans (congrArg (A main_v24) ?_)
  blk_ext [idx t]

/-- The block of the gates of the merge. -/
theorem zm_read (c : Dev nD) (t : Fin cfg0.N) (r : Fin 128) (x : Fin 6144) :
    (iblk m c 6 t : FVec Ideal S128x6144 .f32) (ix2 r x) = m ((c : Thread nD τ).loc main_arg1) (ix3 ⟨(t.val * 128 + r) / 2048, by have := lt_N t; omega⟩ ⟨(t.val * 128 + r) % 2048, by omega⟩ ⟨12200 + x, by omega⟩) := by
  unfold iblk
  rw [zm_blk c (V m c)]
  exact (congrFun (V_perm m c) _).trans ((perm_m _ _ _).trans (flat_at _ _ _))

/-- The block of the first branch, as a block of any contents. -/
theorem oa_blk (c : Dev nD) (A : (b : Ref sig .tc) → Buf (Elt Ideal) ((c : Thread nD τ).loc b)) (t : Fin cfg0.N) (r : Fin 128) (x : Fin 1024) :
    (((cfg0.win 0).blk t).view.read (Elt Ideal) (A (Pipeline.arrRef spec0 0)) : FVec Ideal S128x1024 .f32) (ix2 r x) = A main_v21 (ix2 ⟨t.val * 128 + r, by have := lt_N t; omega⟩ x) := by
  have := lt_N t
  refine (rfl : _ = A main_v21 ((win0_0.blk t).view.emb (ix2 r x))).trans (congrArg (A main_v21) ?_)
  blk_ext [idx t]

/-- The block of the first branch. -/
theorem oa_read (c : Dev nD) (t : Fin cfg0.N) (r : Fin 128) (x : Fin 1024) :
    (iblk m c 0 t : FVec Ideal S128x1024 .f32) (ix2 r x) = m ((c : Thread nD τ).loc main_arg2) (ix3 ⟨(t.val * 128 + r) / 2048, by have := lt_N t; omega⟩ ⟨(t.val * 128 + r) % 2048, by omega⟩ x) := by
  unfold iblk
  rw [oa_blk c (V m c)]
  exact (congrFun (V_oa m c) _).trans (flat_branch _ _ _)

/-- The block of the third branch, as a block of any contents. -/
theorem oc_blk (c : Dev nD) (A : (b : Ref sig .tc) → Buf (Elt Ideal) ((c : Thread nD τ).loc b)) (t : Fin cfg0.N) (r : Fin 128) (x : Fin 1024) :
    (((cfg0.win 2).blk t).view.read (Elt Ideal) (A (Pipeline.arrRef spec0 2)) : FVec Ideal S128x1024 .f32) (ix2 r x) = A main_v23 (ix2 ⟨t.val * 128 + r, by have := lt_N t; omega⟩ x) := by
  have := lt_N t
  refine (rfl : _ = A main_v23 ((win0_2.blk t).view.emb (ix2 r x))).trans (congrArg (A main_v23) ?_)
  blk_ext [idx t]

/-- The block of the third branch. -/
theorem oc_read (c : Dev nD) (t : Fin cfg0.N) (r : Fin 128) (x : Fin 1024) :
    (iblk m c 2 t : FVec Ideal S128x1024 .f32) (ix2 r x) = m ((c : Thread nD τ).loc main_arg4) (ix3 ⟨(t.val * 128 + r) / 2048, by have := lt_N t; omega⟩ ⟨(t.val * 128 + r) % 2048, by omega⟩ x) := by
  unfold iblk
  rw [oc_blk c (V m c)]
  exact (congrFun (V_oc m c) _).trans (flat_branch _ _ _)

/-- The block of the residual, as a block of any contents. -/
theorem x_blk (c : Dev nD) (A : (b : Ref sig .tc) → Buf (Elt Ideal) ((c : Thread nD τ).loc b)) (t : Fin cfg0.N) (r : Fin 128) (x : Fin 2048) :
    (((cfg0.win 7).blk t).view.read (Elt Ideal) (A (Pipeline.arrRef spec0 7)) : FVec Ideal S128x2048 .f32) (ix2 r x) = A main_v25 (ix2 ⟨t.val * 128 + r, by have := lt_N t; omega⟩ x) := by
  have := lt_N t
  refine (rfl : _ = A main_v25 ((win0_7.blk t).view.emb (ix2 r x))).trans (congrArg (A main_v25) ?_)
  blk_ext [idx t]

/-- The block of the residual. -/
theorem x_read (c : Dev nD) (t : Fin cfg0.N) (r : Fin 128) (x : Fin 2048) :
    (iblk m c 7 t : FVec Ideal S128x2048 .f32) (ix2 r x) = m ((c : Thread nD τ).loc main_arg0) (ix3 ⟨(t.val * 128 + r) / 2048, by have := lt_N t; omega⟩ ⟨(t.val * 128 + r) % 2048, by omega⟩ x) := by
  unfold iblk
  rw [x_blk c (V m c)]
  exact (congrFun (V_x m c) _).trans (flat_x _ _ _)

/-- The block of the second branch, as a block of any contents. -/
theorem ob_blk (c : Dev nD) (A : (b : Ref sig .tc) → Buf (Elt Ideal) ((c : Thread nD τ).loc b)) (t : Fin cfg0.N) (r : Fin 128) (x : Fin 1024) :
    (((cfg0.win 1).blk t).view.read (Elt Ideal) (A (Pipeline.arrRef spec0 1)) : FVec Ideal S128x1024 .f32) (ix2 r x) = A main_v22 (ix2 ⟨t.val * 128 + r, by have := lt_N t; omega⟩ x) := by
  have := lt_N t
  refine (rfl : _ = A main_v22 ((win0_1.blk t).view.emb (ix2 r x))).trans (congrArg (A main_v22) ?_)
  blk_ext [idx t]

/-- The block of the second branch. -/
theorem ob_read (c : Dev nD) (t : Fin cfg0.N) (r : Fin 128) (x : Fin 1024) :
    (iblk m c 1 t : FVec Ideal S128x1024 .f32) (ix2 r x) = m ((c : Thread nD τ).loc main_arg3) (ix4 ⟨(t.val * 128 + r) / 2048, by have := lt_N t; omega⟩ ⟨(t.val * 128 + r) % 2048, by omega⟩ ⟨x / 128, by omega⟩ ⟨x % 128, by omega⟩) := by
  unfold iblk
  rw [ob_blk c (V m c)]
  exact (congrFun (V_ob m c) _).trans (flat_heads _ _ _)

/-- The branches' matrices, as a block of any contents. -/
theorem wb_blk (c : Dev nD) (A : (b : Ref sig .tc) → Buf (Elt Ideal) ((c : Thread nD τ).loc b)) (t : Fin cfg0.N) (n : Fin 3) (k : Fin 1024) (d : Fin 2048) :
    (((cfg0.win 8).blk t).view.read (Elt Ideal) (A (Pipeline.arrRef spec0 8)) : FVec Ideal S3x1024x2048 .bf16) (ix3 n k d) = A main_v19 (ix3 n k d) := by
  have := lt_N t
  refine (rfl : _ = A main_v19 ((win0_8.blk t).view.emb (ix3 n k d))).trans (congrArg (A main_v19) ?_)
  blk_ext [idx t]

/-- The branches' matrices. -/
theorem wb_read (c : Dev nD) (t : Fin cfg0.N) (n : Fin 3) (k : Fin 1024) (d : Fin 2048) :
    (iblk m c 8 t : FVec Ideal S3x1024x2048 .bf16) (ix3 n k d) = m ((c : Thread nD τ).loc main_arg5) (ix3 n k d) := by
  unfold iblk
  rw [wb_blk c (V m c)]
  exact congrFun (V_wb m c) (ix3 n k d)

/-- The output matrix, as a block of any contents. -/
theorem wo_blk (c : Dev nD) (A : (b : Ref sig .tc) → Buf (Elt Ideal) ((c : Thread nD τ).loc b)) (t : Fin cfg0.N) (k d : Fin 2048) :
    (((cfg0.win 9).blk t).view.read (Elt Ideal) (A (Pipeline.arrRef spec0 9)) : FVec Ideal S2048x2048 .bf16) (ix2 k d) = A main_v20 (ix2 k d) := by
  have := lt_N t
  refine (rfl : _ = A main_v20 ((win0_9.blk t).view.emb (ix2 k d))).trans (congrArg (A main_v20) ?_)
  blk_ext [idx t]

/-- The output matrix. -/
theorem wo_read (c : Dev nD) (t : Fin cfg0.N) (k d : Fin 2048) :
    (iblk m c 9 t : FVec Ideal S2048x2048 .bf16) (ix2 k d) = m ((c : Thread nD τ).loc main_arg6) (ix2 k d) := by
  unfold iblk
  rw [wo_blk c (V m c)]
  exact congrFun (V_wo m c) (ix2 k d)

/-- The gains of the normalisation, as a block of any contents. -/
theorem g_blk (c : Dev nD) (A : (b : Ref sig .tc) → Buf (Elt Ideal) ((c : Thread nD τ).loc b)) (t : Fin cfg0.N) (d : Fin 2048) :
    (((cfg0.win 10).blk t).view.read (Elt Ideal) (A (Pipeline.arrRef spec0 10)) : FVec Ideal S1x2048 .f32) (ix2 0 d) = A main_v26 (ix2 0 d) := by
  have := lt_N t
  refine (rfl : _ = A main_v26 ((win0_10.blk t).view.emb (ix2 0 d))).trans (congrArg (A main_v26) ?_)
  blk_ext [idx t]

/-- The gains of the normalisation. -/
theorem g_read (c : Dev nD) (t : Fin cfg0.N) (d : Fin 2048) :
    (iblk m c 10 t : FVec Ideal S1x2048 .f32) (ix2 0 d) = m ((c : Thread nD τ).loc main_arg7) (ix1 d) := by
  unfold iblk
  rw [g_blk c (V m c)]
  exact (congrFun (V_g m c) (ix2 0 d)).trans (flat_g _ _)

/-- The offsets of the normalisation, as a block of any contents. -/
theorem b_blk (c : Dev nD) (A : (b : Ref sig .tc) → Buf (Elt Ideal) ((c : Thread nD τ).loc b)) (t : Fin cfg0.N) (d : Fin 2048) :
    (((cfg0.win 11).blk t).view.read (Elt Ideal) (A (Pipeline.arrRef spec0 11)) : FVec Ideal S1x2048 .f32) (ix2 0 d) = A main_v27 (ix2 0 d) := by
  have := lt_N t
  refine (rfl : _ = A main_v27 ((win0_11.blk t).view.emb (ix2 0 d))).trans (congrArg (A main_v27) ?_)
  blk_ext [idx t]

/-- The offsets of the normalisation. -/
theorem b_read (c : Dev nD) (t : Fin cfg0.N) (d : Fin 2048) :
    (iblk m c 11 t : FVec Ideal S1x2048 .f32) (ix2 0 d) = m ((c : Thread nD τ).loc main_arg8) (ix1 d) := by
  unfold iblk
  rw [b_blk c (V m c)]
  exact (congrFun (V_b m c) (ix2 0 d)).trans (flat_g _ _)

/-- The reference's result over this program's arguments. -/
def RES (c : Dev nD) : FVec Ideal S4x2048x2048 .f32 :=
  Cert.Reference3Ideal.Merge.REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The kernel's result array is the reference's, all batches' rows one after another. -/
theorem final (c : Dev nD) : (dats m 0 c).arrAt 12 (cfgs 0).N = shapeCast S8192x2048 (RES m c) shapeCasts_S4x2048x2048_S8192x2048 := by
  refine (dats m 0 c).arrAt_eq_of_covers 12 _ (by decide +kernel) fun t _ y => ?_
  have := lt_N t
  blk_simp
  rw [after0_12]
  idx_vars y
  unfold out0_12
  have e : ((View.whole main_v28).slice (win0_12.rect t)).emb (ix2 y0 y1) = (ix2 ⟨t.val * 128 + y0, by omega⟩ y1 : S8192x2048.Idx) := by
    blk_ext [idx t]
  have e' : (ix2 y0 y1 : S128x2048.Idx) = r0_8.emb (ix2 y0 y1) := by
    blk_ext
  rw [e, flat_x, e', View.canon_cons_emb, out_row]
  unfold RES
  rw [Cert.Reference3Ideal.Merge.ref_at]
  simp only [oa_read, ob_read, oc_read, za_read, zb_read, zc_read, zm_read, x_read, wb_read, wo_read, g_read, b_read]
  have g1 : ∀ f : Fin 2048, (⟨12200 + (2048 + f.val), by omega⟩ : Fin 18344) = ⟨14248 + f.val, by omega⟩ :=
    fun f => Fin.ext (by simp only; omega)
  have g2 : ∀ f : Fin 2048, (⟨12200 + (4096 + f.val), by omega⟩ : Fin 18344) = ⟨16296 + f.val, by omega⟩ :=
    fun f => Fin.ext (by simp only; omega)
  simp only [g1, g2, Cert.Reference3Ideal.Merge.MROW]

end Cert.Kernel3Ideal.Merge
end
-- ==== Proof.MergeValue.lean ====
/- The claims about the merge's programs. -/
module

public import proofs.«01_k».proof.Defs
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.MergeKernel
public import Idealize.ShloMosaic.Lib.Claim
public import Idealize.ShloMosaic.Adequacy
public import Idealize.ShloMosaic.Init

@[expose] public section

noncomputable section

namespace Cert.Proof

open Idealize.ShloMosaic Idealize.SL.Sem

/-- The kernel's result is its result array as the reference's shape. -/
theorem merge_tail (m : (ℓ : Loc Cert.Kernel3Ideal.nD Cert.Kernel3Ideal.τ Cert.Kernel3Ideal.sig) → Buf (Elt Ideal) ℓ) (c : Dev Cert.Kernel3Ideal.nD) :
    Pipeline.afterTail₀ Cert.Kernel3Ideal.cfgs (Cert.Kernel3Ideal.Gen.dats m) 0 (Cert.Kernel3Ideal.Gen.V0 m) [Cert.Kernel3Ideal.Gen.hostOps1] c Cert.Kernel3Ideal.main_v29 =
      Cert.Kernel3Ideal.Merge.RES m c := by
  have e := Pipeline.withArrays_arr_shared Cert.Kernel3Ideal.spec0 c (Cert.Kernel3Ideal.Gen.V0 m c) (fun w => (Cert.Kernel3Ideal.Gen.dats m 0 c).arrAt w (Cert.Kernel3Ideal.cfgs 0).N)
    (Pipeline.Dat.arrAt_sharedIn (Cert.Kernel3Ideal.Gen.dats m 0 c) (by decide) _ (fun w => Cert.Kernel3Ideal.Gen.A_eq m c w) _) 12
  unfold Pipeline.afterTail₀
  simp only [List.flatten_cons, List.flatten_nil, List.append_nil]
  after_results
  refine (congrArg (fun v => shapeCast Cert.Kernel3Ideal.S4x2048x2048 v _) (e.trans (Cert.Kernel3Ideal.Merge.final m c))).trans ?_
  exact shapeCast_shapeCast _ _ _

/-- The merge's kernel and reference have equal results. -/
theorem merge_value : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g & Cert.Kernel3Ideal.Gen.unchanged m g
  · run_from Cert.Reference3Ideal.Value.run m' g'
    obtain ⟨h0, h1, h2, h3, h4, h5, h6, h7, h8⟩ := hagree c
    refine (Cert.Reference3Ideal.Merge.res_eq m' c).trans ?_
    rw [h0, h1, h2, h3, h4, h5, h6, h7, h8]
    exact (merge_tail m c).symm

/-- The merge's reference runs and leaves its arguments. -/
theorem merge_ref : Cert.quiescent_Reference3Ideal (hReference3Ideal := Cert.Reference3Ideal.Gen.facts) := by
  intro m g _
  exact (θ_run Cert.Reference3Ideal.defs _ _).mono (fun r h => ⟨fun c => (h c).2, sem_eq_zero_of_no_sems rfl r.2⟩) (Cert.Reference3Ideal.Value.run m g)

end Cert.Proof

end
-- ==== Proof.ProjPerm.lean ====
/- The columns' permutation of the projection, undone. -/
module

public import proofs.«01_k».proof.Proof.Gen.Kernel2Ideal
public import Idealize.ShloMosaic.Lib.Pipeline.ValueKit
public import Idealize.ShloMosaic.Lib.Claim

@[expose] public section

set_option maxRecDepth 16384

noncomputable section

namespace Cert.Kernel2Ideal.Proj

open Idealize.ShloMosaic Idealize.ShloMosaic.TcCoe Idealize.SL.Sem
open Cert.Kernel2Ideal Cert.Kernel2Ideal.Gen

/-- A column of a matrix put together from slices, read in the slice it lies in. -/
theorem joined {R C n D : ℕ} (xs : List ((s : Shape) × (s.Idx → Ideal .f32))) (h : Shape.Concatenates (xs.map (·.1)) ⟨2, ![R, C]⟩ 1)
    (x : FVec Ideal ⟨2, ![R, D]⟩ .f32) (p s o : ℕ) (hp : p < xs.length) (hs : Shape.Slices ⟨2, ![R, D]⟩ ![0, s] ⟨2, ![R, n]⟩)
    (hx : xs[p] = ⟨⟨2, ![R, n]⟩, extractStridedSlice ⟨2, ![R, n]⟩ ![0, s] x hs⟩)
    (ho : (((xs.take p).map (·.1)).map fun s => if h : s.rank = 2 then s.size ((1 : Fin 2).cast h.symm) else 0).sum = o)
    (r : Fin R) (j : Fin C) (d : Fin D) (h1 : o ≤ j.val) (h2 : j.val < o + n) (h3 : d.val = s + (j.val - o)) :
    concatenate ⟨2, ![R, C]⟩ 1 xs h (ix2 r j) = x (ix2 r d) := by
  refine (concatenate_apply_piece (t := ⟨2, ![R, C]⟩) 1 xs h (ix2 r j) p hp _ _ hx rfl o ho (ix2 r (⟨j.val - o, by omega⟩ : Fin n)) ?_ ?_).trans
    (extractStridedSlice_apply _ _ _ _ _ ?_)
  · rintro b hb
    match b, hb with
    | 0, _ => rfl
    | 1, hb => exact absurd rfl hb
  · exact Nat.add_sub_cancel' h1
  · intro a
    match a with
    | 0 => exact (Nat.zero_add _).symm
    | 1 => exact h3

/-- A column of a batch of matrices put together from slices, read in the slice it lies in. -/
theorem joined_batch {B R C n D : ℕ} (xs : List ((s : Shape) × (s.Idx → Ideal .f32))) (h : Shape.Concatenates (xs.map (·.1)) ⟨3, ![B, R, C]⟩ 2)
    (x : FVec Ideal ⟨3, ![B, R, D]⟩ .f32) (p s o : ℕ) (hp : p < xs.length) (hs : Shape.Slices ⟨3, ![B, R, D]⟩ ![0, 0, s] ⟨3, ![B, R, n]⟩)
    (hx : xs[p] = ⟨⟨3, ![B, R, n]⟩, extractStridedSlice ⟨3, ![B, R, n]⟩ ![0, 0, s] x hs⟩)
    (ho : (((xs.take p).map (·.1)).map fun s => if h : s.rank = 3 then s.size ((2 : Fin 3).cast h.symm) else 0).sum = o)
    (b : Fin B) (r : Fin R) (j : Fin C) (d : Fin D) (h1 : o ≤ j.val) (h2 : j.val < o + n) (h3 : d.val = s + (j.val - o)) :
    concatenate ⟨3, ![B, R, C]⟩ 2 xs h (ix3 b r j) = x (ix3 b r d) := by
  refine (concatenate_apply_piece (t := ⟨3, ![B, R, C]⟩) 2 xs h (ix3 b r j) p hp _ _ hx rfl o ho (ix3 b r (⟨j.val - o, by omega⟩ : Fin n)) ?_ ?_).trans
    (extractStridedSlice_apply _ _ _ _ _ ?_)
  · rintro b hb
    match b, hb with
    | 0, _ => rfl
    | 1, _ => rfl
    | 2, hb => exact absurd rfl hb
  · exact Nat.add_sub_cancel' h1
  · intro a
    match a with
    | 0 => exact (Nat.zero_add _).symm
    | 1 => exact (Nat.zero_add _).symm
    | 2 => exact h3

/-- The permuted columns of the weights, and zeros. -/
def PERMW (w : FVec Ideal S2048x18344 .f32) : FVec Ideal S2048x18432 .f32 :=
  concatenate S2048x18432 1 [⟨S2048x1024, extractStridedSlice S2048x1024 ![0, 0] w slices_S2048x18344_S2048x1024_0_0⟩,
    ⟨S2048x1024, extractStridedSlice S2048x1024 ![0, 2584] w slices_S2048x18344_S2048x1024_0_2584⟩,
    ⟨S2048x1024, extractStridedSlice S2048x1024 ![0, 3608] w slices_S2048x18344_S2048x1024_0_3608⟩,
    ⟨S2048x1024, extractStridedSlice S2048x1024 ![0, 7080] w slices_S2048x18344_S2048x1024_0_7080⟩,
    ⟨S2048x1024, extractStridedSlice S2048x1024 ![0, 8104] w slices_S2048x18344_S2048x1024_0_8104⟩,
    ⟨S2048x1024, extractStridedSlice S2048x1024 ![0, 11176] w slices_S2048x18344_S2048x1024_0_11176⟩,
    ⟨S2048x6144, extractStridedSlice S2048x6144 ![0, 12200] w slices_S2048x18344_S2048x6144_0_12200⟩,
    ⟨S2048x2048, extractStridedSlice S2048x2048 ![0, 4888] w slices_S2048x18344_S2048x2048_0_4888⟩,
    ⟨S2048x1024, extractStridedSlice S2048x1024 ![0, 9128] w slices_S2048x18344_S2048x1024_0_9128⟩,
    ⟨S2048x1024, extractStridedSlice S2048x1024 ![0, 10152] w slices_S2048x18344_S2048x1024_0_10152⟩,
    ⟨S2048x1536, extractStridedSlice S2048x1536 ![0, 1024] w slices_S2048x18344_S2048x1536_0_1024⟩,
    ⟨S2048x256, extractStridedSlice S2048x256 ![0, 4632] w slices_S2048x18344_S2048x256_0_4632⟩,
    ⟨S2048x128, extractStridedSlice S2048x128 ![0, 6936] w slices_S2048x18344_S2048x128_0_6936⟩,
    ⟨S2048x24, extractStridedSlice S2048x24 ![0, 2560] w slices_S2048x18344_S2048x24_0_2560⟩,
    ⟨S2048x16, extractStridedSlice S2048x16 ![0, 7064] w slices_S2048x18344_S2048x16_0_7064⟩,
    ⟨S2048x88, broadcastInDim S2048x88 ![] bcast_S_S2048x88 (constant S_ .f32 0x00000000#32)⟩]
    concatenates_S2048x1024_S2048x1024_S2048x1024_S2048x1024_S2048x1024_S2048x1024_S2048x6144_S2048x2048_S2048x1024_S2048x1024_S2048x1536_S2048x256_S2048x128_S2048x24_S2048x16_S2048x88_S2048x18432_d1

/-- The columns put back. -/
def UNPERM (h : FVec Ideal S4x2048x18432 .f32) : FVec Ideal S4x2048x18344 .f32 :=
  concatenate S4x2048x18344 2 [⟨S4x2048x1024, extractStridedSlice S4x2048x1024 ![0, 0, 0] h slices_S4x2048x18432_S4x2048x1024_0_0_0⟩,
    ⟨S4x2048x1536, extractStridedSlice S4x2048x1536 ![0, 0, 16384] h slices_S4x2048x18432_S4x2048x1536_0_0_16384⟩,
    ⟨S4x2048x24, extractStridedSlice S4x2048x24 ![0, 0, 18304] h slices_S4x2048x18432_S4x2048x24_0_0_18304⟩,
    ⟨S4x2048x1024, extractStridedSlice S4x2048x1024 ![0, 0, 1024] h slices_S4x2048x18432_S4x2048x1024_0_0_1024⟩,
    ⟨S4x2048x1024, extractStridedSlice S4x2048x1024 ![0, 0, 2048] h slices_S4x2048x18432_S4x2048x1024_0_0_2048⟩,
    ⟨S4x2048x256, extractStridedSlice S4x2048x256 ![0, 0, 17920] h slices_S4x2048x18432_S4x2048x256_0_0_17920⟩,
    ⟨S4x2048x2048, extractStridedSlice S4x2048x2048 ![0, 0, 12288] h slices_S4x2048x18432_S4x2048x2048_0_0_12288⟩,
    ⟨S4x2048x128, extractStridedSlice S4x2048x128 ![0, 0, 18176] h slices_S4x2048x18432_S4x2048x128_0_0_18176⟩,
    ⟨S4x2048x16, extractStridedSlice S4x2048x16 ![0, 0, 18328] h slices_S4x2048x18432_S4x2048x16_0_0_18328⟩,
    ⟨S4x2048x1024, extractStridedSlice S4x2048x1024 ![0, 0, 3072] h slices_S4x2048x18432_S4x2048x1024_0_0_3072⟩,
    ⟨S4x2048x1024, extractStridedSlice S4x2048x1024 ![0, 0, 4096] h slices_S4x2048x18432_S4x2048x1024_0_0_4096⟩,
    ⟨S4x2048x1024, extractStridedSlice S4x2048x1024 ![0, 0, 14336] h slices_S4x2048x18432_S4x2048x1024_0_0_14336⟩,
    ⟨S4x2048x1024, extractStridedSlice S4x2048x1024 ![0, 0, 15360] h slices_S4x2048x18432_S4x2048x1024_0_0_15360⟩,
    ⟨S4x2048x1024, extractStridedSlice S4x2048x1024 ![0, 0, 5120] h slices_S4x2048x18432_S4x2048x1024_0_0_5120⟩,
    ⟨S4x2048x6144, extractStridedSlice S4x2048x6144 ![0, 0, 6144] h slices_S4x2048x18432_S4x2048x6144_0_0_6144⟩]
    concatenates_S4x2048x1024_S4x2048x1536_S4x2048x24_S4x2048x1024_S4x2048x1024_S4x2048x256_S4x2048x2048_S4x2048x128_S4x2048x16_S4x2048x1024_S4x2048x1024_S4x2048x1024_S4x2048x1024_S4x2048x1024_S4x2048x6144_S4x2048x18344_d2

/-- Where the permutation puts a column. -/
def DEST (e : ℕ) : ℕ :=
  if e < 1024 then 0 + (e - 0) else
  if e < 2560 then 16384 + (e - 1024) else
  if e < 2584 then 18304 + (e - 2560) else
  if e < 3608 then 1024 + (e - 2584) else
  if e < 4632 then 2048 + (e - 3608) else
  if e < 4888 then 17920 + (e - 4632) else
  if e < 6936 then 12288 + (e - 4888) else
  if e < 7064 then 18176 + (e - 6936) else
  if e < 7080 then 18328 + (e - 7064) else
  if e < 8104 then 3072 + (e - 7080) else
  if e < 9128 then 4096 + (e - 8104) else
  if e < 10152 then 14336 + (e - 9128) else
  if e < 11176 then 15360 + (e - 10152) else
  if e < 12200 then 5120 + (e - 11176) else
  6144 + (e - 12200)

/-- A number chosen by a comparison is one of the two. -/
theorem of_ite {e n a b d : ℕ} (h : (if e < n then a else b) = d) : (e < n ∧ d = a) ∨ (¬ e < n ∧ b = d) := by
  by_cases g : e < n
  · exact .inl ⟨g, (if_pos g ▸ h).symm⟩
  · exact .inr ⟨g, (if_neg g).symm.trans h⟩

/-- The pieces of the columns, and where each begins. -/
theorem dest_cases (e : ℕ) (he : e < 18344) : (0 ≤ e ∧ e < 1024 ∧ DEST e = 0 + (e - 0)) ∨ (1024 ≤ e ∧ e < 2560 ∧ DEST e = 16384 + (e - 1024)) ∨ (2560 ≤ e ∧ e < 2584 ∧ DEST e = 18304 + (e - 2560)) ∨ (2584 ≤ e ∧ e < 3608 ∧ DEST e = 1024 + (e - 2584)) ∨ (3608 ≤ e ∧ e < 4632 ∧ DEST e = 2048 + (e - 3608)) ∨ (4632 ≤ e ∧ e < 4888 ∧ DEST e = 17920 + (e - 4632)) ∨ (4888 ≤ e ∧ e < 6936 ∧ DEST e = 12288 + (e - 4888)) ∨ (6936 ≤ e ∧ e < 7064 ∧ DEST e = 18176 + (e - 6936)) ∨ (7064 ≤ e ∧ e < 7080 ∧ DEST e = 18328 + (e - 7064)) ∨ (7080 ≤ e ∧ e < 8104 ∧ DEST e = 3072 + (e - 7080)) ∨ (8104 ≤ e ∧ e < 9128 ∧ DEST e = 4096 + (e - 8104)) ∨ (9128 ≤ e ∧ e < 10152 ∧ DEST e = 14336 + (e - 9128)) ∨ (10152 ≤ e ∧ e < 11176 ∧ DEST e = 15360 + (e - 10152)) ∨ (11176 ≤ e ∧ e < 12200 ∧ DEST e = 5120 + (e - 11176)) ∨ (12200 ≤ e ∧ e < 18344 ∧ DEST e = 6144 + (e - 12200)) := by
  generalize hd : DEST e = d
  unfold DEST at hd
  iterate 14
    refine (of_ite hd).imp (fun h => ⟨by omega, h⟩) ?_
    rintro ⟨_, hd⟩
  exact ⟨by omega, he, hd.symm⟩

/-- The permutation stays within the columns. -/
theorem dest_lt (e : ℕ) (he : e < 18344) : DEST e < 18432 := by
  rcases dest_cases e he with ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ <;> omega

/-- A column of the permuted weights. -/
theorem permw_at (w : FVec Ideal S2048x18344 .f32) (k : Fin 2048) (e : Fin 18344) :
    PERMW w (ix2 k ⟨DEST e.val, dest_lt _ e.isLt⟩) = w (ix2 k e) := by
  rcases dest_cases e.val e.isLt with ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩
  · exact joined (n := 1024) _ _ w 0 0 0 (by simp) _ rfl (by simp) _ _ _ (by dsimp only; omega) (by dsimp only; omega) (by dsimp only; omega)
  · exact joined (n := 1536) _ _ w 10 1024 16384 (by simp) _ rfl (by simp) _ _ _ (by dsimp only; omega) (by dsimp only; omega) (by dsimp only; omega)
  · exact joined (n := 24) _ _ w 13 2560 18304 (by simp) _ rfl (by simp) _ _ _ (by dsimp only; omega) (by dsimp only; omega) (by dsimp only; omega)
  · exact joined (n := 1024) _ _ w 1 2584 1024 (by simp) _ rfl (by simp) _ _ _ (by dsimp only; omega) (by dsimp only; omega) (by dsimp only; omega)
  · exact joined (n := 1024) _ _ w 2 3608 2048 (by simp) _ rfl (by simp) _ _ _ (by dsimp only; omega) (by dsimp only; omega) (by dsimp only; omega)
  · exact joined (n := 256) _ _ w 11 4632 17920 (by simp) _ rfl (by simp) _ _ _ (by dsimp only; omega) (by dsimp only; omega) (by dsimp only; omega)
  · exact joined (n := 2048) _ _ w 7 4888 12288 (by simp) _ rfl (by simp) _ _ _ (by dsimp only; omega) (by dsimp only; omega) (by dsimp only; omega)
  · exact joined (n := 128) _ _ w 12 6936 18176 (by simp) _ rfl (by simp) _ _ _ (by dsimp only; omega) (by dsimp only; omega) (by dsimp only; omega)
  · exact joined (n := 16) _ _ w 14 7064 18328 (by simp) _ rfl (by simp) _ _ _ (by dsimp only; omega) (by dsimp only; omega) (by dsimp only; omega)
  · exact joined (n := 1024) _ _ w 3 7080 3072 (by simp) _ rfl (by simp) _ _ _ (by dsimp only; omega) (by dsimp only; omega) (by dsimp only; omega)
  · exact joined (n := 1024) _ _ w 4 8104 4096 (by simp) _ rfl (by simp) _ _ _ (by dsimp only; omega) (by dsimp only; omega) (by dsimp only; omega)
  · exact joined (n := 1024) _ _ w 8 9128 14336 (by simp) _ rfl (by simp) _ _ _ (by dsimp only; omega) (by dsimp only; omega) (by dsimp only; omega)
  · exact joined (n := 1024) _ _ w 9 10152 15360 (by simp) _ rfl (by simp) _ _ _ (by dsimp only; omega) (by dsimp only; omega) (by dsimp only; omega)
  · exact joined (n := 1024) _ _ w 5 11176 5120 (by simp) _ rfl (by simp) _ _ _ (by dsimp only; omega) (by dsimp only; omega) (by dsimp only; omega)
  · exact joined (n := 6144) _ _ w 6 12200 6144 (by simp) _ rfl (by simp) _ _ _ (by dsimp only; omega) (by dsimp only; omega) (by dsimp only; omega)

/-- A column put back, for a batch of any size. -/
theorem back_at {B R : ℕ} (h : FVec Ideal ⟨3, ![B, R, 18432]⟩ .f32)
    (s0 : Shape.Slices ⟨3, ![B, R, 18432]⟩ ![0, 0, 0] ⟨3, ![B, R, 1024]⟩)
    (s1 : Shape.Slices ⟨3, ![B, R, 18432]⟩ ![0, 0, 16384] ⟨3, ![B, R, 1536]⟩)
    (s2 : Shape.Slices ⟨3, ![B, R, 18432]⟩ ![0, 0, 18304] ⟨3, ![B, R, 24]⟩)
    (s3 : Shape.Slices ⟨3, ![B, R, 18432]⟩ ![0, 0, 1024] ⟨3, ![B, R, 1024]⟩)
    (s4 : Shape.Slices ⟨3, ![B, R, 18432]⟩ ![0, 0, 2048] ⟨3, ![B, R, 1024]⟩)
    (s5 : Shape.Slices ⟨3, ![B, R, 18432]⟩ ![0, 0, 17920] ⟨3, ![B, R, 256]⟩)
    (s6 : Shape.Slices ⟨3, ![B, R, 18432]⟩ ![0, 0, 12288] ⟨3, ![B, R, 2048]⟩)
    (s7 : Shape.Slices ⟨3, ![B, R, 18432]⟩ ![0, 0, 18176] ⟨3, ![B, R, 128]⟩)
    (s8 : Shape.Slices ⟨3, ![B, R, 18432]⟩ ![0, 0, 18328] ⟨3, ![B, R, 16]⟩)
    (s9 : Shape.Slices ⟨3, ![B, R, 18432]⟩ ![0, 0, 3072] ⟨3, ![B, R, 1024]⟩)
    (s10 : Shape.Slices ⟨3, ![B, R, 18432]⟩ ![0, 0, 4096] ⟨3, ![B, R, 1024]⟩)
    (s11 : Shape.Slices ⟨3, ![B, R, 18432]⟩ ![0, 0, 14336] ⟨3, ![B, R, 1024]⟩)
    (s12 : Shape.Slices ⟨3, ![B, R, 18432]⟩ ![0, 0, 15360] ⟨3, ![B, R, 1024]⟩)
    (s13 : Shape.Slices ⟨3, ![B, R, 18432]⟩ ![0, 0, 5120] ⟨3, ![B, R, 1024]⟩)
    (s14 : Shape.Slices ⟨3, ![B, R, 18432]⟩ ![0, 0, 6144] ⟨3, ![B, R, 6144]⟩)
    (hc : Shape.Concatenates [⟨3, ![B, R, 1024]⟩, ⟨3, ![B, R, 1536]⟩, ⟨3, ![B, R, 24]⟩, ⟨3, ![B, R, 1024]⟩, ⟨3, ![B, R, 1024]⟩, ⟨3, ![B, R, 256]⟩, ⟨3, ![B, R, 2048]⟩, ⟨3, ![B, R, 128]⟩, ⟨3, ![B, R, 16]⟩, ⟨3, ![B, R, 1024]⟩, ⟨3, ![B, R, 1024]⟩, ⟨3, ![B, R, 1024]⟩, ⟨3, ![B, R, 1024]⟩, ⟨3, ![B, R, 1024]⟩, ⟨3, ![B, R, 6144]⟩] ⟨3, ![B, R, 18344]⟩ 2) (b : Fin B) (s : Fin R) (e : Fin 18344) :
    concatenate ⟨3, ![B, R, 18344]⟩ 2 [⟨⟨3, ![B, R, 1024]⟩, extractStridedSlice ⟨3, ![B, R, 1024]⟩ ![0, 0, 0] h s0⟩,
      ⟨⟨3, ![B, R, 1536]⟩, extractStridedSlice ⟨3, ![B, R, 1536]⟩ ![0, 0, 16384] h s1⟩,
      ⟨⟨3, ![B, R, 24]⟩, extractStridedSlice ⟨3, ![B, R, 24]⟩ ![0, 0, 18304] h s2⟩,
      ⟨⟨3, ![B, R, 1024]⟩, extractStridedSlice ⟨3, ![B, R, 1024]⟩ ![0, 0, 1024] h s3⟩,
      ⟨⟨3, ![B, R, 1024]⟩, extractStridedSlice ⟨3, ![B, R, 1024]⟩ ![0, 0, 2048] h s4⟩,
      ⟨⟨3, ![B, R, 256]⟩, extractStridedSlice ⟨3, ![B, R, 256]⟩ ![0, 0, 17920] h s5⟩,
      ⟨⟨3, ![B, R, 2048]⟩, extractStridedSlice ⟨3, ![B, R, 2048]⟩ ![0, 0, 12288] h s6⟩,
      ⟨⟨3, ![B, R, 128]⟩, extractStridedSlice ⟨3, ![B, R, 128]⟩ ![0, 0, 18176] h s7⟩,
      ⟨⟨3, ![B, R, 16]⟩, extractStridedSlice ⟨3, ![B, R, 16]⟩ ![0, 0, 18328] h s8⟩,
      ⟨⟨3, ![B, R, 1024]⟩, extractStridedSlice ⟨3, ![B, R, 1024]⟩ ![0, 0, 3072] h s9⟩,
      ⟨⟨3, ![B, R, 1024]⟩, extractStridedSlice ⟨3, ![B, R, 1024]⟩ ![0, 0, 4096] h s10⟩,
      ⟨⟨3, ![B, R, 1024]⟩, extractStridedSlice ⟨3, ![B, R, 1024]⟩ ![0, 0, 14336] h s11⟩,
      ⟨⟨3, ![B, R, 1024]⟩, extractStridedSlice ⟨3, ![B, R, 1024]⟩ ![0, 0, 15360] h s12⟩,
      ⟨⟨3, ![B, R, 1024]⟩, extractStridedSlice ⟨3, ![B, R, 1024]⟩ ![0, 0, 5120] h s13⟩,
      ⟨⟨3, ![B, R, 6144]⟩, extractStridedSlice ⟨3, ![B, R, 6144]⟩ ![0, 0, 6144] h s14⟩] hc (ix3 b s e) = h (ix3 b s ⟨DEST e.val, dest_lt _ e.isLt⟩) := by
  rcases dest_cases e.val e.isLt with ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩ | ⟨h1, h2, h3⟩
  · exact joined_batch (n := 1024) _ _ h 0 0 0 (by simp) _ rfl (by simp) _ _ _ _ (by omega) (by omega) (by dsimp only; omega)
  · exact joined_batch (n := 1536) _ _ h 1 16384 1024 (by simp) _ rfl (by simp) _ _ _ _ (by omega) (by omega) (by dsimp only; omega)
  · exact joined_batch (n := 24) _ _ h 2 18304 2560 (by simp) _ rfl (by simp) _ _ _ _ (by omega) (by omega) (by dsimp only; omega)
  · exact joined_batch (n := 1024) _ _ h 3 1024 2584 (by simp) _ rfl (by simp) _ _ _ _ (by omega) (by omega) (by dsimp only; omega)
  · exact joined_batch (n := 1024) _ _ h 4 2048 3608 (by simp) _ rfl (by simp) _ _ _ _ (by omega) (by omega) (by dsimp only; omega)
  · exact joined_batch (n := 256) _ _ h 5 17920 4632 (by simp) _ rfl (by simp) _ _ _ _ (by omega) (by omega) (by dsimp only; omega)
  · exact joined_batch (n := 2048) _ _ h 6 12288 4888 (by simp) _ rfl (by simp) _ _ _ _ (by omega) (by omega) (by dsimp only; omega)
  · exact joined_batch (n := 128) _ _ h 7 18176 6936 (by simp) _ rfl (by simp) _ _ _ _ (by omega) (by omega) (by dsimp only; omega)
  · exact joined_batch (n := 16) _ _ h 8 18328 7064 (by simp) _ rfl (by simp) _ _ _ _ (by omega) (by omega) (by dsimp only; omega)
  · exact joined_batch (n := 1024) _ _ h 9 3072 7080 (by simp) _ rfl (by simp) _ _ _ _ (by omega) (by omega) (by dsimp only; omega)
  · exact joined_batch (n := 1024) _ _ h 10 4096 8104 (by simp) _ rfl (by simp) _ _ _ _ (by omega) (by omega) (by dsimp only; omega)
  · exact joined_batch (n := 1024) _ _ h 11 14336 9128 (by simp) _ rfl (by simp) _ _ _ _ (by omega) (by omega) (by dsimp only; omega)
  · exact joined_batch (n := 1024) _ _ h 12 15360 10152 (by simp) _ rfl (by simp) _ _ _ _ (by omega) (by omega) (by dsimp only; omega)
  · exact joined_batch (n := 1024) _ _ h 13 5120 11176 (by simp) _ rfl (by simp) _ _ _ _ (by omega) (by omega) (by dsimp only; omega)
  · exact joined_batch (n := 6144) _ _ h 14 6144 12200 (by simp) _ rfl (by simp) _ _ _ _ (by omega) (by omega) (by dsimp only; omega)

/-- A column put back. -/
theorem unperm_at (h : FVec Ideal S4x2048x18432 .f32) (b : Fin 4) (s : Fin 2048) (e : Fin 18344) :
    UNPERM h (ix3 b s e) = h (ix3 b s ⟨DEST e.val, dest_lt _ e.isLt⟩) :=
  back_at h _ _ _ _ _ _ _ _ _ _ _ _ _ _ _ _ b s e

end Cert.Kernel2Ideal.Proj
end
-- ==== Proof.SampleProjKernel.lean ====
/- The sample's projection kernel's result array, over its arguments. -/
module

public import proofs.«01_k».proof.Proof.Gen.Kernel4Ideal.Frame
public import Idealize.ShloMosaic.Lib.Pipeline.ValueKit
public import Idealize.ShloMosaic.Lib.Claim
public import proofs.«01_k».proof.Proof.ProjPerm

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen
open Cert.Kernel2Ideal.Proj (PERMW DEST dest_lt permw_at back_at)
open Idealize.ShloMosaic.Pipeline (Dat)

variable (m : (ℓ : Loc nD τ sig) → Buf (Elt Ideal) ℓ)

/-- The number of grid points. -/
theorem lt_N (t : Fin cfg0.N) : t.val < 18 := t.isLt

/-- The block indices of the windows. -/
theorem idx : ∀ t : Fin cfg0.N, win0_0.index t = ![t.val / 18, 0] ∧ win0_1.index t = ![0, t.val % 18] ∧ win0_2.index t = ![t.val / 18, t.val % 18] :=
  (by decide +kernel : ∀ t : Fin grid0.N, _)

/-- The rows of all batches, one after another. -/
def ROWS (x : FVec Ideal S128x4x2048 .f32) : FVec Ideal S512x2048 .f32 := shapeCast S512x2048 x shapeCasts_S128x4x2048_S512x2048

/-- A row of all batches' is a batch's. -/
theorem rows_at (x : FVec Ideal S128x4x2048 .f32) (r : Fin 512) (k : Fin 2048) :
    ROWS x (ix2 r k) = x (ix3 ⟨r / 4, by omega⟩ ⟨r % 4, by omega⟩ k) := by
  pointwise [ROWS]

/-- The rows the kernel reads. -/
theorem V_rows (c : Dev nD) : V m c main_v18 = ROWS (m ((c : Thread nD τ).loc main_arg0)) := by
  unfold V V0
  simp only [List.flatten_cons, List.flatten_nil, List.append_nil]
  after_results
  rfl

/-- The weights the kernel reads. -/
theorem V_w (c : Dev nD) : V m c main_v17 = (truncf .bf16 (PERMW (m ((c : Thread nD τ).loc main_arg1))) bitsLt_bf16_f32 : FVec Ideal S2048x18432 .bf16) := by
  unfold V V0
  simp only [List.flatten_cons, List.flatten_nil, List.append_nil]
  after_results
  try rfl

/-- The block of rows, as a block of any contents. -/
theorem x_blk (c : Dev nD) (A : (b : Ref sig .tc) → Buf (Elt Ideal) ((c : Thread nD τ).loc b)) (t : Fin cfg0.N) (r : Fin 512) (k : Fin 2048) :
    (((cfg0.win 0).blk t).view.read (Elt Ideal) (A (Pipeline.arrRef spec0 0)) : FVec Ideal S512x2048 .f32) (ix2 r k) =
      A main_v18 (ix2 ⟨t.val / 18 * 512 + r, by have := lt_N t; omega⟩ k) := by
  have := lt_N t
  refine (rfl : _ = A main_v18 ((win0_0.blk t).view.emb (ix2 r k))).trans (congrArg (A main_v18) ?_)
  blk_ext [idx t]

/-- The block of rows. -/
theorem x_read (c : Dev nD) (t : Fin cfg0.N) (r : Fin 512) (k : Fin 2048) :
    (iblk m c 0 t : FVec Ideal S512x2048 .f32) (ix2 r k) = ROWS (m ((c : Thread nD τ).loc main_arg0)) (ix2 ⟨t.val / 18 * 512 + r, by have := lt_N t; omega⟩ k) := by
  unfold iblk
  rw [x_blk c (V m c)]
  exact congrFun (V_rows m c) _

/-- The block of weights, as a block of any contents. -/
theorem w_blk (c : Dev nD) (A : (b : Ref sig .tc) → Buf (Elt Ideal) ((c : Thread nD τ).loc b)) (t : Fin cfg0.N) (k : Fin 2048) (e : Fin 1024) :
    (((cfg0.win 1).blk t).view.read (Elt Ideal) (A (Pipeline.arrRef spec0 1)) : FVec Ideal S2048x1024 .bf16) (ix2 k e) =
      A main_v17 (ix2 k ⟨t.val % 18 * 1024 + e, by omega⟩) := by
  have := lt_N t
  refine (rfl : _ = A main_v17 ((win0_1.blk t).view.emb (ix2 k e))).trans (congrArg (A main_v17) ?_)
  blk_ext [idx t]

/-- The block of weights. -/
theorem w_read (c : Dev nD) (t : Fin cfg0.N) (k : Fin 2048) (e : Fin 1024) :
    (iblk m c 1 t : FVec Ideal S2048x1024 .bf16) (ix2 k e) = PERMW (m ((c : Thread nD τ).loc main_arg1)) (ix2 k ⟨t.val % 18 * 1024 + e, by omega⟩) := by
  unfold iblk
  rw [w_blk c (V m c)]
  exact congrFun (V_w m c) _

/-- The product at an index. -/
theorem product_at (x : Vec Ideal S512x2048 .bf16) (w : Vec Ideal S2048x1024 .bf16) (r : Fin 512) (e : Fin 1024) :
    k0_pay2 x w (ix2 r e) = ∑ k : Fin 2048, x (ix2 r k) * w (ix2 k e) := by
  pointwise [k0_pay2]

/-- The rows kept at an index. -/
theorem kept_at (x : Vec Ideal S512x2048 .f32) (r : Fin 512) (k : Fin 2048) : k0_pay1 x (ix2 r k) = x (ix2 r k) := by
  pointwise [k0_pay1]

/-- At every point the rows kept are the point's block of rows. -/
theorem kept (c : Dev nD) (n : ℕ) (hn : n < cfg0.N) (r : Fin 512) (k : Fin 2048) :
    (outsAt0 m c n hn).2 (ix2 r k) = ROWS (m ((c : Thread nD τ).loc main_arg0)) (ix2 ⟨n / 18 * 512 + r, by have := lt_N ⟨n, hn⟩; dsimp only at this; omega⟩ k) := by
  induction n with
  | zero =>
    rw [outsAt0_A m c ⟨0, hn⟩ rfl]
    frame_out
    exact (kept_at _ r k).trans (x_read m c ⟨0, hn⟩ r k)
  | succ n ih =>
    by_cases h : (n + 1) % 18 = 0
    · rw [outsAt0_A m c ⟨n + 1, hn⟩ h]
      frame_out
      exact (kept_at _ r k).trans (x_read m c ⟨n + 1, hn⟩ r k)
    · rw [outsAt0_B m c ⟨n + 1, hn⟩ h]
      refine (ih (Nat.lt_of_succ_lt hn)).trans ?_
      refine congrArg (fun r => ROWS (m ((c : Thread nD τ).loc main_arg0)) (ix2 r k)) (Fin.ext ?_)
      dsimp only
      omega

/-- At every point the output block is the product of the point's blocks. -/
theorem out (c : Dev nD) (t : Fin cfg0.N) (r : Fin 512) (e : Fin 1024) :
    (outsAt0 m c t.val t.isLt).1 (ix2 r e) = ∑ k : Fin 2048, ROWS (m ((c : Thread nD τ).loc main_arg0)) (ix2 ⟨t.val / 18 * 512 + r, by have := lt_N t; omega⟩ k)
      * PERMW (m ((c : Thread nD τ).loc main_arg1)) (ix2 k ⟨t.val % 18 * 1024 + e, by omega⟩) := by
  by_cases h : t.val % 18 = 0
  · rw [outsAt0_A m c t h]
    frame_out
    rw [product_at]
    exact Finset.sum_congr rfl fun k _ => congrArg₂ (· * ·) ((kept_at _ r k).trans (x_read m c t r k)) (w_read m c t k e)
  · rw [outsAt0_B m c t h]
    frame_out
    rw [(Memref.isWhole_whole cc0_scratch0).read_unread, product_at]
    refine Finset.sum_congr rfl fun k _ => congrArg₂ (· * ·) ((kept m c _ _ r k).trans ?_) (w_read m c t k e)
    refine congrArg (fun r => ROWS (m ((c : Thread nD τ).loc main_arg0)) (ix2 r k)) (Fin.ext ?_)
    dsimp only
    omega

/-- The product of all rows with the permuted weights. -/
def PROD (x : FVec Ideal S512x2048 .f32) (w : FVec Ideal S2048x18432 .f32) : FVec Ideal S512x18432 .f32 :=
  fun y => ∑ k : Fin 2048, x (ix2 (y 0) k) * w (ix2 k (y 1))

/-- The kernel's result array. -/
theorem final (c : Dev nD) : (dats m 0 c).arrAt 2 (cfgs 0).N = PROD (ROWS (m ((c : Thread nD τ).loc main_arg0))) (PERMW (m ((c : Thread nD τ).loc main_arg1))) := by
  refine (dats m 0 c).arrAt_eq_of_covers 2 _ (by decide +kernel) fun t _ y => ?_
  have := lt_N t
  blk_simp
  rw [after0_2]
  idx_vars y
  have e : ((View.whole main_v19).slice (win0_2.rect t)).emb (ix2 y0 y1) = (ix2 ⟨t.val / 18 * 512 + y0, by omega⟩ ⟨t.val % 18 * 1024 + y1, by omega⟩ : S512x18432.Idx) := by
    blk_ext [idx t]
  rw [e]
  exact out m c t y0 y1

end Cert.Kernel4Ideal.Proj
end
-- ==== Proof.SampleProjTail.lean ====
/- The results of the sample's projection kernel, from the columns in the kernel's order. -/
module

public import proofs.«01_k».proof.Proof.Gen.Kernel4Ideal
public import Idealize.ShloMosaic.Lib.Pipeline.ValueKit
public import Idealize.ShloMosaic.Lib.Claim
public import proofs.«01_k».proof.Proof.ProjPerm
public import proofs.«01_k».proof.Proof.SampleProjKernel

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen
open Cert.Kernel2Ideal.Proj (PERMW DEST dest_lt permw_at back_at)

/-- The kernel's result array, a batch at a time. -/
def WIDE (p : FVec Ideal S512x18432 .f32) : FVec Ideal S128x4x18432 .f32 := shapeCast S128x4x18432 p shapeCasts_S512x18432_S128x4x18432

/-- A batch's row of the kernel's result array. -/
theorem wide_at (p : FVec Ideal S512x18432 .f32) (b : Fin 128) (s : Fin 4) (e : Fin 18432) :
    WIDE p (ix3 b s e) = p (ix2 ⟨b * 4 + s, by omega⟩ e) := by
  pointwise [WIDE]

/-- A column of the projection stands in the kernel's result array where the order of the columns puts it. -/
theorem wide_dest (x : FVec Ideal S128x4x2048 .f32) (w : FVec Ideal S2048x18344 .f32) (b : Fin 128) (s : Fin 4) (e : Fin 18344) :
    WIDE (PROD (ROWS x) (PERMW w)) (ix3 b s ⟨DEST e.val, dest_lt e.val e.isLt⟩) = ∑ k : Fin 2048, x (ix3 b s k) * w (ix2 k e) := by
  rw [wide_at]
  refine Finset.sum_congr rfl fun k _ => ?_
  refine congrArg₂ (· * ·) ((rows_at x ⟨b * 4 + s, by omega⟩ k).trans (congrArg₂ (fun p q => x (ix3 p q k)) (Fin.ext ?_) (Fin.ext ?_))) (permw_at w k e)
  · dsimp only
    omega
  · dsimp only
    omega

/-- The columns put back. -/
def UNPERM (h : FVec Ideal S128x4x18432 .f32) : FVec Ideal S128x4x18344 .f32 :=
  concatenate S128x4x18344 2 [⟨S128x4x1024, extractStridedSlice S128x4x1024 ![0, 0, 0] h slices_S128x4x18432_S128x4x1024_0_0_0⟩,
    ⟨S128x4x1536, extractStridedSlice S128x4x1536 ![0, 0, 16384] h slices_S128x4x18432_S128x4x1536_0_0_16384⟩,
    ⟨S128x4x24, extractStridedSlice S128x4x24 ![0, 0, 18304] h slices_S128x4x18432_S128x4x24_0_0_18304⟩,
    ⟨S128x4x1024, extractStridedSlice S128x4x1024 ![0, 0, 1024] h slices_S128x4x18432_S128x4x1024_0_0_1024⟩,
    ⟨S128x4x1024, extractStridedSlice S128x4x1024 ![0, 0, 2048] h slices_S128x4x18432_S128x4x1024_0_0_2048⟩,
    ⟨S128x4x256, extractStridedSlice S128x4x256 ![0, 0, 17920] h slices_S128x4x18432_S128x4x256_0_0_17920⟩,
    ⟨S128x4x2048, extractStridedSlice S128x4x2048 ![0, 0, 12288] h slices_S128x4x18432_S128x4x2048_0_0_12288⟩,
    ⟨S128x4x128, extractStridedSlice S128x4x128 ![0, 0, 18176] h slices_S128x4x18432_S128x4x128_0_0_18176⟩,
    ⟨S128x4x16, extractStridedSlice S128x4x16 ![0, 0, 18328] h slices_S128x4x18432_S128x4x16_0_0_18328⟩,
    ⟨S128x4x1024, extractStridedSlice S128x4x1024 ![0, 0, 3072] h slices_S128x4x18432_S128x4x1024_0_0_3072⟩,
    ⟨S128x4x1024, extractStridedSlice S128x4x1024 ![0, 0, 4096] h slices_S128x4x18432_S128x4x1024_0_0_4096⟩,
    ⟨S128x4x1024, extractStridedSlice S128x4x1024 ![0, 0, 14336] h slices_S128x4x18432_S128x4x1024_0_0_14336⟩,
    ⟨S128x4x1024, extractStridedSlice S128x4x1024 ![0, 0, 15360] h slices_S128x4x18432_S128x4x1024_0_0_15360⟩,
    ⟨S128x4x1024, extractStridedSlice S128x4x1024 ![0, 0, 5120] h slices_S128x4x18432_S128x4x1024_0_0_5120⟩,
    ⟨S128x4x6144, extractStridedSlice S128x4x6144 ![0, 0, 6144] h slices_S128x4x18432_S128x4x6144_0_0_6144⟩]
    concatenates_S128x4x1024_S128x4x1536_S128x4x24_S128x4x1024_S128x4x1024_S128x4x256_S128x4x2048_S128x4x128_S128x4x16_S128x4x1024_S128x4x1024_S128x4x1024_S128x4x1024_S128x4x1024_S128x4x6144_S128x4x18344_d2

/-- A column put back. -/
theorem unperm_at (h : FVec Ideal S128x4x18432 .f32) (b : Fin 128) (s : Fin 4) (e : Fin 18344) :
    UNPERM h (ix3 b s e) = h (ix3 b s ⟨DEST e.val, dest_lt _ e.isLt⟩) :=
  back_at h _ _ _ _ _ _ _ _ _ _ _ _ _ _ _ _ b s e

/-- The first cache's rows. -/
def KNSA (h : FVec Ideal S128x4x18432 .f32) : FVec Ideal S128x4x4x2x128 .f32 :=
  extractStridedSlice S128x4x4x2x128 ![0, 0, 0, 0, 0] (shapeCast S128x4x6x2x128 (extractStridedSlice S128x4x1536 ![0, 0, 16384] h slices_S128x4x18432_S128x4x1536_0_0_16384) shapeCasts_S128x4x1536_S128x4x6x2x128) slices_S128x4x6x2x128_S128x4x4x2x128_0_0_0_0_0

/-- The window's state: the given rows moved up by the call's, then the call's. -/
def KWIN (h : FVec Ideal S128x4x18432 .f32) (z : FVec Ideal S128x512x2x2x128 .f32) : FVec Ideal S128x512x2x2x128 .f32 :=
  concatenate S128x512x2x2x128 1 [⟨S128x508x2x2x128, extractStridedSlice S128x508x2x2x128 ![0, 4, 0, 0, 0] z slices_S128x512x2x2x128_S128x508x2x2x128_0_4_0_0_0⟩,
    ⟨S128x4x2x2x128, extractStridedSlice S128x4x2x2x128 ![0, 0, 4, 0, 0] (shapeCast S128x4x6x2x128 (extractStridedSlice S128x4x1536 ![0, 0, 16384] h slices_S128x4x18432_S128x4x1536_0_0_16384) shapeCasts_S128x4x1536_S128x4x6x2x128) slices_S128x4x6x2x128_S128x4x2x2x128_0_0_4_0_0⟩]
    concatenates_S128x508x2x2x128_S128x4x2x2x128_S128x512x2x2x128_d1

/-- The second cache's rows. -/
def KDSA (h : FVec Ideal S128x4x18432 .f32) : FVec Ideal S128x4x3x128 .f32 :=
  shapeCast S128x4x3x128 (extractStridedSlice S128x4x384 ![0, 0, 17920] h slices_S128x4x18432_S128x4x384_0_0_17920) shapeCasts_S128x4x384_S128x4x3x128

/-- The third cache's rows. -/
def KDIFF (h : FVec Ideal S128x4x18432 .f32) : FVec Ideal S128x4x2x8x128 .f32 :=
  shapeCast S128x4x2x8x128 (extractStridedSlice S128x4x2048 ![0, 0, 14336] h slices_S128x4x18432_S128x4x2048_0_0_14336) shapeCasts_S128x4x2048_S128x4x2x8x128

/-- The first cache's rows at an index. -/
theorem knsa_at (h : FVec Ideal S128x4x18432 .f32) (b : Fin 128) (s : Fin 4) (u : Fin 4) (a : Fin 2) (d : Fin 128) :
    KNSA h (ix5 b s u a d) = h (ix3 b s ⟨16384 + (u * 256 + a * 128 + d), by omega⟩) := by
  pointwise [KNSA]

/-- The window's state at one of the given rows. -/
theorem kwin_old (h : FVec Ideal S128x4x18432 .f32) (z : FVec Ideal S128x512x2x2x128 .f32) (b : Fin 128) (s : Fin 508) (u : Fin 2) (a : Fin 2) (d : Fin 128) :
    KWIN h z (ix5 b ⟨s, by omega⟩ u a d) = z (ix5 b ⟨4 + s, by omega⟩ u a d) := by
  pointwise [KWIN]

/-- The window's state at one of the call's rows. -/
theorem kwin_new (h : FVec Ideal S128x4x18432 .f32) (z : FVec Ideal S128x512x2x2x128 .f32) (b : Fin 128) (s : Fin 4) (u : Fin 2) (a : Fin 2) (d : Fin 128) :
    KWIN h z (ix5 b ⟨508 + s, by omega⟩ u a d) = h (ix3 b s ⟨16384 + ((4 + u) * 256 + a * 128 + d), by omega⟩) := by
  pointwise [KWIN]

/-- The second cache's rows at an index. -/
theorem kdsa_at (h : FVec Ideal S128x4x18432 .f32) (b : Fin 128) (s : Fin 4) (u : Fin 3) (d : Fin 128) :
    KDSA h (ix4 b s u d) = h (ix3 b s ⟨17920 + (u * 128 + d), by omega⟩) := by
  pointwise [KDSA]

/-- The third cache's rows at an index. -/
theorem kdiff_at (h : FVec Ideal S128x4x18432 .f32) (b : Fin 128) (s : Fin 4) (u : Fin 2) (a : Fin 8) (d : Fin 128) :
    KDIFF h (ix5 b s u a d) = h (ix3 b s ⟨14336 + (u * 1024 + a * 128 + d), by omega⟩) := by
  pointwise [KDIFF]

variable (m : (ℓ : Loc nD τ sig) → Buf (Elt Ideal) ℓ)

/-- The kernel's result array as a function of the call's arguments, a batch at a time. -/
def H (c : Dev nD) : FVec Ideal S128x4x18432 .f32 := WIDE (PROD (ROWS (m ((c : Thread nD τ).loc main_arg0))) (PERMW (m ((c : Thread nD τ).loc main_arg1))))

/-- After the region the result window's array is the product. -/
theorem region (c : Dev nD) : Pipeline.withArrays spec0 c (V0 m c) (fun w => (dats m 0 c).arrAt w (cfgs 0).N) main_v19 =
    PROD (ROWS (m ((c : Thread nD τ).loc main_arg0))) (PERMW (m ((c : Thread nD τ).loc main_arg1))) :=
  (Pipeline.withArrays_arr_shared spec0 c (V0 m c) (fun w => (dats m 0 c).arrAt w (cfgs 0).N)
    (Pipeline.Dat.arrAt_sharedIn (dats m 0 c) (by decide) _ (fun w => A_eq m c w) _) 2).trans (final m c)

/-- The result of the projected rows. -/
theorem tail_h (c : Dev nD) : Pipeline.afterTail₀ cfgs (dats m) 0 (V0 m) [hostOps1] c main_v44 = UNPERM (H m c) := by
  unfold Pipeline.afterTail₀
  simp only [List.flatten_cons, List.flatten_nil, List.append_nil]
  after_results
  exact congrArg (fun p => UNPERM (WIDE p)) (region m c)

/-- The result of the first cache's rows. -/
theorem tail_nsa (c : Dev nD) : Pipeline.afterTail₀ cfgs (dats m) 0 (V0 m) [hostOps1] c main_v27 =
    KNSA (H m c) := by
  unfold Pipeline.afterTail₀
  simp only [List.flatten_cons, List.flatten_nil, List.append_nil]
  after_results
  exact congrArg (fun p => KNSA (WIDE p)) (region m c)

/-- The result of the second cache's rows. -/
theorem tail_dsa (c : Dev nD) : Pipeline.afterTail₀ cfgs (dats m) 0 (V0 m) [hostOps1] c main_v24 = KDSA (H m c) := by
  unfold Pipeline.afterTail₀
  simp only [List.flatten_cons, List.flatten_nil, List.append_nil]
  after_results
  exact congrArg (fun p => KDSA (WIDE p)) (region m c)

/-- The result of the third cache's rows. -/
theorem tail_diff (c : Dev nD) : Pipeline.afterTail₀ cfgs (dats m) 0 (V0 m) [hostOps1] c main_v26 = KDIFF (H m c) := by
  unfold Pipeline.afterTail₀
  simp only [List.flatten_cons, List.flatten_nil, List.append_nil]
  after_results
  exact congrArg (fun p => KDIFF (WIDE p)) (region m c)

/-- The result of the window's state. -/
theorem tail_win (c : Dev nD) : Pipeline.afterTail₀ cfgs (dats m) 0 (V0 m) [hostOps1] c main_v46 =
    KWIN (H m c) (m ((c : Thread nD τ).loc main_arg2)) := by
  unfold Pipeline.afterTail₀
  simp only [List.flatten_cons, List.flatten_nil, List.append_nil]
  after_results
  exact congrArg₂ (fun p z => KWIN (WIDE p) z) (region m c) rfl

end Cert.Kernel4Ideal.Proj
end
-- ==== Proof.SampleProjRef.lean ====
/- The results of the sample's projection, from the projected rows in either order of the columns. -/
module

public import proofs.«01_k».proof.Proof.Gen.Reference4Ideal
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Reference4Ideal.Proj

open Idealize.ShloMosaic Idealize.ShloMosaic.TcCoe Idealize.SL.Sem
open Cert.Reference4Ideal Cert.Reference4Ideal.Gen

/-- The projected rows. -/
def PROJ (x : FVec Ideal S128x4x2048 .f32) (w : FVec Ideal S2048x18344 .f32) : FVec Ideal S128x4x18344 .f32 :=
  Host.dotGeneral dot_S128x4x2048_S2048x18344_S128x4x18344_2_0_01_1_n_n none x w

/-- The projected rows at an index. -/
theorem proj_at (x : FVec Ideal S128x4x2048 .f32) (w : FVec Ideal S2048x18344 .f32) (b : Fin 128) (s : Fin 4) (e : Fin 18344) :
    PROJ x w (ix3 b s e) = ∑ k : Fin 2048, x (ix3 b s k) * w (ix2 k e) := by
  pointwise [PROJ]

/-- The first cache's rows. -/
def NSA (h : FVec Ideal S128x4x18344 .f32) : FVec Ideal S128x4x4x2x128 .f32 :=
  extractStridedSlice S128x4x4x2x128 ![0, 0, 0, 0, 0] (shapeCast S128x4x6x2x128 (extractStridedSlice S128x4x1536 ![0, 0, 1024] h slices_S128x4x18344_S128x4x1536_0_0_1024) shapeCasts_S128x4x1536_S128x4x6x2x128) slices_S128x4x6x2x128_S128x4x4x2x128_0_0_0_0_0

/-- The window's state: the last rows of the given ones with the call's after them. -/
def WIN (h : FVec Ideal S128x4x18344 .f32) (z : FVec Ideal S128x512x2x2x128 .f32) : FVec Ideal S128x512x2x2x128 .f32 :=
  extractStridedSlice S128x512x2x2x128 ![0, 4, 0, 0, 0] (concatenate S128x516x2x2x128 1 [⟨S128x512x2x2x128, z⟩,
    ⟨S128x4x2x2x128, extractStridedSlice S128x4x2x2x128 ![0, 0, 4, 0, 0] (shapeCast S128x4x6x2x128 (extractStridedSlice S128x4x1536 ![0, 0, 1024] h slices_S128x4x18344_S128x4x1536_0_0_1024) shapeCasts_S128x4x1536_S128x4x6x2x128) slices_S128x4x6x2x128_S128x4x2x2x128_0_0_4_0_0⟩]
    concatenates_S128x512x2x2x128_S128x4x2x2x128_S128x516x2x2x128_d1) slices_S128x516x2x2x128_S128x512x2x2x128_0_4_0_0_0

/-- The rows of the second cache. -/
def DSA (h : FVec Ideal S128x4x18344 .f32) : FVec Ideal S128x4x3x128 .f32 :=
  concatenate S128x4x3x128 2 [⟨S128x4x2x128, (shapeCast S128x4x2x128 (extractStridedSlice S128x4x256 ![0, 0, 4632] h slices_S128x4x18344_S128x4x256_0_0_4632) shapeCasts_S128x4x256_S128x4x2x128)⟩,
    ⟨S128x4x1x128, (broadcastInDim S128x4x1x128 ![0, 1, 3] bcast_S128x4x128_S128x4x1x128_0_1_3 (extractStridedSlice S128x4x128 ![0, 0, 6936] h slices_S128x4x18344_S128x4x128_0_0_6936))⟩]
    concatenates_S128x4x2x128_S128x4x1x128_S128x4x3x128_d2

/-- The rows of the third cache. -/
def DIFF (h : FVec Ideal S128x4x18344 .f32) : FVec Ideal S128x4x2x8x128 .f32 :=
  concatenate S128x4x2x8x128 2 [⟨S128x4x1x8x128, (broadcastInDim S128x4x1x8x128 ![0, 1, 3, 4] bcast_S128x4x8x128_S128x4x1x8x128_0_1_3_4 (shapeCast S128x4x8x128 (extractStridedSlice S128x4x1024 ![0, 0, 9128] h slices_S128x4x18344_S128x4x1024_0_0_9128) shapeCasts_S128x4x1024_S128x4x8x128))⟩,
    ⟨S128x4x1x8x128, (broadcastInDim S128x4x1x8x128 ![0, 1, 3, 4] bcast_S128x4x8x128_S128x4x1x8x128_0_1_3_4 (shapeCast S128x4x8x128 (extractStridedSlice S128x4x1024 ![0, 0, 10152] h slices_S128x4x18344_S128x4x1024_0_0_10152) shapeCasts_S128x4x1024_S128x4x8x128))⟩]
    concatenates_S128x4x1x8x128_S128x4x1x8x128_S128x4x2x8x128_d2

/-- The first cache's rows at an index. -/
theorem nsa_at (h : FVec Ideal S128x4x18344 .f32) (b : Fin 128) (s : Fin 4) (u : Fin 4) (a : Fin 2) (d : Fin 128) :
    NSA h (ix5 b s u a d) = h (ix3 b s ⟨1024 + (u * 256 + a * 128 + d), by omega⟩) := by
  pointwise [NSA]

/-- The window's state at one of the given rows. -/
theorem win_old (h : FVec Ideal S128x4x18344 .f32) (z : FVec Ideal S128x512x2x2x128 .f32) (b : Fin 128) (s : Fin 508) (u : Fin 2) (a : Fin 2) (d : Fin 128) :
    WIN h z (ix5 b ⟨s, by omega⟩ u a d) = z (ix5 b ⟨4 + s, by omega⟩ u a d) := by
  pointwise [WIN]
  exact dif_pos (by omega)

/-- The window's state at one of the call's rows. -/
theorem win_new (h : FVec Ideal S128x4x18344 .f32) (z : FVec Ideal S128x512x2x2x128 .f32) (b : Fin 128) (s : Fin 4) (u : Fin 2) (a : Fin 2) (d : Fin 128) :
    WIN h z (ix5 b ⟨508 + s, by omega⟩ u a d) = h (ix3 b s ⟨1024 + ((4 + u) * 256 + a * 128 + d), by omega⟩) := by
  pointwise [WIN]
  refine (dif_neg (by omega)).trans (congrArg (fun r => h (ix3 b r _)) (Fin.ext ?_))
  dsimp only
  omega

/-- The second cache's keys and values at an index. -/
theorem dsa_kv (h : FVec Ideal S128x4x18344 .f32) (b : Fin 128) (s : Fin 4) (u : Fin 2) (d : Fin 128) :
    DSA h (ix4 b s ⟨u, by omega⟩ d) = h (ix3 b s ⟨4632 + (u * 128 + d), by omega⟩) := by
  pointwise [DSA]

/-- The second cache's index keys at an index. -/
theorem dsa_ik (h : FVec Ideal S128x4x18344 .f32) (b : Fin 128) (s : Fin 4) (d : Fin 128) :
    DSA h (ix4 b s 2 d) = h (ix3 b s ⟨6936 + d, by omega⟩) := by
  pointwise [DSA]

/-- The third cache's keys at an index. -/
theorem diff_k (h : FVec Ideal S128x4x18344 .f32) (b : Fin 128) (s : Fin 4) (a : Fin 8) (d : Fin 128) :
    DIFF h (ix5 b s 0 a d) = h (ix3 b s ⟨9128 + (a * 128 + d), by omega⟩) := by
  pointwise [DIFF]

/-- The third cache's values at an index. -/
theorem diff_v (h : FVec Ideal S128x4x18344 .f32) (b : Fin 128) (s : Fin 4) (a : Fin 8) (d : Fin 128) :
    DIFF h (ix5 b s 1 a d) = h (ix3 b s ⟨10152 + (a * 128 + d), by omega⟩) := by
  pointwise [DIFF]

/-- The reference's results are functions of the projected rows. -/
theorem results (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v0) = PROJ (m ((c.tc : Thread nD τ).loc main_arg0)) (m ((c.tc : Thread nD τ).loc main_arg1))
      ∧ r.2.mem ((c.tc : Thread nD τ).loc main_v17) = NSA (PROJ (m ((c.tc : Thread nD τ).loc main_arg0)) (m ((c.tc : Thread nD τ).loc main_arg1)))
      ∧ r.2.mem ((c.tc : Thread nD τ).loc main_v21) = DSA (PROJ (m ((c.tc : Thread nD τ).loc main_arg0)) (m ((c.tc : Thread nD τ).loc main_arg1)))
      ∧ r.2.mem ((c.tc : Thread nD τ).loc main_v26) = DIFF (PROJ (m ((c.tc : Thread nD τ).loc main_arg0)) (m ((c.tc : Thread nD τ).loc main_arg1)))
      ∧ r.2.mem ((c.tc : Thread nD τ).loc main_v28) = WIN (PROJ (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Reference4Ideal.Value.run m g

end Cert.Reference4Ideal.Proj
end
-- ==== Proof.SampleProjValue.lean ====
/- The claims about the sample's projection programs. -/
module

public import proofs.«01_k».proof.Defs
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.SampleProjTail
public import proofs.«01_k».proof.Proof.SampleProjRef
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The kernel's result array, a batch at a time. -/
abbrev sampleWide (x : FVec Ideal Cert.Reference4Ideal.S128x4x2048 .f32) (w : FVec Ideal Cert.Reference4Ideal.S2048x18344 .f32) : FVec Ideal Cert.Kernel4Ideal.S128x4x18432 .f32 :=
  Cert.Kernel4Ideal.Proj.WIDE (Cert.Kernel4Ideal.Proj.PROD (Cert.Kernel4Ideal.Proj.ROWS x) (Cert.Kernel2Ideal.Proj.PERMW w))

/-- The reference's projected rows stand in the kernel's result array where the order of the columns puts them. -/
theorem sample_wide (x : FVec Ideal Cert.Reference4Ideal.S128x4x2048 .f32) (w : FVec Ideal Cert.Reference4Ideal.S2048x18344 .f32) (b : Fin 128) (s : Fin 4) (e : Fin 18344)
    (j : Fin 18432) (h : j.val = Cert.Kernel2Ideal.Proj.DEST e.val) :
    Cert.Reference4Ideal.Proj.PROJ x w (ix3 b s e) = sampleWide x w (ix3 b s j) := by
  obtain rfl : j = ⟨Cert.Kernel2Ideal.Proj.DEST e.val, Cert.Kernel2Ideal.Proj.dest_lt e.val e.isLt⟩ := Fin.ext h
  exact (Cert.Reference4Ideal.Proj.proj_at x w b s e).trans (Cert.Kernel4Ideal.Proj.wide_dest x w b s e).symm

/-- The result of the projected rows. -/
theorem sample_rows (x : FVec Ideal Cert.Reference4Ideal.S128x4x2048 .f32) (w : FVec Ideal Cert.Reference4Ideal.S2048x18344 .f32) :
    Cert.Reference4Ideal.Proj.PROJ x w = Cert.Kernel4Ideal.Proj.UNPERM (sampleWide x w) := by
  funext y
  obtain ⟨b, s, e, rfl⟩ : ∃ b s e, y = ix3 b s e := ⟨y 0, y 1, y 2, by funext i; fin_cases i <;> rfl⟩
  exact (sample_wide x w b s e _ rfl).trans (Cert.Kernel4Ideal.Proj.unperm_at (sampleWide x w) b s e).symm

/-- The first cache's rows. -/
theorem sample_nsa (x : FVec Ideal Cert.Reference4Ideal.S128x4x2048 .f32) (w : FVec Ideal Cert.Reference4Ideal.S2048x18344 .f32) :
    Cert.Reference4Ideal.Proj.NSA (Cert.Reference4Ideal.Proj.PROJ x w) = Cert.Kernel4Ideal.Proj.KNSA (sampleWide x w) := by
  funext y
  obtain ⟨b, s, u, a, d, rfl⟩ : ∃ b s u a d, y = ix5 b s u a d := ⟨y 0, y 1, y 2, y 3, y 4, by funext i; fin_cases i <;> rfl⟩
  refine (Cert.Reference4Ideal.Proj.nsa_at _ b s u a d).trans ((sample_wide x w b s _ _ ?_).trans (Cert.Kernel4Ideal.Proj.knsa_at (sampleWide x w) b s u a d).symm)
  have := Cert.Kernel2Ideal.Proj.dest_cases (1024 + (u * 256 + a * 128 + d)) (by omega)
  dsimp only
  omega

/-- The window's state. -/
theorem sample_win (x : FVec Ideal Cert.Reference4Ideal.S128x4x2048 .f32) (w : FVec Ideal Cert.Reference4Ideal.S2048x18344 .f32) (z : FVec Ideal Cert.Reference4Ideal.S128x512x2x2x128 .f32) :
    Cert.Reference4Ideal.Proj.WIN (Cert.Reference4Ideal.Proj.PROJ x w) z = Cert.Kernel4Ideal.Proj.KWIN (sampleWide x w) z := by
  funext y
  obtain ⟨b, s, u, a, d, rfl⟩ : ∃ b s u a d, y = ix5 b s u a d := ⟨y 0, y 1, y 2, y 3, y 4, by funext i; fin_cases i <;> rfl⟩
  by_cases hs : s.val < 508
  · exact (Cert.Reference4Ideal.Proj.win_old _ z b ⟨s, hs⟩ u a d).trans (Cert.Kernel4Ideal.Proj.kwin_old _ z b ⟨s, hs⟩ u a d).symm
  · obtain ⟨r, hr⟩ : ∃ r : Fin 4, s.val = 508 + r.val := ⟨⟨s - 508, by omega⟩, by dsimp only; omega⟩
    obtain rfl : s = ⟨508 + r.val, Nat.add_lt_add_left r.isLt 508⟩ := Fin.ext hr
    refine (Cert.Reference4Ideal.Proj.win_new _ z b r u a d).trans ((sample_wide x w b _ _ _ ?_).trans (Cert.Kernel4Ideal.Proj.kwin_new (sampleWide x w) z b r u a d).symm)
    have := Cert.Kernel2Ideal.Proj.dest_cases (1024 + ((4 + u) * 256 + a * 128 + d)) (by omega)
    dsimp only
    omega

/-- The second cache's rows. -/
theorem sample_dsa (x : FVec Ideal Cert.Reference4Ideal.S128x4x2048 .f32) (w : FVec Ideal Cert.Reference4Ideal.S2048x18344 .f32) :
    Cert.Reference4Ideal.Proj.DSA (Cert.Reference4Ideal.Proj.PROJ x w) = Cert.Kernel4Ideal.Proj.KDSA (sampleWide x w) := by
  funext y
  obtain ⟨b, s, u, d, rfl⟩ : ∃ b s u d, y = ix4 b s u d := ⟨y 0, y 1, y 2, y 3, by funext i; fin_cases i <;> rfl⟩
  refine Eq.trans ?_ (Cert.Kernel4Ideal.Proj.kdsa_at (sampleWide x w) b s u d).symm
  by_cases hu : u.val < 2
  · refine (Cert.Reference4Ideal.Proj.dsa_kv _ b s ⟨u, hu⟩ d).trans (sample_wide x w b s _ _ ?_)
    have := Cert.Kernel2Ideal.Proj.dest_cases (4632 + (u * 128 + d)) (by omega)
    dsimp only
    omega
  · obtain rfl : u = 2 := Fin.ext (by omega)
    refine (Cert.Reference4Ideal.Proj.dsa_ik _ b s d).trans (sample_wide x w b s _ _ ?_)
    have := Cert.Kernel2Ideal.Proj.dest_cases (6936 + d) (by omega)
    dsimp only
    omega

/-- The third cache's rows. -/
theorem sample_diff (x : FVec Ideal Cert.Reference4Ideal.S128x4x2048 .f32) (w : FVec Ideal Cert.Reference4Ideal.S2048x18344 .f32) :
    Cert.Reference4Ideal.Proj.DIFF (Cert.Reference4Ideal.Proj.PROJ x w) = Cert.Kernel4Ideal.Proj.KDIFF (sampleWide x w) := by
  funext y
  obtain ⟨b, s, u, a, d, rfl⟩ : ∃ b s u a d, y = ix5 b s u a d := ⟨y 0, y 1, y 2, y 3, y 4, by funext i; fin_cases i <;> rfl⟩
  refine Eq.trans ?_ (Cert.Kernel4Ideal.Proj.kdiff_at (sampleWide x w) b s u a d).symm
  by_cases hu : u.val < 1
  · obtain rfl : u = 0 := Fin.ext (by omega)
    refine (Cert.Reference4Ideal.Proj.diff_k _ b s a d).trans (sample_wide x w b s _ _ ?_)
    have := Cert.Kernel2Ideal.Proj.dest_cases (9128 + (a * 128 + d)) (by omega)
    dsimp only
    omega
  · obtain rfl : u = 1 := Fin.ext (by omega)
    refine (Cert.Reference4Ideal.Proj.diff_v _ b s a d).trans (sample_wide x w b s _ _ ?_)
    have := Cert.Kernel2Ideal.Proj.dest_cases (10152 + (a * 128 + d)) (by omega)
    dsimp only
    omega

/-- The sample's projection kernel and reference have equal results. -/
theorem sample_value : Cert.algebraic_Kernel4Ideal_Reference4Ideal (hKernel4Ideal := Cert.Kernel4Ideal.Gen.facts) (hReference4Ideal := Cert.Reference4Ideal.Gen.facts) := by
  pair_intro
  · run_from Cert.Kernel4Ideal.Gen.run_main m g & Cert.Kernel4Ideal.Gen.unchanged m g
  · run_from Cert.Reference4Ideal.Proj.results m' g'
    · exact (sample_rows _ _).trans (Cert.Kernel4Ideal.Proj.tail_h m c).symm
    · exact (sample_nsa _ _).trans (Cert.Kernel4Ideal.Proj.tail_nsa m c).symm
    · exact (sample_dsa _ _).trans (Cert.Kernel4Ideal.Proj.tail_dsa m c).symm
    · exact (sample_diff _ _).trans (Cert.Kernel4Ideal.Proj.tail_diff m c).symm
    · exact (sample_win _ _ _).trans (Cert.Kernel4Ideal.Proj.tail_win m c).symm

/-- The sample's projection reference runs and leaves its arguments. -/
theorem sample_ref : Cert.quiescent_Reference4Ideal (hReference4Ideal := Cert.Reference4Ideal.Gen.facts) := by
  intro m g _
  exact (θ_run Cert.Reference4Ideal.defs _ _).mono (fun r h => ⟨fun c => (h c).2.2.2.2.2, sem_eq_zero_of_no_sems rfl r.2⟩) (Cert.Reference4Ideal.Value.run m g)

end Cert.Proof

end
-- ==== Proof.SampleMergeRef.lean ====
/- The sample's reference of the merge and its layer normalisation, cut into named pieces, each read at an index. -/
module

public import proofs.«01_k».proof.Proof.Gen.Reference5Ideal.Run
public import Idealize.ShloMosaic.Lib.Pointwise
public import proofs.«01_k».proof.Proof.LayerRows

@[expose] public section

set_option maxRecDepth 16384

noncomputable section

namespace Cert.Reference5Ideal.Merge

open Idealize.ShloMosaic Idealize.ShloMosaic.TcCoe Idealize.SL.Sem
open Cert.Reference5Ideal Cert.Reference5Ideal.Gen Cert.Reference5Ideal.Value

/-- One branch's gated output, from the branch's columns of the projected rows. -/
def GATED (o z : FVec Ideal S128x4x1024 .f32) : FVec Ideal S128x4x1x1024 .f32 :=
  broadcastInDim S128x4x1x1024 ![0, 1, 3] bcast_S128x4x1024_S128x4x1x1024_0_1_3
    (mulf o (mulf z (Host.divf (broadcastInDim S128x4x1024 ![] bcast_S_S128x4x1024 (constant S_ .f32 0x3F800000#32))
      (addf (broadcastInDim S128x4x1024 ![] bcast_S_S128x4x1024 (constant S_ .f32 0x3F800000#32)) (Host.exp (Host.negf z))))))

/-- The three branches side by side. -/
def STACK (a b c : FVec Ideal S128x4x1x1024 .f32) : FVec Ideal S128x4x3x1024 .f32 :=
  concatenate S128x4x3x1024 2 [⟨S128x4x1x1024, a⟩, ⟨S128x4x1x1024, b⟩, ⟨S128x4x1x1024, c⟩]
    concatenates_S128x4x1x1024_S128x4x1x1024_S128x4x1x1024_S128x4x3x1024_d2

/-- Each branch's output projection. -/
def BRANCH (w : FVec Ideal S3x1024x2048 .f32) (u : FVec Ideal S128x4x3x1024 .f32) : FVec Ideal S128x4x3x2048 .f32 :=
  transpose S128x4x3x2048 [2, 3, 0, 1] (Host.dotGeneral dot_S3x1024x2048_S128x4x3x1024_S3x2048x128x4_1_3_2_01_0_2 none w u)
    transposes_S3x2048x128x4_S128x4x3x2048_2_3_0_1

/-- The gates of the merge. -/
def GATE (h : FVec Ideal S128x4x18344 .f32) : FVec Ideal S128x4x3x2048 .f32 :=
  Host.divf (broadcastInDim S128x4x3x2048 ![] bcast_S_S128x4x3x2048 (constant S_ .f32 0x3F800000#32))
    (addf (broadcastInDim S128x4x3x2048 ![] bcast_S_S128x4x3x2048 (constant S_ .f32 0x3F800000#32))
      (Host.exp (Host.negf (shapeCast S128x4x3x2048 (extractStridedSlice S128x4x6144 ![0, 0, 12200] h slices_S128x4x18344_S128x4x6144_0_0_12200) shapeCasts_S128x4x6144_S128x4x3x2048))))

/-- The gated sum of the branches. -/
def MIXED (g b : FVec Ideal S128x4x3x2048 .f32) : FVec Ideal S128x4x2048 .f32 :=
  Host.reduceAdd (mulf g b) (constant S_ .f32 0x00000000#32) reducesTo_S128x4x3x2048_S128x4x2048_d2 h_S_

/-- The output projection added to the scaled residual. -/
def RESID (x m : FVec Ideal S128x4x2048 .f32) (w : FVec Ideal S2048x2048 .f32) : FVec Ideal S128x4x2048 .f32 :=
  addf (mulf (broadcastInDim S128x4x2048 ![] bcast_S_S128x4x2048 (constant S_ .f32 0x3FB504F3#32)) x)
    (Host.dotGeneral dot_S128x4x2048_S2048x2048_S128x4x2048_2_0_01_1_n_n none m w)

/-- The mean over a row. -/
def MEAN (r : FVec Ideal S128x4x2048 .f32) : FVec Ideal S128x4x1 .f32 :=
  Host.divf (broadcastInDim S128x4x1 ![0, 1] bcast_S128x4_S128x4x1_0_1
    (Host.reduceAdd r (constant S_ .f32 0x00000000#32) reducesTo_S128x4x2048_S128x4_d2 h_S_))
    (broadcastInDim S128x4x1 ![] bcast_S_S128x4x1 (constant S_ .f32 0x45000000#32))

/-- A row less its mean. -/
def CENTRED (r : FVec Ideal S128x4x2048 .f32) : FVec Ideal S128x4x2048 .f32 :=
  subf r (broadcastInDim S128x4x2048 ![0, 1, 2] bcast_S128x4x1_S128x4x2048_0_1_2 (MEAN r))

/-- A vector of gains or offsets for every row. -/
def ROWS (g : FVec Ideal S2048 .f32) : FVec Ideal S128x4x2048 .f32 :=
  broadcastInDim S128x4x2048 ![0, 1, 2] bcast_S1x1x2048_S128x4x2048_0_1_2 (broadcastInDim S1x1x2048 ![2] bcast_S2048_S1x1x2048_2 g)

/-- The normalisation of centred rows. -/
def SCALED (x : FVec Ideal S128x4x2048 .f32) (g b : FVec Ideal S2048 .f32) : FVec Ideal S128x4x2048 .f32 :=
  addf (mulf (mulf x (broadcastInDim S128x4x2048 ![0, 1, 2] bcast_S128x4x1_S128x4x2048_0_1_2
    (Host.rsqrt (addf (MEAN (mulf x x)) (broadcastInDim S128x4x1 ![] bcast_S_S128x4x1 (constant S_ .f32 0x3727C5AC#32)))))) (ROWS g)) (ROWS b)

/-- A branch's columns of the projected rows. -/
def ZA (h : FVec Ideal S128x4x18344 .f32) : FVec Ideal S128x4x1024 .f32 :=
  extractStridedSlice S128x4x1024 ![0, 0, 2584] h slices_S128x4x18344_S128x4x1024_0_0_2584
/-- A branch's columns of the projected rows. -/
def ZB (h : FVec Ideal S128x4x18344 .f32) : FVec Ideal S128x4x1024 .f32 :=
  extractStridedSlice S128x4x1024 ![0, 0, 7080] h slices_S128x4x18344_S128x4x1024_0_0_7080
/-- A branch's columns of the projected rows. -/
def ZC (h : FVec Ideal S128x4x18344 .f32) : FVec Ideal S128x4x1024 .f32 :=
  extractStridedSlice S128x4x1024 ![0, 0, 11176] h slices_S128x4x18344_S128x4x1024_0_0_11176

/-- The reference's result over its arguments. -/
def REF (x : FVec Ideal S128x4x2048 .f32) (h : FVec Ideal S128x4x18344 .f32) (oa : FVec Ideal S128x4x1024 .f32) (ob : FVec Ideal S128x4x8x128 .f32)
    (oc : FVec Ideal S128x4x1024 .f32) (wb : FVec Ideal S3x1024x2048 .f32) (wo : FVec Ideal S2048x2048 .f32) (g b : FVec Ideal S2048 .f32) : FVec Ideal S128x4x2048 .f32 :=
  SCALED (CENTRED (RESID x (MIXED (GATE h) (BRANCH wb (STACK (GATED oa (ZA h))
    (GATED (shapeCast S128x4x1024 ob shapeCasts_S128x4x8x128_S128x4x1024) (ZB h)) (GATED oc (ZC h))))) wo)) g b

/-- The run's result is the composition of the named pieces. -/
theorem res_eq (m : (ℓ : Loc nD τ sig) → Buf (Elt Ideal) ℓ) (c : Dev nD) :
    res_out0 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-- The stacked branches at an index. -/
theorem stack_at (x y z : FVec Ideal S128x4x1x1024 .f32) (b : Fin 128) (s : Fin 4) (d : Fin 1024) :
    STACK x y z (ix4 b s 0 d) = x (ix4 b s 0 d) ∧ STACK x y z (ix4 b s 1 d) = y (ix4 b s 0 d) ∧ STACK x y z (ix4 b s 2 d) = z (ix4 b s 0 d) := by
  refine ⟨?_, ?_, ?_⟩ <;> pointwise [STACK]

/-- A gated branch at an index. -/
theorem gated_at (o z : FVec Ideal S128x4x1024 .f32) (b : Fin 128) (s : Fin 4) (k : Fin 1024) :
    GATED o z (ix4 b s 0 k) = o (ix3 b s k) * (z (ix3 b s k) * Cert.Layer.SG (z (ix3 b s k))) := by
  pointwise [GATED]
  rfl

/-- A projected branch at an index. -/
theorem branch_at (w : FVec Ideal S3x1024x2048 .f32) (u : FVec Ideal S128x4x3x1024 .f32) (b : Fin 128) (s : Fin 4) (n : Fin 3) (d : Fin 2048) :
    BRANCH w u (ix4 b s n d) = ∑ k : Fin 1024, w (ix3 n k d) * u (ix4 b s n k) := by
  pointwise [BRANCH]

/-- A gate at an index. -/
theorem gate_at (h : FVec Ideal S128x4x18344 .f32) (b : Fin 128) (s : Fin 4) (n : Fin 3) (d : Fin 2048) :
    GATE h (ix4 b s n d) = Cert.Layer.SG (h (ix3 b s ⟨12200 + (n * 2048 + d), by omega⟩)) := by
  pointwise [GATE]
  rfl

/-- The gated sum at an index. -/
theorem mixed_at (g u : FVec Ideal S128x4x3x2048 .f32) (b : Fin 128) (s : Fin 4) (d : Fin 2048) :
    MIXED g u (ix3 b s d) = ∑ n : Fin 3, g (ix4 b s n d) * u (ix4 b s n d) := by
  pointwise [MIXED]

/-- The residual sum at an index. -/
theorem resid_at (x y : FVec Ideal S128x4x2048 .f32) (w : FVec Ideal S2048x2048 .f32) (b : Fin 128) (s : Fin 4) (d : Fin 2048) :
    RESID x y w (ix3 b s d) = Cert.Layer.RES (x (ix3 b s d)) (fun e => y (ix3 b s e)) (fun e => w (ix2 e d)) := by
  pointwise [RESID]
  rfl

/-- A centred row at an index. -/
theorem centred_at (r : FVec Ideal S128x4x2048 .f32) (b : Fin 128) (s : Fin 4) (d : Fin 2048) :
    CENTRED r (ix3 b s d) = Cert.Layer.CEN (fun e => r (ix3 b s e)) d := by
  pointwise [CENTRED, MEAN]
  rfl

/-- The normalisation of a centred row at an index. -/
theorem scaled_at (x : FVec Ideal S128x4x2048 .f32) (g h : FVec Ideal S2048 .f32) (b : Fin 128) (s : Fin 4) (d : Fin 2048) :
    SCALED x g h (ix3 b s d) = x (ix3 b s d) * Ideal.rsqrt (Ideal.div (∑ e : Fin 2048, x (ix3 b s e) * x (ix3 b s e)) (Ideal.ofBits .f32 0x45000000#32)
      + Ideal.ofBits .f32 0x3727C5AC#32) * g (ix1 d) + h (ix1 d) := by
  pointwise [SCALED, MEAN, ROWS]

/-- The branches' columns at an index. -/
theorem z_at (h : FVec Ideal S128x4x18344 .f32) (b : Fin 128) (s : Fin 4) (k : Fin 1024) :
    ZA h (ix3 b s k) = h (ix3 b s ⟨2584 + k, by omega⟩) ∧ ZB h (ix3 b s k) = h (ix3 b s ⟨7080 + k, by omega⟩) ∧ ZC h (ix3 b s k) = h (ix3 b s ⟨11176 + k, by omega⟩) := by
  refine ⟨?_, ?_, ?_⟩ <;> pointwise [ZA, ZB, ZC]

/-- The heads of a branch side by side. -/
theorem heads_at (o : FVec Ideal S128x4x8x128 .f32) (b : Fin 128) (s : Fin 4) (k : Fin 1024) :
    shapeCast S128x4x1024 o shapeCasts_S128x4x8x128_S128x4x1024 (ix3 b s k) = o (ix4 b s ⟨k / 128, by omega⟩ ⟨k % 128, by omega⟩) := by
  pointwise

/-- The gated sum of the branches, from the arguments. -/
def MROW (h : FVec Ideal S128x4x18344 .f32) (oa : FVec Ideal S128x4x1024 .f32) (ob : FVec Ideal S128x4x8x128 .f32)
    (oc : FVec Ideal S128x4x1024 .f32) (wb : FVec Ideal S3x1024x2048 .f32) (b : Fin 128) (s : Fin 4) (d : Fin 2048) : EReal :=
  Cert.Layer.MX (fun k => oa (ix3 b s k)) (fun k => ob (ix4 b s ⟨k / 128, by omega⟩ ⟨k % 128, by omega⟩)) (fun k => oc (ix3 b s k))
    (fun k => h (ix3 b s ⟨2584 + k, by omega⟩)) (fun k => h (ix3 b s ⟨7080 + k, by omega⟩)) (fun k => h (ix3 b s ⟨11176 + k, by omega⟩))
    (fun k => wb (ix3 0 k d)) (fun k => wb (ix3 1 k d)) (fun k => wb (ix3 2 k d))
    (h (ix3 b s ⟨12200 + d, by omega⟩)) (h (ix3 b s ⟨14248 + d, by omega⟩)) (h (ix3 b s ⟨16296 + d, by omega⟩))

/-- The reference's gated sum is the row's. -/
theorem mrow_at (h : FVec Ideal S128x4x18344 .f32) (oa : FVec Ideal S128x4x1024 .f32) (ob : FVec Ideal S128x4x8x128 .f32)
    (oc : FVec Ideal S128x4x1024 .f32) (wb : FVec Ideal S3x1024x2048 .f32) (b : Fin 128) (s : Fin 4) (d : Fin 2048) :
    MIXED (GATE h) (BRANCH wb (STACK (GATED oa (ZA h)) (GATED (shapeCast S128x4x1024 ob shapeCasts_S128x4x8x128_S128x4x1024) (ZB h)) (GATED oc (ZC h)))) (ix3 b s d)
      = MROW h oa ob oc wb b s d := by
  rw [mixed_at, Fin.sum_univ_three]
  simp only [gate_at, branch_at, (stack_at _ _ _ b s _).1, (stack_at _ _ _ b s _).2.1, (stack_at _ _ _ b s _).2.2, gated_at,
    (z_at h b s _).1, (z_at h b s _).2.1, (z_at h b s _).2.2, heads_at, mul_comm (wb _)]
  unfold MROW Cert.Layer.MX Cert.Layer.BR
  congr! 6 <;> simp <;> omega

/-- The reference's result at an index. -/
theorem ref_at (x : FVec Ideal S128x4x2048 .f32) (h : FVec Ideal S128x4x18344 .f32) (oa : FVec Ideal S128x4x1024 .f32) (ob : FVec Ideal S128x4x8x128 .f32)
    (oc : FVec Ideal S128x4x1024 .f32) (wb : FVec Ideal S3x1024x2048 .f32) (wo : FVec Ideal S2048x2048 .f32) (g z : FVec Ideal S2048 .f32) (b : Fin 128) (s : Fin 4) (d : Fin 2048) :
    REF x h oa ob oc wb wo g z (ix3 b s d)
      = Cert.Layer.LN (fun e => Cert.Layer.RES (x (ix3 b s e)) (fun f => MROW h oa ob oc wb b s f) (fun f => wo (ix2 f e))) (g (ix1 d)) (z (ix1 d)) d := by
  unfold REF Cert.Layer.LN
  rw [scaled_at]
  simp only [centred_at, resid_at, mrow_at]

end Cert.Reference5Ideal.Merge
end
-- ==== Proof.SampleMergePerm.lean ====
/- The arrays the sample's merge kernel reads, over its arguments, and its body at an index. -/
module

public import proofs.«01_k».proof.Proof.Gen.Kernel5Ideal.Frame
public import Idealize.ShloMosaic.Lib.Pipeline.ValueKit
public import Idealize.ShloMosaic.Lib.Claim
public import proofs.«01_k».proof.Proof.SampleMergeRef
public import proofs.«01_k».proof.Proof.MergePerm

@[expose] public section

set_option maxRecDepth 16384

noncomputable section

namespace Cert.Kernel5Ideal.Merge

open Idealize.ShloMosaic Idealize.ShloMosaic.TcCoe Idealize.SL.Sem
open Cert.Kernel5Ideal Cert.Kernel5Ideal.Gen
open Idealize.ShloMosaic.Pipeline (Dat)
open Cert.Kernel3Ideal.Merge (off_axis)

variable (m : (ℓ : Loc nD τ sig) → Buf (Elt Ideal) ℓ)

/-- The number of grid points. -/
theorem lt_N (t : Fin cfg0.N) : t.val < 4 := t.isLt

/-- The block indices of the windows. -/
theorem idx : ∀ t : Fin cfg0.N, win0_0.index t = ![t.val, 0] ∧ win0_1.index t = ![t.val, 0] ∧ win0_2.index t = ![t.val, 0]
    ∧ win0_3.index t = ![t.val, 1] ∧ win0_4.index t = ![t.val, 3] ∧ win0_5.index t = ![t.val, 5]
    ∧ win0_6.index t = ![t.val, 1] ∧ win0_7.index t = ![t.val, 0] ∧ win0_8.index t = ![0, 0, 0] ∧ win0_9.index t = ![0, 0]
    ∧ win0_10.index t = ![0, 0] ∧ win0_11.index t = ![0, 0] ∧ win0_12.index t = ![t.val, 0] := (by decide +kernel : ∀ t : Fin grid0.N, _)

/-- The body's result at an index. -/
theorem out_row (x0 x1 x2 x3 x4 x5 : Vec Ideal S128x1024 .f32) (x6 : Vec Ideal S128x6144 .f32) (x7 : Vec Ideal S128x2048 .f32) (x8 : Vec Ideal S3x1024x2048 .bf16)
    (x9 : Vec Ideal S2048x2048 .bf16) (x10 x11 : Vec Ideal S1x2048 .f32) (r : Fin 128) (d : Fin 2048) :
    k0_pay8 (k0_pay5 (k0_pay1 (View.ld x3 r0_0) (View.ld x0 r0_0) (View.ld x8 r0_1) (View.ld x6 r0_2)) (k0_pay2 (View.ld x4 r0_0)) (k0_pay3 (View.ld x1 r0_0)) (k0_pay4 (View.ld x4 r0_0)) (Scalar.ofBits .f32 0x3F800000#32) (View.ld x8 r0_3) (View.ld x6 r0_4))
      (k0_pay6 (View.ld x5 r0_0) (View.ld x2 r0_0) (View.ld x8 r0_5)) (k0_pay7 (View.ld x6 r0_6)) (View.ld x9 r0_7) (View.ld x7 r0_8) (View.ld x10 r0_9) (View.ld x11 r0_9) (ix2 r d)
      = Cert.Layer.LN (fun e => Cert.Layer.RES (x7 (ix2 r e)) (fun f => Cert.Layer.MX (fun k => x0 (ix2 r k)) (fun k => x1 (ix2 r k)) (fun k => x2 (ix2 r k))
          (fun k => x3 (ix2 r k)) (fun k => x4 (ix2 r k)) (fun k => x5 (ix2 r k)) (fun k => x8 (ix3 0 k f)) (fun k => x8 (ix3 1 k f)) (fun k => x8 (ix3 2 k f))
          (x6 (ix2 r ⟨f, by omega⟩)) (x6 (ix2 r ⟨2048 + f, by omega⟩)) (x6 (ix2 r ⟨4096 + f, by omega⟩))) (fun f => x9 (ix2 f e)))
        (x10 (ix2 0 d)) (x11 (ix2 0 d)) d :=
  Cert.Kernel3Ideal.Merge.out_row x0 x1 x2 x3 x4 x5 x6 x7 x8 x9 x10 x11 r d

/-- The permuted rows. -/
def PERM (x : FVec Ideal S512x18344 .f32) : FVec Ideal S512x18432 .f32 :=
  concatenate S512x18432 1 [⟨S512x1024, extractStridedSlice S512x1024 ![0, 0] x slices_S512x18344_S512x1024_0_0⟩,
    ⟨S512x1024, extractStridedSlice S512x1024 ![0, 2584] x slices_S512x18344_S512x1024_0_2584⟩,
    ⟨S512x1024, extractStridedSlice S512x1024 ![0, 3608] x slices_S512x18344_S512x1024_0_3608⟩,
    ⟨S512x1024, extractStridedSlice S512x1024 ![0, 7080] x slices_S512x18344_S512x1024_0_7080⟩,
    ⟨S512x1024, extractStridedSlice S512x1024 ![0, 8104] x slices_S512x18344_S512x1024_0_8104⟩,
    ⟨S512x1024, extractStridedSlice S512x1024 ![0, 11176] x slices_S512x18344_S512x1024_0_11176⟩,
    ⟨S512x6144, extractStridedSlice S512x6144 ![0, 12200] x slices_S512x18344_S512x6144_0_12200⟩,
    ⟨S512x2048, extractStridedSlice S512x2048 ![0, 4888] x slices_S512x18344_S512x2048_0_4888⟩,
    ⟨S512x1024, extractStridedSlice S512x1024 ![0, 9128] x slices_S512x18344_S512x1024_0_9128⟩,
    ⟨S512x1024, extractStridedSlice S512x1024 ![0, 10152] x slices_S512x18344_S512x1024_0_10152⟩,
    ⟨S512x1536, extractStridedSlice S512x1536 ![0, 1024] x slices_S512x18344_S512x1536_0_1024⟩,
    ⟨S512x256, extractStridedSlice S512x256 ![0, 4632] x slices_S512x18344_S512x256_0_4632⟩,
    ⟨S512x128, extractStridedSlice S512x128 ![0, 6936] x slices_S512x18344_S512x128_0_6936⟩,
    ⟨S512x24, extractStridedSlice S512x24 ![0, 2560] x slices_S512x18344_S512x24_0_2560⟩,
    ⟨S512x16, extractStridedSlice S512x16 ![0, 7064] x slices_S512x18344_S512x16_0_7064⟩,
    ⟨S512x88, broadcastInDim S512x88 ![] bcast_S_S512x88 (constant S_ .f32 0x00000000#32)⟩]
    concatenates_S512x1024_S512x1024_S512x1024_S512x1024_S512x1024_S512x1024_S512x6144_S512x2048_S512x1024_S512x1024_S512x1536_S512x256_S512x128_S512x24_S512x16_S512x88_S512x18432_d1

/-- The rows of all batches, one after another. -/
def FLAT (x : FVec Ideal S128x4x18344 .f32) : FVec Ideal S512x18344 .f32 := shapeCast S512x18344 x shapeCasts_S128x4x18344_S512x18344

/-- A row of all batches' is a batch's. -/
theorem flat_at (x : FVec Ideal S128x4x18344 .f32) (r : Fin 512) (d : Fin 18344) :
    FLAT x (ix2 r d) = x (ix3 ⟨r / 4, by omega⟩ ⟨r % 4, by omega⟩ d) := by
  pointwise [FLAT]

/-- A row of all batches' is a batch's, for a branch. -/
theorem flat_branch (x : FVec Ideal S128x4x1024 .f32) (r : Fin 512) (d : Fin 1024) :
    shapeCast S512x1024 x shapeCasts_S128x4x1024_S512x1024 (ix2 r d) = x (ix3 ⟨r / 4, by omega⟩ ⟨r % 4, by omega⟩ d) := by
  pointwise

/-- A row of all batches' is a batch's, for a branch of heads. -/
theorem flat_heads (x : FVec Ideal S128x4x8x128 .f32) (r : Fin 512) (d : Fin 1024) :
    shapeCast S512x1024 x shapeCasts_S128x4x8x128_S512x1024 (ix2 r d) = x (ix4 ⟨r / 4, by omega⟩ ⟨r % 4, by omega⟩ ⟨d / 128, by omega⟩ ⟨d % 128, by omega⟩) := by
  pointwise

/-- A row of all batches' is a batch's, for the residual. -/
theorem flat_x (x : FVec Ideal S128x4x2048 .f32) (r : Fin 512) (d : Fin 2048) :
    shapeCast S512x2048 x shapeCasts_S128x4x2048_S512x2048 (ix2 r d) = x (ix3 ⟨r / 4, by omega⟩ ⟨r % 4, by omega⟩ d) := by
  pointwise

/-- Splitting the rows by batch and joining them again changes nothing. -/
theorem join_split (x : FVec Ideal S512x18432 .f32) :
    shapeCast S512x18432 (shapeCast S128x4x18432 x shapeCasts_S512x18432_S128x4x18432) shapeCasts_S128x4x18432_S512x18432 = x := by
  funext y
  idx_vars y
  pointwise
  blk_ext

/-- The array the kernel reads is the permuted rows. -/
theorem V_perm (c : Dev nD) : V m c main_v24 = PERM (FLAT (m ((c : Thread nD τ).loc main_arg1))) := by
  refine Eq.trans (?_ : _ = shapeCast S512x18432 (shapeCast S128x4x18432 (PERM (FLAT (m ((c : Thread nD τ).loc main_arg1)))) shapeCasts_S512x18432_S128x4x18432) shapeCasts_S128x4x18432_S512x18432) (join_split _)
  unfold V V0
  simp only [List.flatten_cons, List.flatten_nil, List.append_nil]
  after_results
  rfl

/-- The arrays the kernel reads, over the arguments. -/
theorem V_oa (c : Dev nD) : V m c main_v21 = shapeCast S512x1024 (m ((c : Thread nD τ).loc main_arg2)) shapeCasts_S128x4x1024_S512x1024 := by
  unfold V V0
  simp only [List.flatten_cons, List.flatten_nil, List.append_nil]
  after_results
  rfl
/-- The second branch's rows. -/
theorem V_ob (c : Dev nD) : V m c main_v22 = shapeCast S512x1024 (m ((c : Thread nD τ).loc main_arg3)) shapeCasts_S128x4x8x128_S512x1024 := by
  unfold V V0
  simp only [List.flatten_cons, List.flatten_nil, List.append_nil]
  after_results
  rfl
/-- The third branch's rows. -/
theorem V_oc (c : Dev nD) : V m c main_v23 = shapeCast S512x1024 (m ((c : Thread nD τ).loc main_arg4)) shapeCasts_S128x4x1024_S512x1024 := by
  unfold V V0
  simp only [List.flatten_cons, List.flatten_nil, List.append_nil]
  after_results
  rfl
/-- The residual's rows. -/
theorem V_x (c : Dev nD) : V m c main_v25 = shapeCast S512x2048 (m ((c : Thread nD τ).loc main_arg0)) shapeCasts_S128x4x2048_S512x2048 := by
  unfold V V0
  simp only [List.flatten_cons, List.flatten_nil, List.append_nil]
  after_results
  rfl
/-- The branches' matrices. -/
theorem V_wb (c : Dev nD) : V m c main_v19 = (truncf .bf16 (m ((c : Thread nD τ).loc main_arg5) : FVec Ideal S3x1024x2048 .f32) bitsLt_bf16_f32 : FVec Ideal S3x1024x2048 .bf16) := by
  unfold V V0
  simp only [List.flatten_cons, List.flatten_nil, List.append_nil]
  after_results
/-- The output matrix. -/
theorem V_wo (c : Dev nD) : V m c main_v20 = (truncf .bf16 (m ((c : Thread nD τ).loc main_arg6) : FVec Ideal S2048x2048 .f32) bitsLt_bf16_f32 : FVec Ideal S2048x2048 .bf16) := by
  unfold V V0
  simp only [List.flatten_cons, List.flatten_nil, List.append_nil]
  after_results
/-- The gains. -/
theorem V_g (c : Dev nD) : V m c main_v26 = shapeCast S1x2048 (m ((c : Thread nD τ).loc main_arg7)) shapeCasts_S2048_S1x2048 := by
  unfold V V0
  simp only [List.flatten_cons, List.flatten_nil, List.append_nil]
  after_results
  rfl
/-- The offsets. -/
theorem V_b (c : Dev nD) : V m c main_v27 = shapeCast S1x2048 (m ((c : Thread nD τ).loc main_arg8)) shapeCasts_S2048_S1x2048 := by
  unfold V V0
  simp only [List.flatten_cons, List.flatten_nil, List.append_nil]
  after_results
  rfl

/-- The permuted rows, at the first gate. -/
theorem perm_a (X : FVec Ideal S512x18344 .f32) (r : Fin 512) (x : Fin 1024) :
    PERM X (ix2 r ⟨1024 + x, by omega⟩) = X (ix2 r ⟨2584 + x, by omega⟩) := by
  unfold PERM
  refine (concatenate_apply_piece (t := S512x18432) 1 _ _ _ 1 (by simp) S512x1024 _ rfl rfl 1024 (by simp) (ix2 r x) (off_axis r _ x _) rfl).trans ?_
  pointwise

/-- The permuted rows, at the second gate. -/
theorem perm_b (X : FVec Ideal S512x18344 .f32) (r : Fin 512) (x : Fin 1024) :
    PERM X (ix2 r ⟨3072 + x, by omega⟩) = X (ix2 r ⟨7080 + x, by omega⟩) := by
  unfold PERM
  refine (concatenate_apply_piece (t := S512x18432) 1 _ _ _ 3 (by simp) S512x1024 _ rfl rfl 3072 (by simp) (ix2 r x) (off_axis r _ x _) rfl).trans ?_
  pointwise

/-- The permuted rows, at the third gate. -/
theorem perm_c (X : FVec Ideal S512x18344 .f32) (r : Fin 512) (x : Fin 1024) :
    PERM X (ix2 r ⟨5120 + x, by omega⟩) = X (ix2 r ⟨11176 + x, by omega⟩) := by
  unfold PERM
  refine (concatenate_apply_piece (t := S512x18432) 1 _ _ _ 5 (by simp) S512x1024 _ rfl rfl 5120 (by simp) (ix2 r x) (off_axis r _ x _) rfl).trans ?_
  pointwise

/-- The permuted rows, at the gates of the merge. -/
theorem perm_m (X : FVec Ideal S512x18344 .f32) (r : Fin 512) (x : Fin 6144) :
    PERM X (ix2 r ⟨6144 + x, by omega⟩) = X (ix2 r ⟨12200 + x, by omega⟩) := by
  unfold PERM
  refine (concatenate_apply_piece (t := S512x18432) 1 _ _ _ 6 (by simp) S512x6144 _ rfl rfl 6144 (by simp) (ix2 r x) (off_axis r _ x _) rfl).trans ?_
  pointwise

end Cert.Kernel5Ideal.Merge
end
-- ==== Proof.SampleMergeKernel.lean ====
/- The sample's merge kernel's result array is the reference's function of the arguments. -/
module

public import proofs.«01_k».proof.Proof.Gen.Kernel5Ideal.Frame
public import Idealize.ShloMosaic.Lib.Pipeline.ValueKit
public import Idealize.ShloMosaic.Lib.Claim
public import proofs.«01_k».proof.Proof.SampleMergePerm

@[expose] public section

set_option maxRecDepth 16384

noncomputable section

namespace Cert.Kernel5Ideal.Merge

open Idealize.ShloMosaic Idealize.ShloMosaic.TcCoe Idealize.SL.Sem
open Cert.Kernel5Ideal Cert.Kernel5Ideal.Gen
open Idealize.ShloMosaic.Pipeline (Dat)
open Cert.Kernel3Ideal.Merge (flat_g)

variable (m : (ℓ : Loc nD τ sig) → Buf (Elt Ideal) ℓ)

/-- The block of the first gate, as a block of any contents. -/
theorem za_blk (c : Dev nD) (A : (b : Ref sig .tc) → Buf (Elt Ideal) ((c : Thread nD τ).loc b)) (t : Fin cfg0.N) (r : Fin 128) (x : Fin 1024) :
    (((cfg0.win 3).blk t).view.read (Elt Ideal) (A (Pipeline.arrRef spec0 3)) : FVec Ideal S128x1024 .f32) (ix2 r x) = A main_v24 (ix2 ⟨t.val * 128 + r, by have := lt_N t; omega⟩ ⟨1024 + x, by omega⟩) := by
  have := lt_N t
  refine (rfl : _ = A main_v24 ((win0_3.blk t).view.emb (ix2 r x))).trans (congrArg (A main_v24) ?_)
  blk_ext [idx t]

/-- The block of the first gate. -/
theorem za_read (c : Dev nD) (t : Fin cfg0.N) (r : Fin 128) (x : Fin 1024) :
    (iblk m c 3 t : FVec Ideal S128x1024 .f32) (ix2 r x) = m ((c : Thread nD τ).loc main_arg1) (ix3 ⟨(t.val * 128 + r) / 4, by have := lt_N t; omega⟩ ⟨(t.val * 128 + r) % 4, by omega⟩ ⟨2584 + x, by omega⟩) := by
  unfold iblk
  rw [za_blk c (V m c)]
  exact (congrFun (V_perm m c) _).trans ((perm_a _ _ _).trans (flat_at _ _ _))

/-- The block of the second gate, as a block of any contents. -/
theorem zb_blk (c : Dev nD) (A : (b : Ref sig .tc) → Buf (Elt Ideal) ((c : Thread nD τ).loc b)) (t : Fin cfg0.N) (r : Fin 128) (x : Fin 1024) :
    (((cfg0.win 4).blk t).view.read (Elt Ideal) (A (Pipeline.arrRef spec0 4)) : FVec Ideal S128x1024 .f32) (ix2 r x) = A main_v24 (ix2 ⟨t.val * 128 + r, by have := lt_N t; omega⟩ ⟨3072 + x, by omega⟩) := by
  have := lt_N t
  refine (rfl : _ = A main_v24 ((win0_4.blk t).view.emb (ix2 r x))).trans (congrArg (A main_v24) ?_)
  blk_ext [idx t]

/-- The block of the second gate. -/
theorem zb_read (c : Dev nD) (t : Fin cfg0.N) (r : Fin 128) (x : Fin 1024) :
    (iblk m c 4 t : FVec Ideal S128x1024 .f32) (ix2 r x) = m ((c : Thread nD τ).loc main_arg1) (ix3 ⟨(t.val * 128 + r) / 4, by have := lt_N t; omega⟩ ⟨(t.val * 128 + r) % 4, by omega⟩ ⟨7080 + x, by omega⟩) := by
  unfold iblk
  rw [zb_blk c (V m c)]
  exact (congrFun (V_perm m c) _).trans ((perm_b _ _ _).trans (flat_at _ _ _))

/-- The block of the third gate, as a block of any contents. -/
theorem zc_blk (c : Dev nD) (A : (b : Ref sig .tc) → Buf (Elt Ideal) ((c : Thread nD τ).loc b)) (t : Fin cfg0.N) (r : Fin 128) (x : Fin 1024) :
    (((cfg0.win 5).blk t).view.read (Elt Ideal) (A (Pipeline.arrRef spec0 5)) : FVec Ideal S128x1024 .f32) (ix2 r x) = A main_v24 (ix2 ⟨t.val * 128 + r, by have := lt_N t; omega⟩ ⟨5120 + x, by omega⟩) := by
  have := lt_N t
  refine (rfl : _ = A main_v24 ((win0_5.blk t).view.emb (ix2 r x))).trans (congrArg (A main_v24) ?_)
  blk_ext [idx t]

/-- The block of the third gate. -/
theorem zc_read (c : Dev nD) (t : Fin cfg0.N) (r : Fin 128) (x : Fin 1024) :
    (iblk m c 5 t : FVec Ideal S128x1024 .f32) (ix2 r x) = m ((c : Thread nD τ).loc main_arg1) (ix3 ⟨(t.val * 128 + r) / 4, by have := lt_N t; omega⟩ ⟨(t.val * 128 + r) % 4, by omega⟩ ⟨11176 + x, by omega⟩) := by
  unfold iblk
  rw [zc_blk c (V m c)]
  exact (congrFun (V_perm m c) _).trans ((perm_c _ _ _).trans (flat_at _ _ _))

/-- The block of the gates of the merge, as a block of any contents. -/
theorem zm_blk (c : Dev nD) (A : (b : Ref sig .tc) → Buf (Elt Ideal) ((c : Thread nD τ).loc b)) (t : Fin cfg0.N) (r : Fin 128) (x : Fin 6144) :
    (((cfg0.win 6).blk t).view.read (Elt Ideal) (A (Pipeline.arrRef spec0 6)) : FVec Ideal S128x6144 .f32) (ix2 r x) = A main_v24 (ix2 ⟨t.val * 128 + r, by have := lt_N t; omega⟩ ⟨6144 + x, by omega⟩) := by
  have := lt_N t
  refine (rfl : _ = A main_v24 ((win0_6.blk t).view.emb (ix2 r x))).trans (congrArg (A main_v24) ?_)
  blk_ext [idx t]

/-- The block of the gates of the merge. -/
theorem zm_read (c : Dev nD) (t : Fin cfg0.N) (r : Fin 128) (x : Fin 6144) :
    (iblk m c 6 t : FVec Ideal S128x6144 .f32) (ix2 r x) = m ((c : Thread nD τ).loc main_arg1) (ix3 ⟨(t.val * 128 + r) / 4, by have := lt_N t; omega⟩ ⟨(t.val * 128 + r) % 4, by omega⟩ ⟨12200 + x, by omega⟩) := by
  unfold iblk
  rw [zm_blk c (V m c)]
  exact (congrFun (V_perm m c) _).trans ((perm_m _ _ _).trans (flat_at _ _ _))

/-- The block of the first branch, as a block of any contents. -/
theorem oa_blk (c : Dev nD) (A : (b : Ref sig .tc) → Buf (Elt Ideal) ((c : Thread nD τ).loc b)) (t : Fin cfg0.N) (r : Fin 128) (x : Fin 1024) :
    (((cfg0.win 0).blk t).view.read (Elt Ideal) (A (Pipeline.arrRef spec0 0)) : FVec Ideal S128x1024 .f32) (ix2 r x) = A main_v21 (ix2 ⟨t.val * 128 + r, by have := lt_N t; omega⟩ x) := by
  have := lt_N t
  refine (rfl : _ = A main_v21 ((win0_0.blk t).view.emb (ix2 r x))).trans (congrArg (A main_v21) ?_)
  blk_ext [idx t]

/-- The block of the first branch. -/
theorem oa_read (c : Dev nD) (t : Fin cfg0.N) (r : Fin 128) (x : Fin 1024) :
    (iblk m c 0 t : FVec Ideal S128x1024 .f32) (ix2 r x) = m ((c : Thread nD τ).loc main_arg2) (ix3 ⟨(t.val * 128 + r) / 4, by have := lt_N t; omega⟩ ⟨(t.val * 128 + r) % 4, by omega⟩ x) := by
  unfold iblk
  rw [oa_blk c (V m c)]
  exact (congrFun (V_oa m c) _).trans (flat_branch _ _ _)

/-- The block of the third branch, as a block of any contents. -/
theorem oc_blk (c : Dev nD) (A : (b : Ref sig .tc) → Buf (Elt Ideal) ((c : Thread nD τ).loc b)) (t : Fin cfg0.N) (r : Fin 128) (x : Fin 1024) :
    (((cfg0.win 2).blk t).view.read (Elt Ideal) (A (Pipeline.arrRef spec0 2)) : FVec Ideal S128x1024 .f32) (ix2 r x) = A main_v23 (ix2 ⟨t.val * 128 + r, by have := lt_N t; omega⟩ x) := by
  have := lt_N t
  refine (rfl : _ = A main_v23 ((win0_2.blk t).view.emb (ix2 r x))).trans (congrArg (A main_v23) ?_)
  blk_ext [idx t]

/-- The block of the third branch. -/
theorem oc_read (c : Dev nD) (t : Fin cfg0.N) (r : Fin 128) (x : Fin 1024) :
    (iblk m c 2 t : FVec Ideal S128x1024 .f32) (ix2 r x) = m ((c : Thread nD τ).loc main_arg4) (ix3 ⟨(t.val * 128 + r) / 4, by have := lt_N t; omega⟩ ⟨(t.val * 128 + r) % 4, by omega⟩ x) := by
  unfold iblk
  rw [oc_blk c (V m c)]
  exact (congrFun (V_oc m c) _).trans (flat_branch _ _ _)

/-- The block of the residual, as a block of any contents. -/
theorem x_blk (c : Dev nD) (A : (b : Ref sig .tc) → Buf (Elt Ideal) ((c : Thread nD τ).loc b)) (t : Fin cfg0.N) (r : Fin 128) (x : Fin 2048) :
    (((cfg0.win 7).blk t).view.read (Elt Ideal) (A (Pipeline.arrRef spec0 7)) : FVec Ideal S128x2048 .f32) (ix2 r x) = A main_v25 (ix2 ⟨t.val * 128 + r, by have := lt_N t; omega⟩ x) := by
  have := lt_N t
  refine (rfl : _ = A main_v25 ((win0_7.blk t).view.emb (ix2 r x))).trans (congrArg (A main_v25) ?_)
  blk_ext [idx t]

/-- The block of the residual. -/
theorem x_read (c : Dev nD) (t : Fin cfg0.N) (r : Fin 128) (x : Fin 2048) :
    (iblk m c 7 t : FVec Ideal S128x2048 .f32) (ix2 r x) = m ((c : Thread nD τ).loc main_arg0) (ix3 ⟨(t.val * 128 + r) / 4, by have := lt_N t; omega⟩ ⟨(t.val * 128 + r) % 4, by omega⟩ x) := by
  unfold iblk
  rw [x_blk c (V m c)]
  exact (congrFun (V_x m c) _).trans (flat_x _ _ _)

/-- The block of the second branch, as a block of any contents. -/
theorem ob_blk (c : Dev nD) (A : (b : Ref sig .tc) → Buf (Elt Ideal) ((c : Thread nD τ).loc b)) (t : Fin cfg0.N) (r : Fin 128) (x : Fin 1024) :
    (((cfg0.win 1).blk t).view.read (Elt Ideal) (A (Pipeline.arrRef spec0 1)) : FVec Ideal S128x1024 .f32) (ix2 r x) = A main_v22 (ix2 ⟨t.val * 128 + r, by have := lt_N t; omega⟩ x) := by
  have := lt_N t
  refine (rfl : _ = A main_v22 ((win0_1.blk t).view.emb (ix2 r x))).trans (congrArg (A main_v22) ?_)
  blk_ext [idx t]

/-- The block of the second branch. -/
theorem ob_read (c : Dev nD) (t : Fin cfg0.N) (r : Fin 128) (x : Fin 1024) :
    (iblk m c 1 t : FVec Ideal S128x1024 .f32) (ix2 r x) = m ((c : Thread nD τ).loc main_arg3) (ix4 ⟨(t.val * 128 + r) / 4, by have := lt_N t; omega⟩ ⟨(t.val * 128 + r) % 4, by omega⟩ ⟨x / 128, by omega⟩ ⟨x % 128, by omega⟩) := by
  unfold iblk
  rw [ob_blk c (V m c)]
  exact (congrFun (V_ob m c) _).trans (flat_heads _ _ _)

/-- The branches' matrices, as a block of any contents. -/
theorem wb_blk (c : Dev nD) (A : (b : Ref sig .tc) → Buf (Elt Ideal) ((c : Thread nD τ).loc b)) (t : Fin cfg0.N) (n : Fin 3) (k : Fin 1024) (d : Fin 2048) :
    (((cfg0.win 8).blk t).view.read (Elt Ideal) (A (Pipeline.arrRef spec0 8)) : FVec Ideal S3x1024x2048 .bf16) (ix3 n k d) = A main_v19 (ix3 n k d) := by
  have := lt_N t
  refine (rfl : _ = A main_v19 ((win0_8.blk t).view.emb (ix3 n k d))).trans (congrArg (A main_v19) ?_)
  blk_ext [idx t]

/-- The branches' matrices. -/
theorem wb_read (c : Dev nD) (t : Fin cfg0.N) (n : Fin 3) (k : Fin 1024) (d : Fin 2048) :
    (iblk m c 8 t : FVec Ideal S3x1024x2048 .bf16) (ix3 n k d) = m ((c : Thread nD τ).loc main_arg5) (ix3 n k d) := by
  unfold iblk
  rw [wb_blk c (V m c)]
  exact congrFun (V_wb m c) (ix3 n k d)

/-- The output matrix, as a block of any contents. -/
theorem wo_blk (c : Dev nD) (A : (b : Ref sig .tc) → Buf (Elt Ideal) ((c : Thread nD τ).loc b)) (t : Fin cfg0.N) (k d : Fin 2048) :
    (((cfg0.win 9).blk t).view.read (Elt Ideal) (A (Pipeline.arrRef spec0 9)) : FVec Ideal S2048x2048 .bf16) (ix2 k d) = A main_v20 (ix2 k d) := by
  have := lt_N t
  refine (rfl : _ = A main_v20 ((win0_9.blk t).view.emb (ix2 k d))).trans (congrArg (A main_v20) ?_)
  blk_ext [idx t]

/-- The output matrix. -/
theorem wo_read (c : Dev nD) (t : Fin cfg0.N) (k d : Fin 2048) :
    (iblk m c 9 t : FVec Ideal S2048x2048 .bf16) (ix2 k d) = m ((c : Thread nD τ).loc main_arg6) (ix2 k d) := by
  unfold iblk
  rw [wo_blk c (V m c)]
  exact congrFun (V_wo m c) (ix2 k d)

/-- The gains of the normalisation, as a block of any contents. -/
theorem g_blk (c : Dev nD) (A : (b : Ref sig .tc) → Buf (Elt Ideal) ((c : Thread nD τ).loc b)) (t : Fin cfg0.N) (d : Fin 2048) :
    (((cfg0.win 10).blk t).view.read (Elt Ideal) (A (Pipeline.arrRef spec0 10)) : FVec Ideal S1x2048 .f32) (ix2 0 d) = A main_v26 (ix2 0 d) := by
  have := lt_N t
  refine (rfl : _ = A main_v26 ((win0_10.blk t).view.emb (ix2 0 d))).trans (congrArg (A main_v26) ?_)
  blk_ext [idx t]

/-- The gains of the normalisation. -/
theorem g_read (c : Dev nD) (t : Fin cfg0.N) (d : Fin 2048) :
    (iblk m c 10 t : FVec Ideal S1x2048 .f32) (ix2 0 d) = m ((c : Thread nD τ).loc main_arg7) (ix1 d) := by
  unfold iblk
  rw [g_blk c (V m c)]
  exact (congrFun (V_g m c) (ix2 0 d)).trans (flat_g _ _)

/-- The offsets of the normalisation, as a block of any contents. -/
theorem b_blk (c : Dev nD) (A : (b : Ref sig .tc) → Buf (Elt Ideal) ((c : Thread nD τ).loc b)) (t : Fin cfg0.N) (d : Fin 2048) :
    (((cfg0.win 11).blk t).view.read (Elt Ideal) (A (Pipeline.arrRef spec0 11)) : FVec Ideal S1x2048 .f32) (ix2 0 d) = A main_v27 (ix2 0 d) := by
  have := lt_N t
  refine (rfl : _ = A main_v27 ((win0_11.blk t).view.emb (ix2 0 d))).trans (congrArg (A main_v27) ?_)
  blk_ext [idx t]

/-- The offsets of the normalisation. -/
theorem b_read (c : Dev nD) (t : Fin cfg0.N) (d : Fin 2048) :
    (iblk m c 11 t : FVec Ideal S1x2048 .f32) (ix2 0 d) = m ((c : Thread nD τ).loc main_arg8) (ix1 d) := by
  unfold iblk
  rw [b_blk c (V m c)]
  exact (congrFun (V_b m c) (ix2 0 d)).trans (flat_g _ _)

/-- The reference's result over this program's arguments. -/
def RES (c : Dev nD) : FVec Ideal S128x4x2048 .f32 :=
  Cert.Reference5Ideal.Merge.REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The kernel's result array is the reference's, all batches' rows one after another. -/
theorem final (c : Dev nD) : (dats m 0 c).arrAt 12 (cfgs 0).N = shapeCast S512x2048 (RES m c) shapeCasts_S128x4x2048_S512x2048 := by
  refine (dats m 0 c).arrAt_eq_of_covers 12 _ (by decide +kernel) fun t _ y => ?_
  have := lt_N t
  blk_simp
  rw [after0_12]
  idx_vars y
  unfold out0_12
  have e : ((View.whole main_v28).slice (win0_12.rect t)).emb (ix2 y0 y1) = (ix2 ⟨t.val * 128 + y0, by omega⟩ y1 : S512x2048.Idx) := by
    blk_ext [idx t]
  have e' : (ix2 y0 y1 : S128x2048.Idx) = r0_8.emb (ix2 y0 y1) := by
    blk_ext
  rw [e, flat_x, e', View.canon_cons_emb, out_row]
  unfold RES
  rw [Cert.Reference5Ideal.Merge.ref_at]
  simp only [oa_read, ob_read, oc_read, za_read, zb_read, zc_read, zm_read, x_read, wb_read, wo_read, g_read, b_read]
  have g1 : ∀ f : Fin 2048, (⟨12200 + (2048 + f.val), by omega⟩ : Fin 18344) = ⟨14248 + f.val, by omega⟩ :=
    fun f => Fin.ext (by simp only; omega)
  have g2 : ∀ f : Fin 2048, (⟨12200 + (4096 + f.val), by omega⟩ : Fin 18344) = ⟨16296 + f.val, by omega⟩ :=
    fun f => Fin.ext (by simp only; omega)
  simp only [g1, g2, Cert.Reference5Ideal.Merge.MROW]

end Cert.Kernel5Ideal.Merge
end
-- ==== Proof.SampleMergeValue.lean ====
/- The claims about the sample's merge programs. -/
module

public import proofs.«01_k».proof.Defs
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.SampleMergeKernel
public import Idealize.ShloMosaic.Lib.Claim
public import Idealize.ShloMosaic.Adequacy
public import Idealize.ShloMosaic.Init

@[expose] public section

noncomputable section

namespace Cert.Proof

open Idealize.ShloMosaic Idealize.SL.Sem

/-- The sample kernel's result is its result array as the reference's shape. -/
theorem sample_merge_tail (m : (ℓ : Loc Cert.Kernel5Ideal.nD Cert.Kernel5Ideal.τ Cert.Kernel5Ideal.sig) → Buf (Elt Ideal) ℓ) (c : Dev Cert.Kernel5Ideal.nD) :
    Pipeline.afterTail₀ Cert.Kernel5Ideal.cfgs (Cert.Kernel5Ideal.Gen.dats m) 0 (Cert.Kernel5Ideal.Gen.V0 m) [Cert.Kernel5Ideal.Gen.hostOps1] c Cert.Kernel5Ideal.main_v29 =
      Cert.Kernel5Ideal.Merge.RES m c := by
  have e := Pipeline.withArrays_arr_shared Cert.Kernel5Ideal.spec0 c (Cert.Kernel5Ideal.Gen.V0 m c) (fun w => (Cert.Kernel5Ideal.Gen.dats m 0 c).arrAt w (Cert.Kernel5Ideal.cfgs 0).N)
    (Pipeline.Dat.arrAt_sharedIn (Cert.Kernel5Ideal.Gen.dats m 0 c) (by decide) _ (fun w => Cert.Kernel5Ideal.Gen.A_eq m c w) _) 12
  unfold Pipeline.afterTail₀
  simp only [List.flatten_cons, List.flatten_nil, List.append_nil]
  after_results
  refine (congrArg (fun v => shapeCast Cert.Kernel5Ideal.S128x4x2048 v _) (e.trans (Cert.Kernel5Ideal.Merge.final m c))).trans ?_
  exact shapeCast_shapeCast _ _ _

/-- The sample's merge's kernel and reference have equal results. -/
theorem sample_merge_value : Cert.algebraic_Kernel5Ideal_Reference5Ideal (hKernel5Ideal := Cert.Kernel5Ideal.Gen.facts) (hReference5Ideal := Cert.Reference5Ideal.Gen.facts) := by
  pair_intro
  · run_from Cert.Kernel5Ideal.Gen.run_main m g & Cert.Kernel5Ideal.Gen.unchanged m g
  · run_from Cert.Reference5Ideal.Value.run m' g'
    obtain ⟨h0, h1, h2, h3, h4, h5, h6, h7, h8⟩ := hagree c
    refine (Cert.Reference5Ideal.Merge.res_eq m' c).trans ?_
    rw [h0, h1, h2, h3, h4, h5, h6, h7, h8]
    exact (sample_merge_tail m c).symm

/-- The sample's merge's reference runs and leaves its arguments. -/
theorem sample_merge_ref : Cert.quiescent_Reference5Ideal (hReference5Ideal := Cert.Reference5Ideal.Gen.facts) := by
  intro m g _
  exact (θ_run Cert.Reference5Ideal.defs _ _).mono (fun r h => ⟨fun c => (h c).2, sem_eq_zero_of_no_sems rfl r.2⟩) (Cert.Reference5Ideal.Value.run m g)

end Cert.Proof

end
-- ==== Proof.ProjKernel.lean ====
/- The projection kernel's result array, over its arguments. -/
module

public import proofs.«01_k».proof.Proof.Gen.Kernel2Ideal.Frame
public import Idealize.ShloMosaic.Lib.Pipeline.ValueKit
public import Idealize.ShloMosaic.Lib.Claim
public import proofs.«01_k».proof.Proof.ProjPerm

@[expose] public section

set_option maxRecDepth 16384

noncomputable section

namespace Cert.Kernel2Ideal.Proj

open Idealize.ShloMosaic Idealize.ShloMosaic.TcCoe Idealize.SL.Sem
open Cert.Kernel2Ideal Cert.Kernel2Ideal.Gen
open Idealize.ShloMosaic.Pipeline (Dat)

variable (m : (ℓ : Loc nD τ sig) → Buf (Elt Ideal) ℓ)

/-- The number of grid points. -/
theorem lt_N (t : Fin cfg0.N) : t.val < 288 := t.isLt

/-- The block indices of the windows. -/
theorem idx : ∀ t : Fin cfg0.N, win0_0.index t = ![t.val / 18, 0] ∧ win0_1.index t = ![0, t.val % 18] ∧ win0_2.index t = ![t.val / 18, t.val % 18] :=
  (by decide +kernel : ∀ t : Fin grid0.N, _)

/-- The rows of all batches, one after another. -/
def ROWS (x : FVec Ideal S4x2048x2048 .f32) : FVec Ideal S8192x2048 .f32 := shapeCast S8192x2048 x shapeCasts_S4x2048x2048_S8192x2048

/-- A row of all batches' is a batch's. -/
theorem rows_at (x : FVec Ideal S4x2048x2048 .f32) (r : Fin 8192) (k : Fin 2048) :
    ROWS x (ix2 r k) = x (ix3 ⟨r / 2048, by omega⟩ ⟨r % 2048, by omega⟩ k) := by
  pointwise [ROWS]

/-- The rows the kernel reads. -/
theorem V_rows (c : Dev nD) : V m c main_v18 = ROWS (m ((c : Thread nD τ).loc main_arg0)) := by
  unfold V V0
  simp only [List.flatten_cons, List.flatten_nil, List.append_nil]
  after_results
  rfl

/-- The weights the kernel reads. -/
theorem V_w (c : Dev nD) : V m c main_v17 = (truncf .bf16 (PERMW (m ((c : Thread nD τ).loc main_arg1))) bitsLt_bf16_f32 : FVec Ideal S2048x18432 .bf16) := by
  unfold V V0
  simp only [List.flatten_cons, List.flatten_nil, List.append_nil]
  after_results
  try rfl

/-- The block of rows, as a block of any contents. -/
theorem x_blk (c : Dev nD) (A : (b : Ref sig .tc) → Buf (Elt Ideal) ((c : Thread nD τ).loc b)) (t : Fin cfg0.N) (r : Fin 512) (k : Fin 2048) :
    (((cfg0.win 0).blk t).view.read (Elt Ideal) (A (Pipeline.arrRef spec0 0)) : FVec Ideal S512x2048 .f32) (ix2 r k) =
      A main_v18 (ix2 ⟨t.val / 18 * 512 + r, by have := lt_N t; omega⟩ k) := by
  have := lt_N t
  refine (rfl : _ = A main_v18 ((win0_0.blk t).view.emb (ix2 r k))).trans (congrArg (A main_v18) ?_)
  blk_ext [idx t]

/-- The block of rows. -/
theorem x_read (c : Dev nD) (t : Fin cfg0.N) (r : Fin 512) (k : Fin 2048) :
    (iblk m c 0 t : FVec Ideal S512x2048 .f32) (ix2 r k) = ROWS (m ((c : Thread nD τ).loc main_arg0)) (ix2 ⟨t.val / 18 * 512 + r, by have := lt_N t; omega⟩ k) := by
  unfold iblk
  rw [x_blk c (V m c)]
  exact congrFun (V_rows m c) _

/-- The block of weights, as a block of any contents. -/
theorem w_blk (c : Dev nD) (A : (b : Ref sig .tc) → Buf (Elt Ideal) ((c : Thread nD τ).loc b)) (t : Fin cfg0.N) (k : Fin 2048) (e : Fin 1024) :
    (((cfg0.win 1).blk t).view.read (Elt Ideal) (A (Pipeline.arrRef spec0 1)) : FVec Ideal S2048x1024 .bf16) (ix2 k e) =
      A main_v17 (ix2 k ⟨t.val % 18 * 1024 + e, by omega⟩) := by
  have := lt_N t
  refine (rfl : _ = A main_v17 ((win0_1.blk t).view.emb (ix2 k e))).trans (congrArg (A main_v17) ?_)
  blk_ext [idx t]

/-- The block of weights. -/
theorem w_read (c : Dev nD) (t : Fin cfg0.N) (k : Fin 2048) (e : Fin 1024) :
    (iblk m c 1 t : FVec Ideal S2048x1024 .bf16) (ix2 k e) = PERMW (m ((c : Thread nD τ).loc main_arg1)) (ix2 k ⟨t.val % 18 * 1024 + e, by omega⟩) := by
  unfold iblk
  rw [w_blk c (V m c)]
  exact congrFun (V_w m c) _

/-- The product at an index. -/
theorem product_at (x : Vec Ideal S512x2048 .bf16) (w : Vec Ideal S2048x1024 .bf16) (r : Fin 512) (e : Fin 1024) :
    k0_pay2 x w (ix2 r e) = ∑ k : Fin 2048, x (ix2 r k) * w (ix2 k e) := by
  pointwise [k0_pay2]

/-- The rows kept at an index. -/
theorem kept_at (x : Vec Ideal S512x2048 .f32) (r : Fin 512) (k : Fin 2048) : k0_pay1 x (ix2 r k) = x (ix2 r k) := by
  pointwise [k0_pay1]

/-- At every point the rows kept are the point's block of rows. -/
theorem kept (c : Dev nD) (n : ℕ) (hn : n < cfg0.N) (r : Fin 512) (k : Fin 2048) :
    (outsAt0 m c n hn).2 (ix2 r k) = ROWS (m ((c : Thread nD τ).loc main_arg0)) (ix2 ⟨n / 18 * 512 + r, by have := lt_N ⟨n, hn⟩; dsimp only at this; omega⟩ k) := by
  induction n with
  | zero =>
    rw [outsAt0_A m c ⟨0, hn⟩ rfl]
    frame_out
    exact (kept_at _ r k).trans (x_read m c ⟨0, hn⟩ r k)
  | succ n ih =>
    by_cases h : (n + 1) % 18 = 0
    · rw [outsAt0_A m c ⟨n + 1, hn⟩ h]
      frame_out
      exact (kept_at _ r k).trans (x_read m c ⟨n + 1, hn⟩ r k)
    · rw [outsAt0_B m c ⟨n + 1, hn⟩ h]
      refine (ih (Nat.lt_of_succ_lt hn)).trans ?_
      refine congrArg (fun r => ROWS (m ((c : Thread nD τ).loc main_arg0)) (ix2 r k)) (Fin.ext ?_)
      dsimp only
      omega

/-- At every point the output block is the product of the point's blocks. -/
theorem out (c : Dev nD) (t : Fin cfg0.N) (r : Fin 512) (e : Fin 1024) :
    (outsAt0 m c t.val t.isLt).1 (ix2 r e) = ∑ k : Fin 2048, ROWS (m ((c : Thread nD τ).loc main_arg0)) (ix2 ⟨t.val / 18 * 512 + r, by have := lt_N t; omega⟩ k)
      * PERMW (m ((c : Thread nD τ).loc main_arg1)) (ix2 k ⟨t.val % 18 * 1024 + e, by omega⟩) := by
  by_cases h : t.val % 18 = 0
  · rw [outsAt0_A m c t h]
    frame_out
    rw [product_at]
    exact Finset.sum_congr rfl fun k _ => congrArg₂ (· * ·) ((kept_at _ r k).trans (x_read m c t r k)) (w_read m c t k e)
  · rw [outsAt0_B m c t h]
    frame_out
    rw [(Memref.isWhole_whole cc0_scratch0).read_unread, product_at]
    refine Finset.sum_congr rfl fun k _ => congrArg₂ (· * ·) ((kept m c _ _ r k).trans ?_) (w_read m c t k e)
    refine congrArg (fun r => ROWS (m ((c : Thread nD τ).loc main_arg0)) (ix2 r k)) (Fin.ext ?_)
    dsimp only
    omega

/-- The product of all rows with the permuted weights. -/
def PROD (x : FVec Ideal S8192x2048 .f32) (w : FVec Ideal S2048x18432 .f32) : FVec Ideal S8192x18432 .f32 :=
  fun y => ∑ k : Fin 2048, x (ix2 (y 0) k) * w (ix2 k (y 1))

/-- The kernel's result array. -/
theorem final (c : Dev nD) : (dats m 0 c).arrAt 2 (cfgs 0).N = PROD (ROWS (m ((c : Thread nD τ).loc main_arg0))) (PERMW (m ((c : Thread nD τ).loc main_arg1))) := by
  refine (dats m 0 c).arrAt_eq_of_covers 2 _ (by decide +kernel) fun t _ y => ?_
  have := lt_N t
  blk_simp
  rw [after0_2]
  idx_vars y
  have e : ((View.whole main_v19).slice (win0_2.rect t)).emb (ix2 y0 y1) = (ix2 ⟨t.val / 18 * 512 + y0, by omega⟩ ⟨t.val % 18 * 1024 + y1, by omega⟩ : S8192x18432.Idx) := by
    blk_ext [idx t]
  rw [e]
  exact out m c t y0 y1

end Cert.Kernel2Ideal.Proj
end
-- ==== Proof.ProjTail.lean ====
/- The results of the projection's kernel, from the columns in the kernel's order. -/
module

public import proofs.«01_k».proof.Proof.Gen.Kernel2Ideal
public import Idealize.ShloMosaic.Lib.Pipeline.ValueKit
public import Idealize.ShloMosaic.Lib.Claim
public import proofs.«01_k».proof.Proof.ProjPerm
public import proofs.«01_k».proof.Proof.ProjKernel

@[expose] public section

set_option maxRecDepth 16384

noncomputable section

namespace Cert.Kernel2Ideal.Proj

open Idealize.ShloMosaic Idealize.ShloMosaic.TcCoe Idealize.SL.Sem
open Cert.Kernel2Ideal Cert.Kernel2Ideal.Gen

/-- The kernel's result array, a batch at a time. -/
def WIDE (p : FVec Ideal S8192x18432 .f32) : FVec Ideal S4x2048x18432 .f32 := shapeCast S4x2048x18432 p shapeCasts_S8192x18432_S4x2048x18432

/-- A batch's row of the kernel's result array. -/
theorem wide_at (p : FVec Ideal S8192x18432 .f32) (b : Fin 4) (s : Fin 2048) (e : Fin 18432) :
    WIDE p (ix3 b s e) = p (ix2 ⟨b * 2048 + s, by omega⟩ e) := by
  pointwise [WIDE]

/-- A column of the projection stands in the kernel's result array where the order of the columns puts it. -/
theorem wide_dest (x : FVec Ideal S4x2048x2048 .f32) (w : FVec Ideal S2048x18344 .f32) (b : Fin 4) (s : Fin 2048) (e : Fin 18344) :
    WIDE (PROD (ROWS x) (PERMW w)) (ix3 b s ⟨DEST e.val, dest_lt e.val e.isLt⟩) = ∑ k : Fin 2048, x (ix3 b s k) * w (ix2 k e) := by
  rw [wide_at]
  refine Finset.sum_congr rfl fun k _ => ?_
  refine congrArg₂ (· * ·) ((rows_at x ⟨b * 2048 + s, by omega⟩ k).trans (congrArg₂ (fun p q => x (ix3 p q k)) (Fin.ext ?_) (Fin.ext ?_))) (permw_at w k e)
  · dsimp only
    omega
  · dsimp only
    omega

/-- The first cache's rows. -/
def KNSA (h : FVec Ideal S4x2048x18432 .f32) : FVec Ideal S4x2048x4x2x128 .f32 :=
  extractStridedSlice S4x2048x4x2x128 ![0, 0, 0, 0, 0] (shapeCast S4x2048x6x2x128 (extractStridedSlice S4x2048x1536 ![0, 0, 16384] h slices_S4x2048x18432_S4x2048x1536_0_0_16384) shapeCasts_S4x2048x1536_S4x2048x6x2x128) slices_S4x2048x6x2x128_S4x2048x4x2x128_0_0_0_0_0

/-- The window's state. -/
def KWIN (h : FVec Ideal S4x2048x18432 .f32) : FVec Ideal S4x512x2x2x128 .f32 :=
  extractStridedSlice S4x512x2x2x128 ![0, 1536, 0, 0, 0] (extractStridedSlice S4x2048x2x2x128 ![0, 0, 4, 0, 0] (shapeCast S4x2048x6x2x128 (extractStridedSlice S4x2048x1536 ![0, 0, 16384] h slices_S4x2048x18432_S4x2048x1536_0_0_16384) shapeCasts_S4x2048x1536_S4x2048x6x2x128) slices_S4x2048x6x2x128_S4x2048x2x2x128_0_0_4_0_0) slices_S4x2048x2x2x128_S4x512x2x2x128_0_1536_0_0_0

/-- The second cache's rows. -/
def KDSA (h : FVec Ideal S4x2048x18432 .f32) : FVec Ideal S4x2048x3x128 .f32 :=
  shapeCast S4x2048x3x128 (extractStridedSlice S4x2048x384 ![0, 0, 17920] h slices_S4x2048x18432_S4x2048x384_0_0_17920) shapeCasts_S4x2048x384_S4x2048x3x128

/-- The third cache's rows. -/
def KDIFF (h : FVec Ideal S4x2048x18432 .f32) : FVec Ideal S4x2048x2x8x128 .f32 :=
  shapeCast S4x2048x2x8x128 (extractStridedSlice S4x2048x2048 ![0, 0, 14336] h slices_S4x2048x18432_S4x2048x2048_0_0_14336) shapeCasts_S4x2048x2048_S4x2048x2x8x128

/-- The first cache's rows at an index. -/
theorem knsa_at (h : FVec Ideal S4x2048x18432 .f32) (b : Fin 4) (s : Fin 2048) (u : Fin 4) (a : Fin 2) (d : Fin 128) :
    KNSA h (ix5 b s u a d) = h (ix3 b s ⟨16384 + (u * 256 + a * 128 + d), by omega⟩) := by
  pointwise [KNSA]

/-- The window's state at an index. -/
theorem kwin_at (h : FVec Ideal S4x2048x18432 .f32) (b : Fin 4) (s : Fin 512) (u : Fin 2) (a : Fin 2) (d : Fin 128) :
    KWIN h (ix5 b s u a d) = h (ix3 b ⟨1536 + s, by omega⟩ ⟨16384 + ((4 + u) * 256 + a * 128 + d), by omega⟩) := by
  pointwise [KWIN]

/-- The second cache's rows at an index. -/
theorem kdsa_at (h : FVec Ideal S4x2048x18432 .f32) (b : Fin 4) (s : Fin 2048) (u : Fin 3) (d : Fin 128) :
    KDSA h (ix4 b s u d) = h (ix3 b s ⟨17920 + (u * 128 + d), by omega⟩) := by
  pointwise [KDSA]

/-- The third cache's rows at an index. -/
theorem kdiff_at (h : FVec Ideal S4x2048x18432 .f32) (b : Fin 4) (s : Fin 2048) (u : Fin 2) (a : Fin 8) (d : Fin 128) :
    KDIFF h (ix5 b s u a d) = h (ix3 b s ⟨14336 + (u * 1024 + a * 128 + d), by omega⟩) := by
  pointwise [KDIFF]

variable (m : (ℓ : Loc nD τ sig) → Buf (Elt Ideal) ℓ)

/-- The kernel's result array as a function of the call's arguments, a batch at a time. -/
def H (c : Dev nD) : FVec Ideal S4x2048x18432 .f32 := WIDE (PROD (ROWS (m ((c : Thread nD τ).loc main_arg0))) (PERMW (m ((c : Thread nD τ).loc main_arg1))))

/-- After the region the result window's array is the product. -/
theorem region (c : Dev nD) : Pipeline.withArrays spec0 c (V0 m c) (fun w => (dats m 0 c).arrAt w (cfgs 0).N) main_v19 =
    PROD (ROWS (m ((c : Thread nD τ).loc main_arg0))) (PERMW (m ((c : Thread nD τ).loc main_arg1))) :=
  (Pipeline.withArrays_arr_shared spec0 c (V0 m c) (fun w => (dats m 0 c).arrAt w (cfgs 0).N)
    (Pipeline.Dat.arrAt_sharedIn (dats m 0 c) (by decide) _ (fun w => A_eq m c w) _) 2).trans (final m c)

/-- The result of the projected rows. -/
theorem tail_h (c : Dev nD) : Pipeline.afterTail₀ cfgs (dats m) 0 (V0 m) [hostOps1] c main_v44 = UNPERM (H m c) := by
  unfold Pipeline.afterTail₀
  simp only [List.flatten_cons, List.flatten_nil, List.append_nil]
  after_results
  exact congrArg (fun p => UNPERM (WIDE p)) (region m c)

/-- The result of the first cache's rows. -/
theorem tail_nsa (c : Dev nD) : Pipeline.afterTail₀ cfgs (dats m) 0 (V0 m) [hostOps1] c main_v27 =
    KNSA (H m c) := by
  unfold Pipeline.afterTail₀
  simp only [List.flatten_cons, List.flatten_nil, List.append_nil]
  after_results
  exact congrArg (fun p => KNSA (WIDE p)) (region m c)

/-- The result of the second cache's rows. -/
theorem tail_dsa (c : Dev nD) : Pipeline.afterTail₀ cfgs (dats m) 0 (V0 m) [hostOps1] c main_v24 = KDSA (H m c) := by
  unfold Pipeline.afterTail₀
  simp only [List.flatten_cons, List.flatten_nil, List.append_nil]
  after_results
  exact congrArg (fun p => KDSA (WIDE p)) (region m c)

/-- The result of the third cache's rows. -/
theorem tail_diff (c : Dev nD) : Pipeline.afterTail₀ cfgs (dats m) 0 (V0 m) [hostOps1] c main_v26 = KDIFF (H m c) := by
  unfold Pipeline.afterTail₀
  simp only [List.flatten_cons, List.flatten_nil, List.append_nil]
  after_results
  exact congrArg (fun p => KDIFF (WIDE p)) (region m c)

/-- The result of the window's state. -/
theorem tail_win (c : Dev nD) : Pipeline.afterTail₀ cfgs (dats m) 0 (V0 m) [hostOps1] c main_v45 =
    KWIN (H m c) := by
  unfold Pipeline.afterTail₀
  simp only [List.flatten_cons, List.flatten_nil, List.append_nil]
  after_results
  exact congrArg (fun p => KWIN (WIDE p)) (region m c)

end Cert.Kernel2Ideal.Proj
end
-- ==== Proof.ProjRef.lean ====
/- The results of the projection, from the projected rows in either order of the columns. -/
module

public import proofs.«01_k».proof.Proof.Gen.Reference2Ideal
public import proofs.«01_k».proof.Proof.Gen.Reference2Ideal.Run
public import Idealize.ShloMosaic.Lib.Pipeline.ValueKit
public import Idealize.ShloMosaic.Lib.Claim

@[expose] public section

set_option maxRecDepth 16384

noncomputable section

namespace Cert.Reference2Ideal.Proj

open Idealize.ShloMosaic Idealize.ShloMosaic.TcCoe Idealize.SL.Sem
open Cert.Reference2Ideal Cert.Reference2Ideal.Gen

/-- The projected rows. -/
def PROJ (x : FVec Ideal S4x2048x2048 .f32) (w : FVec Ideal S2048x18344 .f32) : FVec Ideal S4x2048x18344 .f32 :=
  Host.dotGeneral dot_S4x2048x2048_S2048x18344_S4x2048x18344_2_0_01_1_n_n none x w

/-- The projected rows at an index. -/
theorem proj_at (x : FVec Ideal S4x2048x2048 .f32) (w : FVec Ideal S2048x18344 .f32) (b : Fin 4) (s : Fin 2048) (e : Fin 18344) :
    PROJ x w (ix3 b s e) = ∑ k : Fin 2048, x (ix3 b s k) * w (ix2 k e) := by
  pointwise [PROJ]

/-- The first cache's rows. -/
def NSA (h : FVec Ideal S4x2048x18344 .f32) : FVec Ideal S4x2048x4x2x128 .f32 :=
  extractStridedSlice S4x2048x4x2x128 ![0, 0, 0, 0, 0] (shapeCast S4x2048x6x2x128 (extractStridedSlice S4x2048x1536 ![0, 0, 1024] h slices_S4x2048x18344_S4x2048x1536_0_0_1024) shapeCasts_S4x2048x1536_S4x2048x6x2x128) slices_S4x2048x6x2x128_S4x2048x4x2x128_0_0_0_0_0

/-- The window's state. -/
def WIN (h : FVec Ideal S4x2048x18344 .f32) : FVec Ideal S4x512x2x2x128 .f32 :=
  extractStridedSlice S4x512x2x2x128 ![0, 1536, 0, 0, 0] (extractStridedSlice S4x2048x2x2x128 ![0, 0, 4, 0, 0] (shapeCast S4x2048x6x2x128 (extractStridedSlice S4x2048x1536 ![0, 0, 1024] h slices_S4x2048x18344_S4x2048x1536_0_0_1024) shapeCasts_S4x2048x1536_S4x2048x6x2x128) slices_S4x2048x6x2x128_S4x2048x2x2x128_0_0_4_0_0) slices_S4x2048x2x2x128_S4x512x2x2x128_0_1536_0_0_0

/-- The rows of the second cache. -/
def DSA (h : FVec Ideal S4x2048x18344 .f32) : FVec Ideal S4x2048x3x128 .f32 :=
  concatenate S4x2048x3x128 2 [⟨S4x2048x2x128, (shapeCast S4x2048x2x128 (extractStridedSlice S4x2048x256 ![0, 0, 4632] h slices_S4x2048x18344_S4x2048x256_0_0_4632) shapeCasts_S4x2048x256_S4x2048x2x128)⟩,
    ⟨S4x2048x1x128, (broadcastInDim S4x2048x1x128 ![0, 1, 3] bcast_S4x2048x128_S4x2048x1x128_0_1_3 (extractStridedSlice S4x2048x128 ![0, 0, 6936] h slices_S4x2048x18344_S4x2048x128_0_0_6936))⟩]
    concatenates_S4x2048x2x128_S4x2048x1x128_S4x2048x3x128_d2

/-- The rows of the third cache. -/
def DIFF (h : FVec Ideal S4x2048x18344 .f32) : FVec Ideal S4x2048x2x8x128 .f32 :=
  concatenate S4x2048x2x8x128 2 [⟨S4x2048x1x8x128, (broadcastInDim S4x2048x1x8x128 ![0, 1, 3, 4] bcast_S4x2048x8x128_S4x2048x1x8x128_0_1_3_4 (shapeCast S4x2048x8x128 (extractStridedSlice S4x2048x1024 ![0, 0, 9128] h slices_S4x2048x18344_S4x2048x1024_0_0_9128) shapeCasts_S4x2048x1024_S4x2048x8x128))⟩,
    ⟨S4x2048x1x8x128, (broadcastInDim S4x2048x1x8x128 ![0, 1, 3, 4] bcast_S4x2048x8x128_S4x2048x1x8x128_0_1_3_4 (shapeCast S4x2048x8x128 (extractStridedSlice S4x2048x1024 ![0, 0, 10152] h slices_S4x2048x18344_S4x2048x1024_0_0_10152) shapeCasts_S4x2048x1024_S4x2048x8x128))⟩]
    concatenates_S4x2048x1x8x128_S4x2048x1x8x128_S4x2048x2x8x128_d2

/-- The first cache's rows at an index. -/
theorem nsa_at (h : FVec Ideal S4x2048x18344 .f32) (b : Fin 4) (s : Fin 2048) (u : Fin 4) (a : Fin 2) (d : Fin 128) :
    NSA h (ix5 b s u a d) = h (ix3 b s ⟨1024 + (u * 256 + a * 128 + d), by omega⟩) := by
  pointwise [NSA]

/-- The window's state at an index. -/
theorem win_at (h : FVec Ideal S4x2048x18344 .f32) (b : Fin 4) (s : Fin 512) (u : Fin 2) (a : Fin 2) (d : Fin 128) :
    WIN h (ix5 b s u a d) = h (ix3 b ⟨1536 + s, by omega⟩ ⟨1024 + ((4 + u) * 256 + a * 128 + d), by omega⟩) := by
  pointwise [WIN]

/-- The second cache's keys and values at an index. -/
theorem dsa_kv (h : FVec Ideal S4x2048x18344 .f32) (b : Fin 4) (s : Fin 2048) (u : Fin 2) (d : Fin 128) :
    DSA h (ix4 b s ⟨u, by omega⟩ d) = h (ix3 b s ⟨4632 + (u * 128 + d), by omega⟩) := by
  pointwise [DSA]

/-- The second cache's index keys at an index. -/
theorem dsa_ik (h : FVec Ideal S4x2048x18344 .f32) (b : Fin 4) (s : Fin 2048) (d : Fin 128) :
    DSA h (ix4 b s 2 d) = h (ix3 b s ⟨6936 + d, by omega⟩) := by
  pointwise [DSA]

/-- The third cache's keys at an index. -/
theorem diff_k (h : FVec Ideal S4x2048x18344 .f32) (b : Fin 4) (s : Fin 2048) (a : Fin 8) (d : Fin 128) :
    DIFF h (ix5 b s 0 a d) = h (ix3 b s ⟨9128 + (a * 128 + d), by omega⟩) := by
  pointwise [DIFF]

/-- The third cache's values at an index. -/
theorem diff_v (h : FVec Ideal S4x2048x18344 .f32) (b : Fin 4) (s : Fin 2048) (a : Fin 8) (d : Fin 128) :
    DIFF h (ix5 b s 1 a d) = h (ix3 b s ⟨10152 + (a * 128 + d), by omega⟩) := by
  pointwise [DIFF]

/-- The reference's results are functions of the projected rows. -/
theorem results (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v0) = PROJ (m ((c.tc : Thread nD τ).loc main_arg0)) (m ((c.tc : Thread nD τ).loc main_arg1))
      ∧ r.2.mem ((c.tc : Thread nD τ).loc main_v17) = NSA (PROJ (m ((c.tc : Thread nD τ).loc main_arg0)) (m ((c.tc : Thread nD τ).loc main_arg1)))
      ∧ r.2.mem ((c.tc : Thread nD τ).loc main_v21) = DSA (PROJ (m ((c.tc : Thread nD τ).loc main_arg0)) (m ((c.tc : Thread nD τ).loc main_arg1)))
      ∧ r.2.mem ((c.tc : Thread nD τ).loc main_v26) = DIFF (PROJ (m ((c.tc : Thread nD τ).loc main_arg0)) (m ((c.tc : Thread nD τ).loc main_arg1)))
      ∧ r.2.mem ((c.tc : Thread nD τ).loc main_v27) = WIN (PROJ (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.Reference2Ideal.Value.run m g

end Cert.Reference2Ideal.Proj
end
-- ==== Proof.ProjValue.lean ====
/- The claims about the projection's programs. -/
module

public import proofs.«01_k».proof.Defs
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.ProjTail
public import proofs.«01_k».proof.Proof.ProjRef
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The kernel's result array, a batch at a time. -/
abbrev wide (x : FVec Ideal Cert.Reference2Ideal.S4x2048x2048 .f32) (w : FVec Ideal Cert.Reference2Ideal.S2048x18344 .f32) : FVec Ideal Cert.Kernel2Ideal.S4x2048x18432 .f32 :=
  Cert.Kernel2Ideal.Proj.WIDE (Cert.Kernel2Ideal.Proj.PROD (Cert.Kernel2Ideal.Proj.ROWS x) (Cert.Kernel2Ideal.Proj.PERMW w))

/-- The reference's projected rows stand in the kernel's result array where the order of the columns puts them. -/
theorem proj_wide (x : FVec Ideal Cert.Reference2Ideal.S4x2048x2048 .f32) (w : FVec Ideal Cert.Reference2Ideal.S2048x18344 .f32) (b : Fin 4) (s : Fin 2048) (e : Fin 18344)
    (j : Fin 18432) (h : j.val = Cert.Kernel2Ideal.Proj.DEST e.val) :
    Cert.Reference2Ideal.Proj.PROJ x w (ix3 b s e) = wide x w (ix3 b s j) := by
  obtain rfl : j = ⟨Cert.Kernel2Ideal.Proj.DEST e.val, Cert.Kernel2Ideal.Proj.dest_lt e.val e.isLt⟩ := Fin.ext h
  exact (Cert.Reference2Ideal.Proj.proj_at x w b s e).trans (Cert.Kernel2Ideal.Proj.wide_dest x w b s e).symm

/-- The result of the projected rows. -/
theorem proj_rows (x : FVec Ideal Cert.Reference2Ideal.S4x2048x2048 .f32) (w : FVec Ideal Cert.Reference2Ideal.S2048x18344 .f32) :
    Cert.Reference2Ideal.Proj.PROJ x w = Cert.Kernel2Ideal.Proj.UNPERM (wide x w) := by
  funext y
  obtain ⟨b, s, e, rfl⟩ : ∃ b s e, y = ix3 b s e := ⟨y 0, y 1, y 2, by funext i; fin_cases i <;> rfl⟩
  exact (proj_wide x w b s e _ rfl).trans (Cert.Kernel2Ideal.Proj.unperm_at (wide x w) b s e).symm

/-- The first cache's rows. -/
theorem proj_nsa (x : FVec Ideal Cert.Reference2Ideal.S4x2048x2048 .f32) (w : FVec Ideal Cert.Reference2Ideal.S2048x18344 .f32) :
    Cert.Reference2Ideal.Proj.NSA (Cert.Reference2Ideal.Proj.PROJ x w) = Cert.Kernel2Ideal.Proj.KNSA (wide x w) := by
  funext y
  obtain ⟨b, s, u, a, d, rfl⟩ : ∃ b s u a d, y = ix5 b s u a d := ⟨y 0, y 1, y 2, y 3, y 4, by funext i; fin_cases i <;> rfl⟩
  refine (Cert.Reference2Ideal.Proj.nsa_at _ b s u a d).trans ((proj_wide x w b s _ _ ?_).trans (Cert.Kernel2Ideal.Proj.knsa_at (wide x w) b s u a d).symm)
  have := Cert.Kernel2Ideal.Proj.dest_cases (1024 + (u * 256 + a * 128 + d)) (by omega)
  dsimp only
  omega

/-- The window's state. -/
theorem proj_win (x : FVec Ideal Cert.Reference2Ideal.S4x2048x2048 .f32) (w : FVec Ideal Cert.Reference2Ideal.S2048x18344 .f32) :
    Cert.Reference2Ideal.Proj.WIN (Cert.Reference2Ideal.Proj.PROJ x w) = Cert.Kernel2Ideal.Proj.KWIN (wide x w) := by
  funext y
  obtain ⟨b, s, u, a, d, rfl⟩ : ∃ b s u a d, y = ix5 b s u a d := ⟨y 0, y 1, y 2, y 3, y 4, by funext i; fin_cases i <;> rfl⟩
  refine (Cert.Reference2Ideal.Proj.win_at _ b s u a d).trans ((proj_wide x w b _ _ _ ?_).trans (Cert.Kernel2Ideal.Proj.kwin_at (wide x w) b s u a d).symm)
  have := Cert.Kernel2Ideal.Proj.dest_cases (1024 + ((4 + u) * 256 + a * 128 + d)) (by omega)
  dsimp only
  omega

/-- The second cache's rows. -/
theorem proj_dsa (x : FVec Ideal Cert.Reference2Ideal.S4x2048x2048 .f32) (w : FVec Ideal Cert.Reference2Ideal.S2048x18344 .f32) :
    Cert.Reference2Ideal.Proj.DSA (Cert.Reference2Ideal.Proj.PROJ x w) = Cert.Kernel2Ideal.Proj.KDSA (wide x w) := by
  funext y
  obtain ⟨b, s, u, d, rfl⟩ : ∃ b s u d, y = ix4 b s u d := ⟨y 0, y 1, y 2, y 3, by funext i; fin_cases i <;> rfl⟩
  refine Eq.trans ?_ (Cert.Kernel2Ideal.Proj.kdsa_at (wide x w) b s u d).symm
  by_cases hu : u.val < 2
  · refine (Cert.Reference2Ideal.Proj.dsa_kv _ b s ⟨u, hu⟩ d).trans (proj_wide x w b s _ _ ?_)
    have := Cert.Kernel2Ideal.Proj.dest_cases (4632 + (u * 128 + d)) (by omega)
    dsimp only
    omega
  · obtain rfl : u = 2 := Fin.ext (by omega)
    refine (Cert.Reference2Ideal.Proj.dsa_ik _ b s d).trans (proj_wide x w b s _ _ ?_)
    have := Cert.Kernel2Ideal.Proj.dest_cases (6936 + d) (by omega)
    dsimp only
    omega

/-- The third cache's rows. -/
theorem proj_diff (x : FVec Ideal Cert.Reference2Ideal.S4x2048x2048 .f32) (w : FVec Ideal Cert.Reference2Ideal.S2048x18344 .f32) :
    Cert.Reference2Ideal.Proj.DIFF (Cert.Reference2Ideal.Proj.PROJ x w) = Cert.Kernel2Ideal.Proj.KDIFF (wide x w) := by
  funext y
  obtain ⟨b, s, u, a, d, rfl⟩ : ∃ b s u a d, y = ix5 b s u a d := ⟨y 0, y 1, y 2, y 3, y 4, by funext i; fin_cases i <;> rfl⟩
  refine Eq.trans ?_ (Cert.Kernel2Ideal.Proj.kdiff_at (wide x w) b s u a d).symm
  by_cases hu : u.val < 1
  · obtain rfl : u = 0 := Fin.ext (by omega)
    refine (Cert.Reference2Ideal.Proj.diff_k _ b s a d).trans (proj_wide x w b s _ _ ?_)
    have := Cert.Kernel2Ideal.Proj.dest_cases (9128 + (a * 128 + d)) (by omega)
    dsimp only
    omega
  · obtain rfl : u = 1 := Fin.ext (by omega)
    refine (Cert.Reference2Ideal.Proj.diff_v _ b s a d).trans (proj_wide x w b s _ _ ?_)
    have := Cert.Kernel2Ideal.Proj.dest_cases (10152 + (a * 128 + d)) (by omega)
    dsimp only
    omega

/-- The projection's kernel and reference have equal results. -/
theorem proj_value : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g & Cert.Kernel2Ideal.Gen.unchanged m g
  · run_from Cert.Reference2Ideal.Proj.results m' g'
    · exact (proj_rows _ _).trans (Cert.Kernel2Ideal.Proj.tail_h m c).symm
    · exact (proj_nsa _ _).trans (Cert.Kernel2Ideal.Proj.tail_nsa m c).symm
    · exact (proj_dsa _ _).trans (Cert.Kernel2Ideal.Proj.tail_dsa m c).symm
    · exact (proj_diff _ _).trans (Cert.Kernel2Ideal.Proj.tail_diff m c).symm
    · exact (proj_win _ _).trans (Cert.Kernel2Ideal.Proj.tail_win m c).symm

/-- The projection's reference runs and leaves its arguments. -/
theorem proj_ref : Cert.quiescent_Reference2Ideal (hReference2Ideal := Cert.Reference2Ideal.Gen.facts) := by
  intro m g _
  exact (θ_run Cert.Reference2Ideal.defs _ _).mono (fun r h => ⟨fun c => (h c).2.2.2.2.2, sem_eq_zero_of_no_sems rfl r.2⟩) (Cert.Reference2Ideal.Value.run m g)

end Cert.Proof

end
-- ==== Proof.SlcRows.lean ====
/- The rows of the selected and window attention kernel, one reading for each of its eight bodies. -/
module

public import proofs.«01_k».proof.Proof.Gen.Kernel6Ideal.Skeleton
public import proofs.«01_k».proof.Proof.Mask

@[expose] public section

set_option maxRecDepth 16384

noncomputable section

namespace Cert.Kernel6Ideal.Slc

open Idealize.ShloMosaic Idealize.ShloMosaic.TcCoe Idealize.SL.Sem
open Cert.Kernel6Ideal Cert.Kernel6Ideal.Gen

/-- The gated sum at an index, for the head whose gates sit in lanes `3h` and on. -/
theorem out_at (h : ℕ) (hh : h < 8) (os ow oc : FVec Ideal S256x128 .f32) (g : Vec Ideal S256x128 .f32) (r : Fin 256) (d : Fin 128) :
    k0_pay1 ow (k0_pay16 g) (k0_pay17 (BitVec.ofNat 32 h) os g oc) (k0_pay18 (BitVec.ofNat 32 h)) (ix2 r d)
      = Cert.Mask.GATED (g (ix2 r ⟨3 * h, by omega⟩)) (g (ix2 r ⟨3 * h + 1, by omega⟩)) (g (ix2 r ⟨3 * h + 2, by omega⟩)) (oc (ix2 r d)) (os (ix2 r d)) (ow (ix2 r d)) := by
  pointwise [k0_pay1, k0_pay16, k0_pay17, k0_pay18]
  have e0 : Scalar.muli 3#32 (BitVec.ofNat 32 h) = BitVec.ofNat 32 (3 * h) := by rw [BitVec.ofNat_mul]; rfl
  have e1 : Scalar.addi (BitVec.ofNat 32 (3 * h)) 1#32 = BitVec.ofNat 32 (3 * h + 1) := by rw [BitVec.ofNat_add]; rfl
  have e2 : Scalar.addi (BitVec.ofNat 32 (3 * h)) 2#32 = BitVec.ofNat 32 (3 * h + 2) := by rw [BitVec.ofNat_add]; rfl
  rw [e0, e1, e2, Cert.Mask.pick_r ⟨3 * h, by omega⟩, Cert.Mask.pick_r ⟨3 * h + 1, by omega⟩, Cert.Mask.pick_r ⟨3 * h + 2, by omega⟩]
  simp only [zero_sub]
  rfl

/-- All bodies gate alike. -/
theorem gate_same : (k0_pay2 (F := Ideal) = k0_pay1 ∧ k0_pay3 (F := Ideal) = k0_pay1 ∧ k0_pay4 (F := Ideal) = k0_pay1 ∧ k0_pay5 (F := Ideal) = k0_pay1
      ∧ k0_pay6 (F := Ideal) = k0_pay1 ∧ k0_pay7 (F := Ideal) = k0_pay1 ∧ k0_pay8 (F := Ideal) = k0_pay1)
    ∧ (k0_pay26 (F := Ideal) = k0_pay16 ∧ k0_pay36 (F := Ideal) = k0_pay16 ∧ k0_pay46 (F := Ideal) = k0_pay16 ∧ k0_pay56 (F := Ideal) = k0_pay16
      ∧ k0_pay66 (F := Ideal) = k0_pay16 ∧ k0_pay76 (F := Ideal) = k0_pay16 ∧ k0_pay86 (F := Ideal) = k0_pay16)
    ∧ (k0_pay27 (F := Ideal) = k0_pay17 ∧ k0_pay37 (F := Ideal) = k0_pay17 ∧ k0_pay47 (F := Ideal) = k0_pay17 ∧ k0_pay57 (F := Ideal) = k0_pay17
      ∧ k0_pay67 (F := Ideal) = k0_pay17 ∧ k0_pay77 (F := Ideal) = k0_pay17 ∧ k0_pay87 (F := Ideal) = k0_pay17)
    ∧ k0_pay28 = k0_pay18 ∧ k0_pay38 = k0_pay18 ∧ k0_pay48 = k0_pay18 ∧ k0_pay58 = k0_pay18 ∧ k0_pay68 = k0_pay18 ∧ k0_pay78 = k0_pay18 ∧ k0_pay88 = k0_pay18 :=
  ⟨⟨rfl, rfl, rfl, rfl, rfl, rfl, rfl⟩, ⟨rfl, rfl, rfl, rfl, rfl, rfl, rfl⟩, ⟨rfl, rfl, rfl, rfl, rfl, rfl, rfl⟩, rfl, rfl, rfl, rfl, rfl, rfl, rfl⟩

/-- The selection over 256 keys: a key's bit is its block's. -/
theorem key_A (s : Vec Ideal S1x1x256x128 .f32) (r : Fin 256) (c : Fin 256) : k0_pay11 s (ix2 r c) = s (ix4 0 0 r ⟨c / 64, by omega⟩) := by
  have e := Cert.Mask.pick_l ⟨c / 64, by omega⟩ fun x => s (ix4 0 0 r x)
  rw [← Cert.Mask.blk_eq ⟨c, by omega⟩] at e
  refine Eq.trans ?_ e
  pointwise [k0_pay11]
  rfl

/-- A row of the selected branch over 256 keys. -/
theorem slc_A (sl : Ideal .f32) (q : Vec Ideal S256x128 .f32) (e : FVec Ideal S256x256 .f32) (k v : Vec Ideal S256x128 .f32) (r : Fin 256) (d : Fin 128) :
    k0_pay13 sl (k0_pay9 q) e (iota .tc S1x256 32 [1] iota_S1x256_d1_w32) k0_pay12 k v (ix2 r d)
      = Cert.Mask.SLCK 0 sl r (fun x => q (ix2 r x)) (fun c x => k (ix2 c x)) (fun c => e (ix2 r c)) (fun c => v (ix2 c d)) := by
  pointwise [k0_pay9, k0_pay10, k0_pay12, k0_pay13]
  rfl

/-- A row of the window branch over 256 keys. -/
theorem win_A (sl : Ideal .f32) (q : Vec Ideal S256x128 .f32) (k v : Vec Ideal S256x128 .f32) (r : Fin 256) (d : Fin 128) :
    k0_pay15 sl (k0_pay9 q) k0_pay10 (iota .tc S1x256 32 [1] iota_S1x256_d1_w32) k0_pay14 k v (ix2 r d)
      = Cert.Mask.WINK 0 0 sl r (fun x => q (ix2 r x)) (fun c x => k (ix2 c x)) (fun c => v (ix2 c d)) := by
  pointwise [k0_pay9, k0_pay10, k0_pay14, k0_pay15]
  rfl

/-- The selection over 512 keys: a key's bit is its block's. -/
theorem key_B (s : Vec Ideal S1x1x256x128 .f32) (r : Fin 256) (c : Fin 512) : k0_pay21 s (ix2 r c) = s (ix4 0 0 r ⟨c / 64, by omega⟩) := by
  have e := Cert.Mask.pick_l ⟨c / 64, by omega⟩ fun x => s (ix4 0 0 r x)
  rw [← Cert.Mask.blk_eq ⟨c, by omega⟩] at e
  refine Eq.trans ?_ e
  pointwise [k0_pay21]
  rfl

/-- A row of the selected branch over 512 keys. -/
theorem slc_B (sl : Ideal .f32) (q : Vec Ideal S256x128 .f32) (e : FVec Ideal S256x512 .f32) (k v : Vec Ideal S512x128 .f32) (r : Fin 256) (d : Fin 128) :
    k0_pay23 sl (k0_pay19 q) e (iota .tc S1x512 32 [1] iota_S1x512_d1_w32) k0_pay22 k v (ix2 r d)
      = Cert.Mask.SLCK 256 sl r (fun x => q (ix2 r x)) (fun c x => k (ix2 c x)) (fun c => e (ix2 r c)) (fun c => v (ix2 c d)) := by
  pointwise [k0_pay19, k0_pay20, k0_pay22, k0_pay23]
  rfl

/-- A row of the window branch over 512 keys. -/
theorem win_B (sl : Ideal .f32) (q : Vec Ideal S256x128 .f32) (k v : Vec Ideal S512x128 .f32) (r : Fin 256) (d : Fin 128) :
    k0_pay25 sl (k0_pay19 q) k0_pay20 (iota .tc S1x512 32 [1] iota_S1x512_d1_w32) k0_pay24 k v (ix2 r d)
      = Cert.Mask.WINK 256 0 sl r (fun x => q (ix2 r x)) (fun c x => k (ix2 c x)) (fun c => v (ix2 c d)) := by
  pointwise [k0_pay19, k0_pay20, k0_pay24, k0_pay25]
  rfl

/-- The selection over 768 keys: a key's bit is its block's. -/
theorem key_C (s : Vec Ideal S1x1x256x128 .f32) (r : Fin 256) (c : Fin 768) : k0_pay31 s (ix2 r c) = s (ix4 0 0 r ⟨c / 64, by omega⟩) := by
  have e := Cert.Mask.pick_l ⟨c / 64, by omega⟩ fun x => s (ix4 0 0 r x)
  rw [← Cert.Mask.blk_eq ⟨c, by omega⟩] at e
  refine Eq.trans ?_ e
  pointwise [k0_pay31]
  rfl

/-- A row of the selected branch over 768 keys. -/
theorem slc_C (sl : Ideal .f32) (q : Vec Ideal S256x128 .f32) (e : FVec Ideal S256x768 .f32) (k v : Vec Ideal S768x128 .f32) (r : Fin 256) (d : Fin 128) :
    k0_pay33 sl (k0_pay29 q) e (iota .tc S1x768 32 [1] iota_S1x768_d1_w32) k0_pay32 k v (ix2 r d)
      = Cert.Mask.SLCK 512 sl r (fun x => q (ix2 r x)) (fun c x => k (ix2 c x)) (fun c => e (ix2 r c)) (fun c => v (ix2 c d)) := by
  pointwise [k0_pay29, k0_pay30, k0_pay32, k0_pay33]
  rfl

/-- A row of the window branch over 768 keys. -/
theorem win_C (sl : Ideal .f32) (q : Vec Ideal S256x128 .f32) (k v : Vec Ideal S768x128 .f32) (r : Fin 256) (d : Fin 128) :
    k0_pay35 sl (k0_pay29 q) k0_pay30 (iota .tc S1x768 32 [1] iota_S1x768_d1_w32) k0_pay34 k v (ix2 r d)
      = Cert.Mask.WINK 512 0 sl r (fun x => q (ix2 r x)) (fun c x => k (ix2 c x)) (fun c => v (ix2 c d)) := by
  pointwise [k0_pay29, k0_pay30, k0_pay34, k0_pay35]
  rfl

/-- The selection over 1024 keys: a key's bit is its block's. -/
theorem key_D (s : Vec Ideal S1x1x256x128 .f32) (r : Fin 256) (c : Fin 1024) : k0_pay41 s (ix2 r c) = s (ix4 0 0 r ⟨c / 64, by omega⟩) := by
  have e := Cert.Mask.pick_l ⟨c / 64, by omega⟩ fun x => s (ix4 0 0 r x)
  rw [← Cert.Mask.blk_eq ⟨c, by omega⟩] at e
  refine Eq.trans ?_ e
  pointwise [k0_pay41]
  rfl

/-- A row of the selected branch over 1024 keys. -/
theorem slc_D (sl : Ideal .f32) (q : Vec Ideal S256x128 .f32) (e : FVec Ideal S256x1024 .f32) (k v : Vec Ideal S1024x128 .f32) (r : Fin 256) (d : Fin 128) :
    k0_pay43 sl (k0_pay39 q) e (iota .tc S1x1024 32 [1] iota_S1x1024_d1_w32) k0_pay42 k v (ix2 r d)
      = Cert.Mask.SLCK 768 sl r (fun x => q (ix2 r x)) (fun c x => k (ix2 c x)) (fun c => e (ix2 r c)) (fun c => v (ix2 c d)) := by
  pointwise [k0_pay39, k0_pay40, k0_pay42, k0_pay43]
  rfl

/-- A row of the window branch over 768 keys. -/
theorem win_D (sl : Ideal .f32) (q : Vec Ideal S256x128 .f32) (k v : Vec Ideal S768x128 .f32) (r : Fin 256) (d : Fin 128) :
    k0_pay45 sl (k0_pay39 q) k0_pay40 (iota .tc S1x768 32 [1] iota_S1x768_d1_w32) k0_pay44 k v (ix2 r d)
      = Cert.Mask.WINK 768 256 sl r (fun x => q (ix2 r x)) (fun c x => k (ix2 c x)) (fun c => v (ix2 c d)) := by
  pointwise [k0_pay39, k0_pay40, k0_pay44, k0_pay45]
  rfl

/-- The selection over 1280 keys: a key's bit is its block's. -/
theorem key_E (s : Vec Ideal S1x1x256x128 .f32) (r : Fin 256) (c : Fin 1280) : k0_pay51 s (ix2 r c) = s (ix4 0 0 r ⟨c / 64, by omega⟩) := by
  have e := Cert.Mask.pick_l ⟨c / 64, by omega⟩ fun x => s (ix4 0 0 r x)
  rw [← Cert.Mask.blk_eq ⟨c, by omega⟩] at e
  refine Eq.trans ?_ e
  pointwise [k0_pay51]
  rfl

/-- A row of the selected branch over 1280 keys. -/
theorem slc_E (sl : Ideal .f32) (q : Vec Ideal S256x128 .f32) (e : FVec Ideal S256x1280 .f32) (k v : Vec Ideal S1280x128 .f32) (r : Fin 256) (d : Fin 128) :
    k0_pay53 sl (k0_pay49 q) e (iota .tc S1x1280 32 [1] iota_S1x1280_d1_w32) k0_pay52 k v (ix2 r d)
      = Cert.Mask.SLCK 1024 sl r (fun x => q (ix2 r x)) (fun c x => k (ix2 c x)) (fun c => e (ix2 r c)) (fun c => v (ix2 c d)) := by
  pointwise [k0_pay49, k0_pay50, k0_pay52, k0_pay53]
  rfl

/-- A row of the window branch over 768 keys. -/
theorem win_E (sl : Ideal .f32) (q : Vec Ideal S256x128 .f32) (k v : Vec Ideal S768x128 .f32) (r : Fin 256) (d : Fin 128) :
    k0_pay55 sl (k0_pay49 q) k0_pay50 (iota .tc S1x768 32 [1] iota_S1x768_d1_w32) k0_pay54 k v (ix2 r d)
      = Cert.Mask.WINK 1024 512 sl r (fun x => q (ix2 r x)) (fun c x => k (ix2 c x)) (fun c => v (ix2 c d)) := by
  pointwise [k0_pay49, k0_pay50, k0_pay54, k0_pay55]
  rfl

/-- The selection over 1536 keys: a key's bit is its block's. -/
theorem key_F (s : Vec Ideal S1x1x256x128 .f32) (r : Fin 256) (c : Fin 1536) : k0_pay61 s (ix2 r c) = s (ix4 0 0 r ⟨c / 64, by omega⟩) := by
  have e := Cert.Mask.pick_l ⟨c / 64, by omega⟩ fun x => s (ix4 0 0 r x)
  rw [← Cert.Mask.blk_eq ⟨c, by omega⟩] at e
  refine Eq.trans ?_ e
  pointwise [k0_pay61]
  rfl

/-- A row of the selected branch over 1536 keys. -/
theorem slc_F (sl : Ideal .f32) (q : Vec Ideal S256x128 .f32) (e : FVec Ideal S256x1536 .f32) (k v : Vec Ideal S1536x128 .f32) (r : Fin 256) (d : Fin 128) :
    k0_pay63 sl (k0_pay59 q) e (iota .tc S1x1536 32 [1] iota_S1x1536_d1_w32) k0_pay62 k v (ix2 r d)
      = Cert.Mask.SLCK 1280 sl r (fun x => q (ix2 r x)) (fun c x => k (ix2 c x)) (fun c => e (ix2 r c)) (fun c => v (ix2 c d)) := by
  pointwise [k0_pay59, k0_pay60, k0_pay62, k0_pay63]
  rfl

/-- A row of the window branch over 768 keys. -/
theorem win_F (sl : Ideal .f32) (q : Vec Ideal S256x128 .f32) (k v : Vec Ideal S768x128 .f32) (r : Fin 256) (d : Fin 128) :
    k0_pay65 sl (k0_pay59 q) k0_pay60 (iota .tc S1x768 32 [1] iota_S1x768_d1_w32) k0_pay64 k v (ix2 r d)
      = Cert.Mask.WINK 1280 768 sl r (fun x => q (ix2 r x)) (fun c x => k (ix2 c x)) (fun c => v (ix2 c d)) := by
  pointwise [k0_pay59, k0_pay60, k0_pay64, k0_pay65]
  rfl

/-- The selection over 1792 keys: a key's bit is its block's. -/
theorem key_G (s : Vec Ideal S1x1x256x128 .f32) (r : Fin 256) (c : Fin 1792) : k0_pay71 s (ix2 r c) = s (ix4 0 0 r ⟨c / 64, by omega⟩) := by
  have e := Cert.Mask.pick_l ⟨c / 64, by omega⟩ fun x => s (ix4 0 0 r x)
  rw [← Cert.Mask.blk_eq ⟨c, by omega⟩] at e
  refine Eq.trans ?_ e
  pointwise [k0_pay71]
  rfl

/-- A row of the selected branch over 1792 keys. -/
theorem slc_G (sl : Ideal .f32) (q : Vec Ideal S256x128 .f32) (e : FVec Ideal S256x1792 .f32) (k v : Vec Ideal S1792x128 .f32) (r : Fin 256) (d : Fin 128) :
    k0_pay73 sl (k0_pay69 q) e (iota .tc S1x1792 32 [1] iota_S1x1792_d1_w32) k0_pay72 k v (ix2 r d)
      = Cert.Mask.SLCK 1536 sl r (fun x => q (ix2 r x)) (fun c x => k (ix2 c x)) (fun c => e (ix2 r c)) (fun c => v (ix2 c d)) := by
  pointwise [k0_pay69, k0_pay70, k0_pay72, k0_pay73]
  rfl

/-- A row of the window branch over 768 keys. -/
theorem win_G (sl : Ideal .f32) (q : Vec Ideal S256x128 .f32) (k v : Vec Ideal S768x128 .f32) (r : Fin 256) (d : Fin 128) :
    k0_pay75 sl (k0_pay69 q) k0_pay70 (iota .tc S1x768 32 [1] iota_S1x768_d1_w32) k0_pay74 k v (ix2 r d)
      = Cert.Mask.WINK 1536 1024 sl r (fun x => q (ix2 r x)) (fun c x => k (ix2 c x)) (fun c => v (ix2 c d)) := by
  pointwise [k0_pay69, k0_pay70, k0_pay74, k0_pay75]
  rfl

/-- The selection over 2048 keys: a key's bit is its block's. -/
theorem key_H (s : Vec Ideal S1x1x256x128 .f32) (r : Fin 256) (c : Fin 2048) : k0_pay81 s (ix2 r c) = s (ix4 0 0 r ⟨c / 64, by omega⟩) := by
  have e := Cert.Mask.pick_l ⟨c / 64, by omega⟩ fun x => s (ix4 0 0 r x)
  rw [← Cert.Mask.blk_eq ⟨c, by omega⟩] at e
  refine Eq.trans ?_ e
  pointwise [k0_pay81]
  rfl

/-- A row of the selected branch over 2048 keys. -/
theorem slc_H (sl : Ideal .f32) (q : Vec Ideal S256x128 .f32) (e : FVec Ideal S256x2048 .f32) (k v : Vec Ideal S2048x128 .f32) (r : Fin 256) (d : Fin 128) :
    k0_pay83 sl (k0_pay79 q) e (iota .tc S1x2048 32 [1] iota_S1x2048_d1_w32) k0_pay82 k v (ix2 r d)
      = Cert.Mask.SLCK 1792 sl r (fun x => q (ix2 r x)) (fun c x => k (ix2 c x)) (fun c => e (ix2 r c)) (fun c => v (ix2 c d)) := by
  pointwise [k0_pay79, k0_pay80, k0_pay82, k0_pay83]
  rfl

/-- A row of the window branch over 768 keys. -/
theorem win_H (sl : Ideal .f32) (q : Vec Ideal S256x128 .f32) (k v : Vec Ideal S768x128 .f32) (r : Fin 256) (d : Fin 128) :
    k0_pay85 sl (k0_pay79 q) k0_pay80 (iota .tc S1x768 32 [1] iota_S1x768_d1_w32) k0_pay84 k v (ix2 r d)
      = Cert.Mask.WINK 1792 1280 sl r (fun x => q (ix2 r x)) (fun c x => k (ix2 c x)) (fun c => v (ix2 c d)) := by
  pointwise [k0_pay79, k0_pay80, k0_pay84, k0_pay85]
  rfl

end Cert.Kernel6Ideal.Slc
end
-- ==== Proof.SlcRef.lean ====
/- The reference of the selected and window attention, cut into named pieces, each read at an index. -/
module

public import proofs.«01_k».proof.Proof.Gen.Reference6Ideal.Run
public import proofs.«01_k».proof.Proof.Mask

@[expose] public section

set_option maxRecDepth 16384

noncomputable section

namespace Cert.Reference6Ideal.Slc

open Idealize.ShloMosaic Idealize.ShloMosaic.TcCoe Idealize.SL.Sem
open Cert.Reference6Ideal Cert.Reference6Ideal.Gen Cert.Reference6Ideal.Value

/-- Query position minus key position. -/
def DIST : IVec S2048x2048 32 :=
  subi (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0)))

/-- The causal mask over query and key. -/
def CAUSAL : IVec S2048x2048 1 := cmpi .sge DIST (broadcastInDim S2048x2048 ![] bcast_S_S2048x2048 (constantI S_ 32 0#32))

/-- The chosen blocks, key by key. -/
def CHOSEN (e : FVec Ideal S4x2x2048x128 .f32) : IVec S4x2x2048x2048 1 :=
  shapeCast S4x2x2048x2048 (broadcastInDim S4x2x2048x32x64 ![0, 1, 2, 3] bcast_S4x2x2048x32_S4x2x2048x32x64_0_1_2_3
    (cmpf .ogt (extractStridedSlice S4x2x2048x32 ![0, 0, 0, 0] e slices_S4x2x2048x128_S4x2x2048x32_0_0_0_0)
      (broadcastInDim S4x2x2048x32 ![] bcast_S_S4x2x2048x32 (constant S_ .f32 0x3F000000#32)))) shapeCasts_S4x2x2048x32x64_S4x2x2048x2048

/-- The mask of the selected branch. -/
def SELM (e : FVec Ideal S4x2x2048x128 .f32) : IVec S4x2x4x2048x2048 1 :=
  broadcastInDim S4x2x4x2048x2048 ![0, 1, 2, 3, 4] bcast_S4x2x1x2048x2048_S4x2x4x2048x2048_0_1_2_3_4
    (andi (broadcastInDim S4x2x1x2048x2048 ![0, 1, 3, 4] bcast_S4x2x2048x2048_S4x2x1x2048x2048_0_1_3_4 (CHOSEN e))
      (broadcastInDim S4x2x1x2048x2048 ![0, 1, 2, 3, 4] bcast_S1x1x1x2048x2048_S4x2x1x2048x2048_0_1_2_3_4
        (broadcastInDim S1x1x1x2048x2048 ![3, 4] bcast_S2048x2048_S1x1x1x2048x2048_3_4 CAUSAL)))

/-- The mask of the window branch. -/
def WINM : IVec S4x2x4x2048x2048 1 :=
  broadcastInDim S4x2x4x2048x2048 ![3, 4] bcast_S2048x2048_S4x2x4x2048x2048_3_4
    (andi CAUSAL (cmpi .sle DIST (broadcastInDim S2048x2048 ![] bcast_S_S2048x2048 (constantI S_ 32 512#32))))

/-- The distance penalty per head. -/
def BIAS : FVec Ideal S4x2x4x2048x2048 .f32 :=
  broadcastInDim S4x2x4x2048x2048 ![0, 1, 2, 3, 4] bcast_S1x2x4x2048x2048_S4x2x4x2048x2048_0_1_2_3_4
    (broadcastInDim S1x2x4x2048x2048 ![1, 2, 3, 4] bcast_S2x4x2048x2048_S1x2x4x2048x2048_1_2_3_4
      (mulf (broadcastInDim S2x4x2048x2048 ![0, 1, 2, 3] bcast_S2x4x1x1_S2x4x2048x2048_0_1_2_3
          (broadcastInDim S2x4x1x1 ![0, 1] bcast_S2x4_S2x4x1x1_0_1 (shapeCast S2x4 (fun i => FloatOps.ofBits .f32 (lit0 (S8.rowMajor i)) : FVec Ideal S8 .f32) shapeCasts_S8_S2x4)))
        (broadcastInDim S2x4x2048x2048 ![0, 1, 2, 3] bcast_S1x1x2048x2048_S2x4x2048x2048_0_1_2_3
          (broadcastInDim S1x1x2048x2048 ![2, 3] bcast_S2048x2048_S1x1x2048x2048_2_3 (sitofp .f32 DIST)))))

/-- The queries by head. -/
def QS (x : FVec Ideal S8192x18344 .f32) : FVec Ideal S4x2048x2x4x128 .f32 :=
  shapeCast S4x2048x2x4x128 (extractStridedSlice S8192x1024 ![0, 0] x slices_S8192x18344_S8192x1024_0_0) shapeCasts_S8192x1024_S4x2048x2x4x128
/-- The keys and values of the branches. -/
def KV (x : FVec Ideal S8192x18344 .f32) : FVec Ideal S4x2048x6x2x128 .f32 :=
  shapeCast S4x2048x6x2x128 (extractStridedSlice S8192x1536 ![0, 1024] x slices_S8192x18344_S8192x1536_0_1024) shapeCasts_S8192x1536_S4x2048x6x2x128
/-- The selected branch's keys. -/
def K2 (x : FVec Ideal S8192x18344 .f32) : FVec Ideal S4x2048x2x128 .f32 :=
  shapeCast S4x2048x2x128 (extractStridedSlice S4x2048x1x2x128 ![0, 0, 2, 0, 0] (KV x) slices_S4x2048x6x2x128_S4x2048x1x2x128_0_0_2_0_0) shapeCasts_S4x2048x1x2x128_S4x2048x2x128
/-- The selected branch's values. -/
def V3 (x : FVec Ideal S8192x18344 .f32) : FVec Ideal S4x2048x2x128 .f32 :=
  shapeCast S4x2048x2x128 (extractStridedSlice S4x2048x1x2x128 ![0, 0, 3, 0, 0] (KV x) slices_S4x2048x6x2x128_S4x2048x1x2x128_0_0_3_0_0) shapeCasts_S4x2048x1x2x128_S4x2048x2x128
/-- The window branch's keys. -/
def K4 (x : FVec Ideal S8192x18344 .f32) : FVec Ideal S4x2048x2x128 .f32 :=
  shapeCast S4x2048x2x128 (extractStridedSlice S4x2048x1x2x128 ![0, 0, 4, 0, 0] (KV x) slices_S4x2048x6x2x128_S4x2048x1x2x128_0_0_4_0_0) shapeCasts_S4x2048x1x2x128_S4x2048x2x128
/-- The window branch's values. -/
def V5 (x : FVec Ideal S8192x18344 .f32) : FVec Ideal S4x2048x2x128 .f32 :=
  shapeCast S4x2048x2x128 (extractStridedSlice S4x2048x1x2x128 ![0, 0, 5, 0, 0] (KV x) slices_S4x2048x6x2x128_S4x2048x1x2x128_0_0_5_0_0) shapeCasts_S4x2048x1x2x128_S4x2048x2x128

/-- The scores before the mask. -/
def RAW (k : FVec Ideal S4x2048x2x128 .f32) (q : FVec Ideal S4x2048x2x4x128 .f32) : FVec Ideal S4x2x4x2048x2048 .f32 :=
  subf (mulf (transpose S4x2x4x2048x2048 [0, 1, 4, 3, 2] (Host.dotGeneral dot_S4x2048x2x128_S4x2048x2x4x128_S4x2x2048x2048x4_3_4_1_13_02_02 none k q) transposes_S4x2x2048x2048x4_S4x2x4x2048x2048_0_1_4_3_2)
    (broadcastInDim S4x2x4x2048x2048 ![] bcast_S_S4x2x4x2048x2048 (constant S_ .f32 0x3DB504F3#32))) BIAS

/-- The scores after the mask. -/
def SCORE (b : IVec S4x2x4x2048x2048 1) (s : FVec Ideal S4x2x4x2048x2048 .f32) : FVec Ideal S4x2x4x2048x2048 .f32 :=
  select b s (broadcastInDim S4x2x4x2048x2048 ![] bcast_S_S4x2x4x2048x2048 (constant S_ .f32 0xFF800000#32))

/-- The row maxima. -/
def ROWMAX (sc : FVec Ideal S4x2x4x2048x2048 .f32) : FVec Ideal S4x2x4x2048x1 .f32 :=
  broadcastInDim S4x2x4x2048x1 ![0, 1, 2, 3] bcast_S4x2x4x2048_S4x2x4x2048x1_0_1_2_3
    (Host.reduce FloatOps.maximumf sc (constant S_ .f32 0xFF800000#32) reducesTo_S4x2x4x2048x2048_S4x2x4x2048_d4 h_S_)

/-- The numerators of the softmax, from the masked scores and the row maxima. -/
def NUMX (b : IVec S4x2x4x2048x2048 1) (sc : FVec Ideal S4x2x4x2048x2048 .f32) (mx : FVec Ideal S4x2x4x2048x1 .f32) : FVec Ideal S4x2x4x2048x2048 .f32 :=
  select b (Host.exp (subf sc (broadcastInDim S4x2x4x2048x2048 ![0, 1, 2, 3, 4] bcast_S4x2x4x2048x1_S4x2x4x2048x2048_0_1_2_3_4
    (select (cmpf .olt (Host.absf mx) (broadcastInDim S4x2x4x2048x1 ![] bcast_S_S4x2x4x2048x1 (constant S_ .f32 0x7F800000#32)))
      mx (broadcastInDim S4x2x4x2048x1 ![] bcast_S_S4x2x4x2048x1 (constant S_ .f32 0x00000000#32))))))
    (broadcastInDim S4x2x4x2048x2048 ![] bcast_S_S4x2x4x2048x2048 (constant S_ .f32 0x00000000#32))

/-- The numerators over the row sums. -/
def QUOT (e : FVec Ideal S4x2x4x2048x2048 .f32) : FVec Ideal S4x2x4x2048x2048 .f32 :=
  Host.divf e (broadcastInDim S4x2x4x2048x2048 ![0, 1, 2, 3, 4] bcast_S4x2x4x2048x1_S4x2x4x2048x2048_0_1_2_3_4
    (maximumf (broadcastInDim S4x2x4x2048x1 ![0, 1, 2, 3] bcast_S4x2x4x2048_S4x2x4x2048x1_0_1_2_3
        (Host.reduceAdd e (constant S_ .f32 0x00000000#32) reducesTo_S4x2x4x2048x2048_S4x2x4x2048_d4 h_S_))
      (broadcastInDim S4x2x4x2048x1 ![] bcast_S_S4x2x4x2048x1 (constant S_ .f32 0x0DA24260#32))))

/-- A masked softmax. -/
def SOFT (b : IVec S4x2x4x2048x2048 1) (s : FVec Ideal S4x2x4x2048x2048 .f32) : FVec Ideal S4x2x4x2048x2048 .f32 :=
  QUOT (NUMX b (SCORE b s) (ROWMAX (SCORE b s)))

/-- The weights applied to the values. -/
def OUT (v : FVec Ideal S4x2048x2x128 .f32) (a : FVec Ideal S4x2x4x2048x2048 .f32) : FVec Ideal S4x2048x2x4x128 .f32 :=
  transpose S4x2048x2x4x128 [0, 4, 1, 3, 2] (Host.dotGeneral dot_S4x2048x2x128_S4x2x4x2048x2048_S4x2x128x4x2048_1_4_3_23_02_01 none v a) transposes_S4x2x128x4x2048_S4x2048x2x4x128_0_4_1_3_2

/-- The gates. -/
def GATE (x : FVec Ideal S8192x18344 .f32) : FVec Ideal S4x2048x2x4x3 .f32 :=
  Host.divf (broadcastInDim S4x2048x2x4x3 ![] bcast_S_S4x2048x2x4x3 (constant S_ .f32 0x3F800000#32))
    (addf (broadcastInDim S4x2048x2x4x3 ![] bcast_S_S4x2048x2x4x3 (constant S_ .f32 0x3F800000#32))
      (Host.exp (Host.negf (shapeCast S4x2048x2x4x3 (extractStridedSlice S8192x24 ![0, 2560] x slices_S8192x18344_S8192x24_0_2560) shapeCasts_S8192x24_S4x2048x2x4x3))))

/-- One branch's gate, along the lanes. -/
def LANES (g : FVec Ideal S4x2048x2x4x1 .f32) : FVec Ideal S4x2048x2x4x128 .f32 :=
  broadcastInDim S4x2048x2x4x128 ![0, 1, 2, 3, 4] bcast_S4x2048x2x4x1_S4x2048x2x4x128_0_1_2_3_4
    (broadcastInDim S4x2048x2x4x1 ![0, 1, 2, 3] bcast_S4x2048x2x4_S4x2048x2x4x1_0_1_2_3 (shapeCast S4x2048x2x4 g shapeCasts_S4x2048x2x4x1_S4x2048x2x4))

/-- The gated sum of the branches. -/
def SUM (g : FVec Ideal S4x2048x2x4x3 .f32) (oc os ow : FVec Ideal S4x2048x2x4x128 .f32) : FVec Ideal S4x2048x2x4x128 .f32 :=
  addf (addf (mulf (LANES (extractStridedSlice S4x2048x2x4x1 ![0, 0, 0, 0, 0] g slices_S4x2048x2x4x3_S4x2048x2x4x1_0_0_0_0_0)) oc)
    (mulf (LANES (extractStridedSlice S4x2048x2x4x1 ![0, 0, 0, 0, 1] g slices_S4x2048x2x4x3_S4x2048x2x4x1_0_0_0_0_1)) os))
    (mulf (LANES (extractStridedSlice S4x2048x2x4x1 ![0, 0, 0, 0, 2] g slices_S4x2048x2x4x3_S4x2048x2x4x1_0_0_0_0_2)) ow)

/-- The selected branch. -/
def OSLC (x : FVec Ideal S8192x18344 .f32) (e : FVec Ideal S4x2x2048x128 .f32) : FVec Ideal S4x2048x2x4x128 .f32 :=
  OUT (V3 x) (SOFT (SELM e) (RAW (K2 x) (QS x)))

/-- The window branch. -/
def OWIN (x : FVec Ideal S8192x18344 .f32) : FVec Ideal S4x2048x2x4x128 .f32 :=
  OUT (V5 x) (SOFT WINM (RAW (K4 x) (QS x)))

/-- The reference's result over its arguments. -/
def REF (x : FVec Ideal S8192x18344 .f32) (o : FVec Ideal S8192x1024 .f32) (e : FVec Ideal S4x2x2048x128 .f32) : FVec Ideal S8192x1024 .f32 :=
  shapeCast S8192x1024 (SUM (GATE x) (shapeCast S4x2048x2x4x128 o shapeCasts_S8192x1024_S4x2048x2x4x128) (OSLC x e) (OWIN x)) shapeCasts_S4x2048x2x4x128_S8192x1024

/-- The run's result is the composition of the named pieces. -/
theorem res_eq (m : (ℓ : Loc nD τ sig) → Buf (Elt Ideal) ℓ) (c : Dev nD) :
    res_out0 m c = REF (m ((c.tc : Thread nD τ).loc main_arg0)) (m ((c.tc : Thread nD τ).loc main_arg1)) (m ((c.tc : Thread nD τ).loc main_arg2)) := rfl

/-- The mask of the selected branch at an index. -/
theorem selm_at (e : FVec Ideal S4x2x2048x128 .f32) (b : Fin 4) (c : Fin 2) (g : Fin 4) (i j : Fin 2048) :
    SELM e (ix5 b c g i j) = IntOp.andi (BitVec.ofBool (decide (Cert.Mask.half < e (ix4 b c i ⟨j / 64, by omega⟩))))
      (IntOp.cmpi .sge (IntOp.subi (BitVec.ofNat 32 i) (BitVec.ofNat 32 j)) 0#32) := by
  pointwise [SELM, CHOSEN, CAUSAL, DIST]
  rfl

/-- The mask of the window branch at an index. -/
theorem winm_at (b : Fin 4) (c : Fin 2) (g : Fin 4) (i j : Fin 2048) :
    WINM (ix5 b c g i j) = IntOp.andi (IntOp.cmpi .sge (IntOp.subi (BitVec.ofNat 32 i) (BitVec.ofNat 32 j)) 0#32)
      (IntOp.cmpi .sle (IntOp.subi (BitVec.ofNat 32 i) (BitVec.ofNat 32 j)) 512#32) := by
  pointwise [WINM, CAUSAL, DIST]

/-- The masked score at an index. -/
theorem score_at (m : IVec S4x2x4x2048x2048 1) (s : FVec Ideal S4x2x4x2048x2048 .f32) (b : Fin 4) (c : Fin 2) (g : Fin 4) (i j : Fin 2048) :
    SCORE m s (ix5 b c g i j) = Scalar.select (m (ix5 b c g i j)) (s (ix5 b c g i j)) (Ideal.ofBits .f32 0xFF800000#32) := by
  pointwise [SCORE]

/-- The row maximum at an index. -/
theorem rowmax_at (s : FVec Ideal S4x2x4x2048x2048 .f32) (b : Fin 4) (c : Fin 2) (g : Fin 4) (i : Fin 2048) :
    ROWMAX s (ix5 b c g i 0) = Finset.univ.fold max (Ideal.ofBits .f32 0xFF800000#32) fun x : Fin 2048 => s (ix5 b c g i x) := by
  pointwise [ROWMAX]

/-- A numerator at an index. -/
theorem numx_at (m : IVec S4x2x4x2048x2048 1) (sc : FVec Ideal S4x2x4x2048x2048 .f32) (mx : FVec Ideal S4x2x4x2048x1 .f32) (b : Fin 4) (c : Fin 2) (g : Fin 4) (i j : Fin 2048) :
    NUMX m sc mx (ix5 b c g i j) = Scalar.select (m (ix5 b c g i j)) (Ideal.exp (sc (ix5 b c g i j)
      - if FloatOps.absf (mx (ix5 b c g i 0)) < Ideal.ofBits .f32 0x7F800000#32 then mx (ix5 b c g i 0) else 0)) 0 := by
  pointwise [NUMX]

/-- The softmax at an index, from the numerators. -/
theorem quot_at (e : FVec Ideal S4x2x4x2048x2048 .f32) (b : Fin 4) (c : Fin 2) (g : Fin 4) (i j : Fin 2048) :
    QUOT e (ix5 b c g i j) = Ideal.div (e (ix5 b c g i j)) (max (∑ x : Fin 2048, e (ix5 b c g i x)) (Ideal.ofBits .f32 0x0DA24260#32)) := by
  pointwise [QUOT]

/-- The masked softmax at an index, over the row's mask and raw scores. -/
theorem soft_at (m : IVec S4x2x4x2048x2048 1) (s : FVec Ideal S4x2x4x2048x2048 .f32) (b : Fin 4) (c : Fin 2) (g : Fin 4) (i : Fin 2048)
    (P : ℕ → Prop) [DecidablePred P] (S : ℕ → EReal) (hb : ∀ j : Fin 2048, m (ix5 b c g i j) = if P j then 1#1 else 0#1) (hs : ∀ j : Fin 2048, s (ix5 b c g i j) = S j) (j : Fin 2048) :
    SOFT m s (ix5 b c g i j) = Cert.Mask.W P Cert.Mask.gr (Finset.range 2048) S j := by
  rw [← Cert.Mask.full_eq P 2048 (fun d => m (ix5 b c g i d)) (fun d => s (ix5 b c g i d)) S hb hs j (ROWMAX (SCORE m s) (ix5 b c g i 0))
    (by rw [rowmax_at]; simp only [score_at, Cert.Mask.neg_inf])]
  unfold SOFT
  rw [quot_at]
  simp only [numx_at, score_at, Cert.Mask.neg_inf, Cert.Mask.pos_inf]
  rfl

/-- The weights applied to the values, at an index. -/
theorem out_at (v : FVec Ideal S4x2048x2x128 .f32) (a : FVec Ideal S4x2x4x2048x2048 .f32) (b : Fin 4) (c : Fin 2) (g : Fin 4) (i : Fin 2048) (d : Fin 128) :
    OUT v a (ix5 b i c g d) = ∑ k : Fin 2048, v (ix4 b k c d) * a (ix5 b c g i k) := by
  pointwise [OUT]

/-- A raw score at an index. -/
theorem raw_at (k : FVec Ideal S4x2048x2x128 .f32) (q : FVec Ideal S4x2048x2x4x128 .f32) (b : Fin 4) (c : Fin 2) (g : Fin 4) (i j : Fin 2048) :
    RAW k q (ix5 b c g i j) = (∑ d : Fin 128, k (ix4 b j c d) * q (ix5 b i c g d)) * Ideal.ofBits .f32 0x3DB504F3#32
      - Ideal.ofBits .f32 (lit0 (S8.rowMajor (ix1 ⟨c * 4 + g, by omega⟩))) * FloatOps.sitofp .f32 (IntOp.subi (BitVec.ofNat 32 i) (BitVec.ofNat 32 j)) := by
  pointwise [RAW, BIAS, DIST]

/-- The queries at an index. -/
theorem qs_at (x : FVec Ideal S8192x18344 .f32) (b : Fin 4) (c : Fin 2) (g : Fin 4) (i : Fin 2048) (d : Fin 128) :
    QS x (ix5 b i c g d) = x (ix2 ⟨b * 2048 + i, by omega⟩ ⟨c * 512 + g * 128 + d, by omega⟩) := by
  pointwise [QS]

/-- The selected branch's keys at an index. -/
theorem k2_at (x : FVec Ideal S8192x18344 .f32) (b : Fin 4) (c : Fin 2) (i : Fin 2048) (d : Fin 128) :
    K2 x (ix4 b i c d) = x (ix2 ⟨b * 2048 + i, by omega⟩ ⟨1024 + (512 + c * 128 + d), by omega⟩) := by
  pointwise [K2, KV]

/-- The selected branch's values at an index. -/
theorem v3_at (x : FVec Ideal S8192x18344 .f32) (b : Fin 4) (c : Fin 2) (i : Fin 2048) (d : Fin 128) :
    V3 x (ix4 b i c d) = x (ix2 ⟨b * 2048 + i, by omega⟩ ⟨1024 + (768 + c * 128 + d), by omega⟩) := by
  pointwise [V3, KV]

/-- The window branch's keys at an index. -/
theorem k4_at (x : FVec Ideal S8192x18344 .f32) (b : Fin 4) (c : Fin 2) (i : Fin 2048) (d : Fin 128) :
    K4 x (ix4 b i c d) = x (ix2 ⟨b * 2048 + i, by omega⟩ ⟨1024 + (1024 + c * 128 + d), by omega⟩) := by
  pointwise [K4, KV]

/-- The window branch's values at an index. -/
theorem v5_at (x : FVec Ideal S8192x18344 .f32) (b : Fin 4) (c : Fin 2) (i : Fin 2048) (d : Fin 128) :
    V5 x (ix4 b i c d) = x (ix2 ⟨b * 2048 + i, by omega⟩ ⟨1024 + (1280 + c * 128 + d), by omega⟩) := by
  pointwise [V5, KV]

/-- The gated sum at a row and a column of the result. -/
theorem sum_at (x : FVec Ideal S8192x18344 .f32) (o : FVec Ideal S8192x1024 .f32) (e : FVec Ideal S4x2x2048x128 .f32) (b : Fin 4) (c : Fin 2) (g : Fin 4) (i : Fin 2048) (d : Fin 128) :
    REF x o e (ix2 ⟨b * 2048 + i, by omega⟩ ⟨c * 512 + g * 128 + d, by omega⟩)
      = Cert.Mask.GATED (x (ix2 ⟨b * 2048 + i, by omega⟩ ⟨2560 + (c * 12 + g * 3), by omega⟩)) (x (ix2 ⟨b * 2048 + i, by omega⟩ ⟨2560 + (c * 12 + g * 3 + 1), by omega⟩))
        (x (ix2 ⟨b * 2048 + i, by omega⟩ ⟨2560 + (c * 12 + g * 3 + 2), by omega⟩)) (o (ix2 ⟨b * 2048 + i, by omega⟩ ⟨c * 512 + g * 128 + d, by omega⟩))
        (OSLC x e (ix5 b i c g d)) (OWIN x (ix5 b i c g d)) := by
  unfold REF
  generalize OSLC x e = os
  generalize OWIN x = ow
  pointwise [SUM, LANES, GATE]
  rfl

/-- The selected branch at an index, over the row's queries, keys, values and chosen blocks. -/
theorem oslc_at (x : FVec Ideal S8192x18344 .f32) (e : FVec Ideal S4x2x2048x128 .f32) (b : Fin 4) (c : Fin 2) (g : Fin 4) (i : Fin 2048) (d : Fin 128)
    (Q : Fin 128 → EReal) (K : ℕ → Fin 128 → EReal) (V B : ℕ → EReal)
    (hq : ∀ d : Fin 128, x (ix2 ⟨b * 2048 + i, by omega⟩ ⟨c * 512 + g * 128 + d, by omega⟩) = Q d)
    (hk : ∀ (j : Fin 2048) (d : Fin 128), x (ix2 ⟨b * 2048 + j, by omega⟩ ⟨1024 + (512 + c * 128 + d), by omega⟩) = K j d)
    (hv : ∀ j : Fin 2048, x (ix2 ⟨b * 2048 + j, by omega⟩ ⟨1024 + (768 + c * 128 + d), by omega⟩) = V j)
    (hB : ∀ l : Fin 32, e (ix4 b c i ⟨l, by omega⟩) = B l) :
    OSLC x e (ix5 b i c g d) = Cert.Mask.FULL (Cert.Mask.PS B i) (Cert.Mask.S (Ideal.ofBits .f32 (lit0 (S8.rowMajor (ix1 ⟨c * 4 + g, by omega⟩)))) i Q K) V := by
  unfold OSLC
  rw [out_at]
  refine Finset.sum_congr rfl fun k _ => ?_
  rw [v3_at, hv, soft_at _ _ b c g i (Cert.Mask.PS B i) _ (fun j => ?_) fun j => ?_]
  · rw [selm_at]
    exact Cert.Mask.sel_bit B _ i j i.isLt j.isLt (hB ⟨j / 64, by omega⟩)
  · rw [raw_at]
    simp only [k2_at, qs_at, hq, hk, mul_comm (K _ _)]
    rfl

/-- The window branch at an index, over the row's queries, keys and values. -/
theorem owin_at (x : FVec Ideal S8192x18344 .f32) (b : Fin 4) (c : Fin 2) (g : Fin 4) (i : Fin 2048) (d : Fin 128)
    (Q : Fin 128 → EReal) (K : ℕ → Fin 128 → EReal) (V : ℕ → EReal)
    (hq : ∀ d : Fin 128, x (ix2 ⟨b * 2048 + i, by omega⟩ ⟨c * 512 + g * 128 + d, by omega⟩) = Q d)
    (hk : ∀ (j : Fin 2048) (d : Fin 128), x (ix2 ⟨b * 2048 + j, by omega⟩ ⟨1024 + (1024 + c * 128 + d), by omega⟩) = K j d)
    (hv : ∀ j : Fin 2048, x (ix2 ⟨b * 2048 + j, by omega⟩ ⟨1024 + (1280 + c * 128 + d), by omega⟩) = V j) :
    OWIN x (ix5 b i c g d) = Cert.Mask.FULL (Cert.Mask.PW i) (Cert.Mask.S (Ideal.ofBits .f32 (lit0 (S8.rowMajor (ix1 ⟨c * 4 + g, by omega⟩)))) i Q K) V := by
  unfold OWIN
  rw [out_at]
  refine Finset.sum_congr rfl fun k _ => ?_
  rw [v5_at, hv, soft_at _ _ b c g i (Cert.Mask.PW i) _ (fun j => ?_) fun j => ?_]
  · rw [winm_at]
    exact Cert.Mask.win_bit i j i.isLt j.isLt
  · rw [raw_at]
    simp only [k4_at, qs_at, hq, hk, mul_comm (K _ _)]
    rfl

end Cert.Reference6Ideal.Slc
end
-- ==== Proof.SlcKernel.lean ====
/- The selected and window kernel's result array is the reference's function of the arguments. -/
module

public import proofs.«01_k».proof.Proof.Gen.Kernel6Ideal.Value
public import Idealize.ShloMosaic.Lib.Pipeline.ValueKit
public import Idealize.ShloMosaic.Lib.Claim
public import proofs.«01_k».proof.Proof.SlcRows
public import proofs.«01_k».proof.Proof.SlcRef
public import proofs.«01_k».proof.Proof.DiffKernel

@[expose] public section

set_option maxRecDepth 16384

noncomputable section

namespace Cert.Kernel6Ideal.Slc

open Idealize.ShloMosaic Idealize.ShloMosaic.TcCoe Idealize.SL.Sem
open Cert.Kernel6Ideal Cert.Kernel6Ideal.Gen
open Idealize.ShloMosaic.Pipeline (Dat)
open Cert.KernelIdeal.Diff (PERM off_axis ld_prefix)

variable (m : (ℓ : Loc nD τ sig) → Buf (Elt Ideal) ℓ)

/-- The block indices of the windows and the grid coordinates. -/
theorem idx : ∀ t : Fin cfg0.N, win0_0.index t = ![0]
    ∧ win0_1.index t = ![t.val / 64 * 8 + t.val % 8, t.val / 8 % 8]
    ∧ win0_2.index t = ![t.val / 64 * 8 + t.val % 8, 143]
    ∧ win0_3.index t = ![t.val / 64 * 8 + t.val % 8, t.val / 8 % 8]
    ∧ win0_4.index t = ![t.val / 64, t.val / 8 % 8 / 4, t.val % 8, 0]
    ∧ win0_5.index t = ![t.val / 64, 132 + t.val / 8 % 8 / 4] ∧ win0_6.index t = ![t.val / 64, 134 + t.val / 8 % 8 / 4]
    ∧ win0_7.index t = ![t.val / 64, 136 + t.val / 8 % 8 / 4] ∧ win0_8.index t = ![t.val / 64, 138 + t.val / 8 % 8 / 4]
    ∧ win0_9.index t = ![t.val / 64 * 8 + t.val % 8, t.val / 8 % 8]
    ∧ (grid0.coords t 1).val = t.val / 8 % 8 ∧ k0_off1 (grid0.coords t) = ![t.val / 8 % 8] := (by decide +kernel : ∀ t : Fin grid0.N, _)

/-- The number of grid points. -/
theorem lt_N (t : Fin cfg0.N) : t.val < 256 := t.isLt

/-- The array the kernel reads is the permuted rows. -/
theorem V_perm (c : Dev nD) : V m c main_v16 = PERM (m ((c : Thread nD τ).loc main_arg0)) := by
  unfold V; after_results; rfl

/-- The permuted rows, at the queries. -/
theorem perm_q (X : FVec Ideal S8192x18344 .f32) (r : Fin 8192) (x : Fin 1024) :
    PERM X (ix2 r ⟨x, by omega⟩) = X (ix2 r ⟨x, by omega⟩) := by
  unfold PERM
  refine (concatenate_apply_piece (t := S8192x18432) 1 _ _ _ 0 (by simp) S8192x1024 _ rfl rfl 0 (by simp) (ix2 r x) (off_axis r _ x _) (by exact Nat.zero_add x.val)).trans ?_
  pointwise

/-- The permuted rows, at the keys and values. -/
theorem perm_kv (X : FVec Ideal S8192x18344 .f32) (r : Fin 8192) (x : Fin 1536) :
    PERM X (ix2 r ⟨16384 + x, by omega⟩) = X (ix2 r ⟨1024 + x, by omega⟩) := by
  unfold PERM
  refine (concatenate_apply_piece (t := S8192x18432) 1 _ _ _ 10 (by simp) S8192x1536 _ rfl rfl 16384 (by simp) (ix2 r x) (off_axis r _ x _) rfl).trans ?_
  pointwise

/-- The permuted rows, at the gates. -/
theorem perm_g (X : FVec Ideal S8192x18344 .f32) (r : Fin 8192) (x : Fin 24) :
    PERM X (ix2 r ⟨18304 + x, by omega⟩) = X (ix2 r ⟨2560 + x, by omega⟩) := by
  unfold PERM
  refine (concatenate_apply_piece (t := S8192x18432) 1 _ _ _ 13 (by simp) S8192x24 _ rfl rfl 18304 (by simp) (ix2 r x) (off_axis r _ x _) rfl).trans ?_
  pointwise

/-- The query block. -/
theorem q_read (c : Dev nD) (t : Fin cfg0.N) (r : Fin 256) (x : Fin 128) :
    (iblk m c 1 t : FVec Ideal S256x128 .f32) (ix2 r x) = m ((c : Thread nD τ).loc main_arg0)
      (ix2 ⟨(t.val / 64 * 8 + t.val % 8) * 256 + r, by have := lt_N t; omega⟩ ⟨t.val / 8 % 8 * 128 + x, by omega⟩) := by
  have := lt_N t
  have e := perm_q (m ((c : Thread nD τ).loc main_arg0)) ⟨(t.val / 64 * 8 + t.val % 8) * 256 + r, by omega⟩ ⟨t.val / 8 % 8 * 128 + x, by omega⟩
  rw [← V_perm] at e
  refine Eq.trans ?_ e
  blk_point [iblk, idx t]

/-- The gates. -/
theorem g_read (c : Dev nD) (t : Fin cfg0.N) (r : Fin 256) (x : Fin 24) :
    (iblk m c 2 t : FVec Ideal S256x128 .f32) (ix2 r ⟨x, by omega⟩) = m ((c : Thread nD τ).loc main_arg0)
      (ix2 ⟨(t.val / 64 * 8 + t.val % 8) * 256 + r, by have := lt_N t; omega⟩ ⟨2560 + x, by omega⟩) := by
  have := lt_N t
  have e := perm_g (m ((c : Thread nD τ).loc main_arg0)) ⟨(t.val / 64 * 8 + t.val % 8) * 256 + r, by omega⟩ x
  rw [← V_perm] at e
  refine Eq.trans ?_ e
  blk_point [iblk, idx t]

/-- The compressed branch's block. -/
theorem o_read (c : Dev nD) (t : Fin cfg0.N) (r : Fin 256) (x : Fin 128) :
    (iblk m c 3 t : FVec Ideal S256x128 .f32) (ix2 r x) = m ((c : Thread nD τ).loc main_arg1)
      (ix2 ⟨(t.val / 64 * 8 + t.val % 8) * 256 + r, by have := lt_N t; omega⟩ ⟨t.val / 8 % 8 * 128 + x, by omega⟩) := by
  have := lt_N t
  blk_point [iblk, V, idx t]

/-- The chosen blocks. -/
theorem e_read (c : Dev nD) (t : Fin cfg0.N) (r : Fin 256) (x : Fin 128) :
    (iblk m c 4 t : FVec Ideal S1x1x256x128 .f32) (ix4 0 0 r x) = m ((c : Thread nD τ).loc main_arg2)
      (ix4 ⟨t.val / 64, by have := lt_N t; omega⟩ ⟨t.val / 8 % 8 / 4, by omega⟩ ⟨t.val % 8 * 256 + r, by omega⟩ x) := by
  have := lt_N t
  blk_point [iblk, V, idx t]

/-- The selected branch's keys. -/
theorem k_read (c : Dev nD) (t : Fin cfg0.N) (r : Fin 2048) (x : Fin 128) :
    (iblk m c 5 t : FVec Ideal S2048x128 .f32) (ix2 r x) = m ((c : Thread nD τ).loc main_arg0)
      (ix2 ⟨t.val / 64 * 2048 + r, by have := lt_N t; omega⟩ ⟨1024 + (512 + t.val / 8 % 8 / 4 * 128 + x), by omega⟩) := by
  have := lt_N t
  have e := perm_kv (m ((c : Thread nD τ).loc main_arg0)) ⟨t.val / 64 * 2048 + r, by omega⟩ ⟨512 + t.val / 8 % 8 / 4 * 128 + x, by omega⟩
  rw [← V_perm] at e
  refine Eq.trans ?_ e
  blk_point [iblk, idx t]

/-- The selected branch's values. -/
theorem v_read (c : Dev nD) (t : Fin cfg0.N) (r : Fin 2048) (x : Fin 128) :
    (iblk m c 6 t : FVec Ideal S2048x128 .f32) (ix2 r x) = m ((c : Thread nD τ).loc main_arg0)
      (ix2 ⟨t.val / 64 * 2048 + r, by have := lt_N t; omega⟩ ⟨1024 + (768 + t.val / 8 % 8 / 4 * 128 + x), by omega⟩) := by
  have := lt_N t
  have e := perm_kv (m ((c : Thread nD τ).loc main_arg0)) ⟨t.val / 64 * 2048 + r, by omega⟩ ⟨768 + t.val / 8 % 8 / 4 * 128 + x, by omega⟩
  rw [← V_perm] at e
  refine Eq.trans ?_ e
  blk_point [iblk, idx t]

/-- The window branch's keys. -/
theorem wk_read (c : Dev nD) (t : Fin cfg0.N) (r : Fin 2048) (x : Fin 128) :
    (iblk m c 7 t : FVec Ideal S2048x128 .f32) (ix2 r x) = m ((c : Thread nD τ).loc main_arg0)
      (ix2 ⟨t.val / 64 * 2048 + r, by have := lt_N t; omega⟩ ⟨1024 + (1024 + t.val / 8 % 8 / 4 * 128 + x), by omega⟩) := by
  have := lt_N t
  have e := perm_kv (m ((c : Thread nD τ).loc main_arg0)) ⟨t.val / 64 * 2048 + r, by omega⟩ ⟨1024 + t.val / 8 % 8 / 4 * 128 + x, by omega⟩
  rw [← V_perm] at e
  refine Eq.trans ?_ e
  blk_point [iblk, idx t]

/-- The window branch's values. -/
theorem wv_read (c : Dev nD) (t : Fin cfg0.N) (r : Fin 2048) (x : Fin 128) :
    (iblk m c 8 t : FVec Ideal S2048x128 .f32) (ix2 r x) = m ((c : Thread nD τ).loc main_arg0)
      (ix2 ⟨t.val / 64 * 2048 + r, by have := lt_N t; omega⟩ ⟨1024 + (1280 + t.val / 8 % 8 / 4 * 128 + x), by omega⟩) := by
  have := lt_N t
  have e := perm_kv (m ((c : Thread nD τ).loc main_arg0)) ⟨t.val / 64 * 2048 + r, by omega⟩ ⟨1280 + t.val / 8 % 8 / 4 * 128 + x, by omega⟩
  rw [← V_perm] at e
  refine Eq.trans ?_ e
  blk_point [iblk, idx t]

/-- The slopes. -/
theorem s_read (c : Dev nD) (t : Fin cfg0.N) (i : Fin 8) :
    (iblk m c 0 t : FVec Ideal S8 .f32) (ix1 i) = Ideal.ofBits .f32 (Cert.Reference6Ideal.lit0 (Cert.Reference6Ideal.S8.rowMajor (ix1 i))) := by
  have hl : ∀ j : S8.Idx, lit0 (S8.rowMajor j) = Cert.Reference6Ideal.lit0 (Cert.Reference6Ideal.S8.rowMajor j) := by
    intro j; rfl
  rw [← hl]
  blk_point [iblk, V, idx t]

/-- A run of the rows of a block. -/
theorem ld_rows {n : ℕ} (a : ℕ) (B : Vec Ideal S2048x128 .f32) (hb : ∀ i, (![a, 0] : Fin 2 → ℕ) i + (![n, 128] : Fin 2 → ℕ) i ≤ S2048x128.size i) (hn : a + n ≤ 2048) (c : Fin n) (x : Fin 128) :
    View.ld B (Rect.unit (s := S2048x128) ![a, 0] ![n, 128] hb) (ix2 c x) = B (ix2 ⟨a + c, by omega⟩ x) := by
  pointwise

/-- The head's slope as the kernel loads it. -/
theorem slope_read (c : Dev nD) (t : Fin cfg0.N) (h1 h2) :
    View.ld (iblk m c 0 t : Vec Ideal S8 .f32) (Rect.unit (s := S8) (k0_off1 (grid0.coords t)) ![1] h1) (Shape.Idx.first h2)
      = Ideal.ofBits .f32 (Cert.Reference6Ideal.lit0 (Cert.Reference6Ideal.S8.rowMajor (ix1 ⟨t.val / 8 % 8, by omega⟩))) := by
  rw [← s_read m c t]
  refine congrArg (iblk m c 0 t : Vec Ideal S8 .f32) (funext fun a => Fin.ext ?_)
  have ha : ∀ b : Fin 1, b = 0 := by decide
  obtain rfl : a = 0 := ha a
  show k0_off1 (grid0.coords t) 0 + 1 * ((Shape.Idx.first h2 0 : Fin _) : ℕ) = t.val / 8 % 8
  have hf : ((Shape.Idx.first h2 0 : Fin _) : ℕ) < 1 := (Shape.Idx.first h2 0).isLt
  have ho : k0_off1 (grid0.coords t) 0 = t.val / 8 % 8 := congrFun (idx t).2.2.2.2.2.2.2.2.2.2.2 0
  omega

/-- A block of the kernel's result is the reference's, whatever keys its body reads. -/
theorem core (c : Dev nD) (t : Fin cfg0.N) (q0 ws n w : ℕ) (hq : q0 = t.val % 8 * 256) (hn : q0 + 256 ≤ n) (hn' : n ≤ 2048)
    (hw : q0 + 256 ≤ ws + w) (hw' : ws ≤ q0 - 512) (hw'' : ws + w ≤ 2048) (os ow : FVec Ideal S256x128 .f32)
    (kf vf : Fin n → Fin 128 → EReal) (ef : Fin 256 → Fin n → EReal) (kw vw : Fin w → Fin 128 → EReal)
    (hk : ∀ c' x, kf c' x = (iblk m c 5 t : FVec Ideal S2048x128 .f32) (ix2 ⟨c', by omega⟩ x))
    (hv : ∀ c' x, vf c' x = (iblk m c 6 t : FVec Ideal S2048x128 .f32) (ix2 ⟨c', by omega⟩ x))
    (he : ∀ r c', ef r c' = (iblk m c 4 t : FVec Ideal S1x1x256x128 .f32) (ix4 0 0 r ⟨c'.val / 64, by omega⟩))
    (hkw : ∀ c' x, kw c' x = (iblk m c 7 t : FVec Ideal S2048x128 .f32) (ix2 ⟨ws + c', by omega⟩ x))
    (hvw : ∀ c' x, vw c' x = (iblk m c 8 t : FVec Ideal S2048x128 .f32) (ix2 ⟨ws + c', by omega⟩ x))
    (sl : EReal) (hs : sl = Ideal.ofBits .f32 (Cert.Reference6Ideal.lit0 (Cert.Reference6Ideal.S8.rowMajor (ix1 ⟨t.val / 8 % 8, by omega⟩))))
    (ho : ∀ (r : Fin 256) (d : Fin 128), os (ix2 r d) = Cert.Mask.SLCK q0 sl r
      (fun x => (iblk m c 1 t : FVec Ideal S256x128 .f32) (ix2 r x)) kf (ef r) (fun c' => vf c' d))
    (hp : ∀ (r : Fin 256) (d : Fin 128), ow (ix2 r d) = Cert.Mask.WINK q0 ws sl r
      (fun x => (iblk m c 1 t : FVec Ideal S256x128 .f32) (ix2 r x)) kw (fun c' => vw c' d))
    (y : S256x128.Idx) :
    k0_pay1 ow (k0_pay16 (iblk m c 2 t)) (k0_pay17 (BitVec.ofNat 32 (grid0.coords t 1).val) os (iblk m c 2 t) (iblk m c 3 t))
      (k0_pay18 (BitVec.ofNat 32 (grid0.coords t 1).val)) y
      = Cert.Reference6Ideal.Slc.REF (m ((c : Thread nD τ).loc main_arg0)) (m ((c : Thread nD τ).loc main_arg1)) (m ((c : Thread nD τ).loc main_arg2))
        (((View.whole main_v17).slice (win0_9.rect t)).emb y) := by
  have hN := lt_N t
  subst hq
  idx_vars y
  have e : ((View.whole main_v17).slice (win0_9.rect t)).emb (ix2 y0 y1)
      = ix2 ⟨t.val / 64 * 2048 + (t.val % 8 * 256 + y0), by omega⟩ ⟨t.val / 8 % 8 / 4 * 512 + t.val / 8 % 8 % 4 * 128 + y1, by omega⟩ := by
    blk_ext [idx t]
  have es : (⟨t.val / 8 % 8, by omega⟩ : Fin 8) = ⟨t.val / 8 % 8 / 4 * 4 + t.val / 8 % 8 % 4, by omega⟩ := Fin.ext (by simp only; omega)
  let Q : Fin 128 → EReal := fun x => (iblk m c 1 t : FVec Ideal S256x128 .f32) (ix2 y0 x)
  let ROW : FVec Ideal S2048x128 .f32 → ℕ → Fin 128 → EReal := fun A j x => if h : j < 2048 then A (ix2 ⟨j, h⟩ x) else 0
  let B : ℕ → EReal := fun l => if h : l < 128 then (iblk m c 4 t : FVec Ideal S1x1x256x128 .f32) (ix4 0 0 y0 ⟨l, h⟩) else 0
  have hR : ∀ (A : FVec Ideal S2048x128 .f32) (j : Fin 2048) (x : Fin 128), ROW A j x = A (ix2 j x) := fun A j x => dif_pos j.isLt
  have hB : ∀ l : Fin 128, B l = (iblk m c 4 t : FVec Ideal S1x1x256x128 .f32) (ix4 0 0 y0 l) := fun l => dif_pos l.isLt
  rw [e, (idx t).2.2.2.2.2.2.2.2.2.2.1, out_at _ (by omega), ho, hp,
    Cert.Mask.slck_eq (t.val % 8 * 256) y0 n (by omega) hn' sl _ kf (ef y0) _ (ROW (iblk m c 5 t)) B (fun j => ROW (iblk m c 6 t) j y1)
      (fun c' x => (hk c' x).trans (hR _ ⟨c', by omega⟩ x).symm) (fun c' => (he y0 c').trans (hB ⟨c'.val / 64, by omega⟩).symm)
      (fun c' => (hv c' y1).trans (hR _ ⟨c', by omega⟩ y1).symm),
    Cert.Mask.wink_eq (t.val % 8 * 256) ws y0 w (by omega) hw' hw'' sl _ kw _ (ROW (iblk m c 7 t)) (fun j => ROW (iblk m c 8 t) j y1)
      (fun c' x => (hkw c' x).trans (hR _ ⟨ws + c', by omega⟩ x).symm) (fun c' => (hvw c' y1).trans (hR _ ⟨ws + c', by omega⟩ y1).symm),
    hs, es]
  refine Eq.trans ?_ (Cert.Reference6Ideal.Slc.sum_at _ _ _ ⟨t.val / 64, by omega⟩ ⟨t.val / 8 % 8 / 4, by omega⟩ ⟨t.val / 8 % 8 % 4, by omega⟩
    ⟨t.val % 8 * 256 + y0, by omega⟩ y1).symm
  rw [Cert.Reference6Ideal.Slc.oslc_at _ _ _ _ _ _ _ Q (ROW (iblk m c 5 t)) (fun j => ROW (iblk m c 6 t) j y1) B,
    Cert.Reference6Ideal.Slc.owin_at _ _ _ _ _ _ Q (ROW (iblk m c 7 t)) (fun j => ROW (iblk m c 8 t) j y1)]
  · rw [g_read m c t y0 ⟨3 * (t.val / 8 % 8), by omega⟩, g_read m c t y0 ⟨3 * (t.val / 8 % 8) + 1, by omega⟩, g_read m c t y0 ⟨3 * (t.val / 8 % 8) + 2, by omega⟩, o_read]
    congr 1 <;> blk_ext
  · intro x
    refine Eq.trans ?_ (q_read m c t y0 x).symm
    blk_ext
  · intro j x
    exact ((wk_read m c t j x).symm.trans (hR _ j x).symm)
  · intro j
    exact ((wv_read m c t j y1).symm.trans (hR _ j y1).symm)
  · intro x
    refine Eq.trans ?_ (q_read m c t y0 x).symm
    blk_ext
  · intro j x
    exact ((k_read m c t j x).symm.trans (hR _ j x).symm)
  · intro j
    exact ((v_read m c t j y1).symm.trans (hR _ j y1).symm)
  · intro l
    exact ((e_read m c t y0 ⟨l, by omega⟩).symm.trans (hB ⟨l, by omega⟩).symm)

/-- The kernel's result array is the reference's function of the arguments. -/
theorem final (c : Dev nD) : (dats m 0 c).arrAt 9 (cfgs 0).N
    = Cert.Reference6Ideal.Slc.REF (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]
  obtain h | h | h | h | h | h | h | h : t.val % 8 = 0 ∨ t.val % 8 = 1 ∨ t.val % 8 = 2 ∨ t.val % 8 = 3 ∨ t.val % 8 = 4 ∨ t.val % 8 = 5 ∨ t.val % 8 = 6 ∨ t.val % 8 = 7 := by omega
  · rw [outsAt0_A m c t h (by omega) (by omega) (by omega) (by omega) (by omega) (by omega) (by omega)]
    frame_out
    exact core m c t 0 0 256 256 (by omega) (by omega) (by omega) (by omega) (by omega) (by omega) _ _ _ _ _ _ _ (fun c' x => ld_prefix _ _ (by omega) c' x) (fun c' x => ld_prefix _ _ (by omega) c' x)
      (fun r c' => key_A _ r c') (fun c' x => ld_rows 0 _ _ (by omega) c' x) (fun c' x => ld_rows 0 _ _ (by omega) c' x) _ (slope_read m c t _ _)
      (fun r d => slc_A _ _ _ _ _ r d) (fun r d => win_A _ _ _ _ r d) y
  · rw [outsAt0_B m c t (by omega) h (by omega) (by omega) (by omega) (by omega) (by omega) (by omega)]
    frame_out
    exact core m c t 256 0 512 512 (by omega) (by omega) (by omega) (by omega) (by omega) (by omega) _ _ _ _ _ _ _ (fun c' x => ld_prefix _ _ (by omega) c' x) (fun c' x => ld_prefix _ _ (by omega) c' x)
      (fun r c' => key_B _ r c') (fun c' x => ld_rows 0 _ _ (by omega) c' x) (fun c' x => ld_rows 0 _ _ (by omega) c' x) _ (slope_read m c t _ _)
      (fun r d => slc_B _ _ _ _ _ r d) (fun r d => win_B _ _ _ _ r d) y
  · rw [outsAt0_C m c t (by omega) (by omega) h (by omega) (by omega) (by omega) (by omega) (by omega)]
    frame_out
    exact core m c t 512 0 768 768 (by omega) (by omega) (by omega) (by omega) (by omega) (by omega) _ _ _ _ _ _ _ (fun c' x => ld_prefix _ _ (by omega) c' x) (fun c' x => ld_prefix _ _ (by omega) c' x)
      (fun r c' => key_C _ r c') (fun c' x => ld_rows 0 _ _ (by omega) c' x) (fun c' x => ld_rows 0 _ _ (by omega) c' x) _ (slope_read m c t _ _)
      (fun r d => slc_C _ _ _ _ _ r d) (fun r d => win_C _ _ _ _ r d) y
  · rw [outsAt0_D m c t (by omega) (by omega) (by omega) h (by omega) (by omega) (by omega) (by omega)]
    frame_out
    exact core m c t 768 256 1024 768 (by omega) (by omega) (by omega) (by omega) (by omega) (by omega) _ _ _ _ _ _ _ (fun c' x => ld_prefix _ _ (by omega) c' x) (fun c' x => ld_prefix _ _ (by omega) c' x)
      (fun r c' => key_D _ r c') (fun c' x => ld_rows 256 _ _ (by omega) c' x) (fun c' x => ld_rows 256 _ _ (by omega) c' x) _ (slope_read m c t _ _)
      (fun r d => slc_D _ _ _ _ _ r d) (fun r d => win_D _ _ _ _ r d) y
  · rw [outsAt0_E m c t (by omega) (by omega) (by omega) (by omega) h (by omega) (by omega) (by omega)]
    frame_out
    exact core m c t 1024 512 1280 768 (by omega) (by omega) (by omega) (by omega) (by omega) (by omega) _ _ _ _ _ _ _ (fun c' x => ld_prefix _ _ (by omega) c' x) (fun c' x => ld_prefix _ _ (by omega) c' x)
      (fun r c' => key_E _ r c') (fun c' x => ld_rows 512 _ _ (by omega) c' x) (fun c' x => ld_rows 512 _ _ (by omega) c' x) _ (slope_read m c t _ _)
      (fun r d => slc_E _ _ _ _ _ r d) (fun r d => win_E _ _ _ _ r d) y
  · rw [outsAt0_F m c t (by omega) (by omega) (by omega) (by omega) (by omega) h (by omega) (by omega)]
    frame_out
    exact core m c t 1280 768 1536 768 (by omega) (by omega) (by omega) (by omega) (by omega) (by omega) _ _ _ _ _ _ _ (fun c' x => ld_prefix _ _ (by omega) c' x) (fun c' x => ld_prefix _ _ (by omega) c' x)
      (fun r c' => key_F _ r c') (fun c' x => ld_rows 768 _ _ (by omega) c' x) (fun c' x => ld_rows 768 _ _ (by omega) c' x) _ (slope_read m c t _ _)
      (fun r d => slc_F _ _ _ _ _ r d) (fun r d => win_F _ _ _ _ r d) y
  · rw [outsAt0_G m c t (by omega) (by omega) (by omega) (by omega) (by omega) (by omega) h (by omega)]
    frame_out
    exact core m c t 1536 1024 1792 768 (by omega) (by omega) (by omega) (by omega) (by omega) (by omega) _ _ _ _ _ _ _ (fun c' x => ld_prefix _ _ (by omega) c' x) (fun c' x => ld_prefix _ _ (by omega) c' x)
      (fun r c' => key_G _ r c') (fun c' x => ld_rows 1024 _ _ (by omega) c' x) (fun c' x => ld_rows 1024 _ _ (by omega) c' x) _ (slope_read m c t _ _)
      (fun r d => slc_G _ _ _ _ _ r d) (fun r d => win_G _ _ _ _ r d) y
  · rw [outsAt0_H m c t (by omega) (by omega) (by omega) (by omega) (by omega) (by omega) (by omega) h]
    frame_out
    exact core m c t 1792 1280 2048 768 (by omega) (by omega) (by omega) (by omega) (by omega) (by omega) _ _ _ _ _ _ _ (fun _ _ => rfl) (fun _ _ => rfl)
      (fun r c' => key_H _ r c') (fun c' x => ld_rows 1280 _ _ (by omega) c' x) (fun c' x => ld_rows 1280 _ _ (by omega) c' x) _ (slope_read m c t _ _)
      (fun r d => slc_H _ _ _ _ _ r d) (fun r d => win_H _ _ _ _ r d) y

end Cert.Kernel6Ideal.Slc
end
-- ==== Proof.SlcValue.lean ====
/- The claims about the programs of the selected and window branches. -/
module

public import proofs.«01_k».proof.Defs
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.SlcKernel
public import Idealize.ShloMosaic.Lib.Claim
public import Idealize.ShloMosaic.Adequacy
public import Idealize.ShloMosaic.Init

@[expose] public section

noncomputable section

namespace Cert.Proof

open Idealize.ShloMosaic Idealize.SL.Sem

/-- The selected and window branches' kernel and reference have equal results. -/
theorem slc_value : Cert.algebraic_Kernel6Ideal_Reference6Ideal (hKernel6Ideal := Cert.Kernel6Ideal.Gen.facts) (hReference6Ideal := Cert.Reference6Ideal.Gen.facts) := by
  pair_intro
  · run_from Cert.Kernel6Ideal.Gen.run_main m g
  · run_from Cert.Reference6Ideal.Value.run m' g'
    obtain ⟨h0, h1, h2⟩ := hagree c
    refine (Cert.Reference6Ideal.Slc.res_eq m' c).trans ?_
    rw [h0, h1, h2]
    exact (Cert.Kernel6Ideal.Slc.final m c).symm

/-- The selected and window branches' reference runs and leaves its arguments. -/
theorem slc_ref : Cert.quiescent_Reference6Ideal (hReference6Ideal := Cert.Reference6Ideal.Gen.facts) := by
  intro m g _
  exact (θ_run Cert.Reference6Ideal.defs _ _).mono (fun r h => ⟨fun c => (h c).2, sem_eq_zero_of_no_sems rfl r.2⟩) (Cert.Reference6Ideal.Value.run m g)

end Cert.Proof

end
-- ==== Proof.CmpRef.lean ====
/- The reference of the compressed keys and values, cut into named pieces, each read at an index. -/
module

public import proofs.«01_k».proof.Proof.Gen.Reference7Ideal.Run
public import Idealize.ShloMosaic.Lib.Pipeline.ValueKit
public import Idealize.ShloMosaic.Lib.Claim

@[expose] public section

set_option maxRecDepth 16384

noncomputable section

namespace Cert.Reference7Ideal.Cmp

open Idealize.ShloMosaic Idealize.ShloMosaic.TcCoe Idealize.SL.Sem
open Cert.Reference7Ideal Cert.Reference7Ideal.Gen Cert.Reference7Ideal.Value

/-- The compressed branch's keys and values, sixteen positions at a time. -/
def KV (x : FVec Ideal S8192x18344 .f32) : FVec Ideal S4x128x16x2x2x128 .f32 :=
  shapeCast S4x128x16x2x2x128 (extractStridedSlice S8192x512 ![0, 1024] x slices_S8192x18344_S8192x512_0_1024) shapeCasts_S8192x512_S4x128x16x2x2x128

/-- The position vectors, keys and values of a position side by side. -/
def POS (p : FVec Ideal S2x32x128 .f32) : FVec Ideal S32x2x1x128 .f32 :=
  broadcastInDim S32x2x1x128 ![0, 1, 3] bcast_S32x2x128_S32x2x1x128_0_1_3 (transpose S32x2x128 [1, 0, 2] p transposes_S2x32x128_S32x2x128_1_0_2)

/-- The position vectors of half a block, along the blocks. -/
def WIDE (p : FVec Ideal S16x2x1x128 .f32) : FVec Ideal S4x127x16x2x2x128 .f32 :=
  broadcastInDim S4x127x16x2x2x128 ![0, 1, 2, 3, 4, 5] bcast_S1x1x16x2x1x128_S4x127x16x2x2x128_0_1_2_3_4_5
    (broadcastInDim S1x1x16x2x1x128 ![2, 3, 4, 5] bcast_S16x2x1x128_S1x1x16x2x1x128_2_3_4_5 p)

/-- Half a block times its weights. -/
def TERM (w : FVec Ideal S2x16x128x128 .f32) (a : FVec Ideal S4x127x16x2x2x128 .f32) (p : FVec Ideal S16x2x1x128 .f32) : FVec Ideal S4x127x2x2x128 .f32 :=
  transpose S4x127x2x2x128 [2, 3, 0, 4, 1] (Host.dotGeneral dot_S2x16x128x128_S4x127x16x2x2x128_S2x128x4x127x2_21_52_3_014_0_3 none w (addf a (WIDE p))) transposes_S2x128x4x127x2_S4x127x2x2x128_2_3_0_4_1

/-- The first half of every block times its weights. -/
def T0 (x : FVec Ideal S8192x18344 .f32) (w : FVec Ideal S2x32x128x128 .f32) (p : FVec Ideal S2x32x128 .f32) : FVec Ideal S4x127x2x2x128 .f32 :=
  TERM (extractStridedSlice S2x16x128x128 ![0, 0, 0, 0] w slices_S2x32x128x128_S2x16x128x128_0_0_0_0)
    (extractStridedSlice S4x127x16x2x2x128 ![0, 0, 0, 0, 0, 0] (KV x) slices_S4x128x16x2x2x128_S4x127x16x2x2x128_0_0_0_0_0_0)
    (extractStridedSlice S16x2x1x128 ![0, 0, 0, 0] (POS p) slices_S32x2x1x128_S16x2x1x128_0_0_0_0)

/-- The second half of every block times its weights. -/
def T1 (x : FVec Ideal S8192x18344 .f32) (w : FVec Ideal S2x32x128x128 .f32) (p : FVec Ideal S2x32x128 .f32) : FVec Ideal S4x127x2x2x128 .f32 :=
  TERM (extractStridedSlice S2x16x128x128 ![0, 16, 0, 0] w slices_S2x32x128x128_S2x16x128x128_0_16_0_0)
    (extractStridedSlice S4x127x16x2x2x128 ![0, 1, 0, 0, 0, 0] (KV x) slices_S4x128x16x2x2x128_S4x127x16x2x2x128_0_1_0_0_0_0)
    (extractStridedSlice S16x2x1x128 ![16, 0, 0, 0] (POS p) slices_S32x2x1x128_S16x2x1x128_16_0_0_0)

/-- The reference's result over its arguments. -/
def REF (x : FVec Ideal S8192x18344 .f32) (w : FVec Ideal S2x32x128x128 .f32) (p : FVec Ideal S2x32x128 .f32) : FVec Ideal S4x4x127x128 .f32 :=
  shapeCast S4x4x127x128 (transpose S4x2x2x127x128 [0, 2, 3, 1, 4] (addf (T0 x w p) (T1 x w p)) transposes_S4x127x2x2x128_S4x2x2x127x128_0_2_3_1_4) shapeCasts_S4x2x2x127x128_S4x4x127x128

/-- Half a block times its weights, at an index. -/
theorem term_at (w : FVec Ideal S2x16x128x128 .f32) (a : FVec Ideal S4x127x16x2x2x128 .f32) (p : FVec Ideal S16x2x1x128 .f32)
    (b : Fin 4) (j : Fin 127) (c k : Fin 2) (e : Fin 128) :
    TERM w a p (ix5 b j c k e) = ∑ l : Fin 16, ∑ d : Fin 128, (a (ix6 b j l c k d) + p (ix4 l c 0 d)) * w (ix4 c l d e) := by
  rw [Finset.sum_comm]
  simp only [mul_comm _ (w _)]
  pointwise [TERM, WIDE]

/-- The reference's result at an index. -/
theorem ref_at (x : FVec Ideal S8192x18344 .f32) (w : FVec Ideal S2x32x128x128 .f32) (p : FVec Ideal S2x32x128 .f32)
    (b : Fin 4) (c k : Fin 2) (j : Fin 127) (e : Fin 128) :
    REF x w p (ix4 b ⟨c * 2 + k, by omega⟩ j e)
      = (∑ l : Fin 16, ∑ d : Fin 128, (x (ix2 ⟨b * 2048 + j * 16 + l, by omega⟩ ⟨1024 + (c * 256 + k * 128 + d), by omega⟩)
          + p (ix3 c ⟨l, by omega⟩ d)) * w (ix4 c ⟨l, by omega⟩ d e))
        + ∑ l : Fin 16, ∑ d : Fin 128, (x (ix2 ⟨b * 2048 + (1 + j) * 16 + l, by omega⟩ ⟨1024 + (c * 256 + k * 128 + d), by omega⟩)
          + p (ix3 c ⟨16 + l, by omega⟩ d)) * w (ix4 c ⟨16 + l, by omega⟩ d e) := by
  have h : REF x w p (ix4 b ⟨c * 2 + k, by omega⟩ j e) = T0 x w p (ix5 b j c k e) + T1 x w p (ix5 b j c k e) := by
    unfold REF
    generalize T0 x w p = u
    generalize T1 x w p = v
    pointwise
  rw [h, T0, T1, term_at, term_at]
  refine congrArg₂ (· + ·) (Finset.sum_congr rfl fun l _ => Finset.sum_congr rfl fun d _ => ?_) (Finset.sum_congr rfl fun l _ => Finset.sum_congr rfl fun d _ => ?_)
  · pointwise [KV, POS]
  · pointwise [KV, POS]

end Cert.Reference7Ideal.Cmp
end
-- ==== Proof.CmpKernel.lean ====
/- The compressing kernel's result array is the reference's function of the arguments. -/
module

public import proofs.«01_k».proof.Proof.Gen.Kernel7Ideal.Frame
public import Idealize.ShloMosaic.Lib.Pipeline.ValueKit
public import Idealize.ShloMosaic.Lib.Claim
public import proofs.«01_k».proof.Proof.SlcKernel
public import proofs.«01_k».proof.Proof.CmpRef

@[expose] public section

set_option maxRecDepth 16384

noncomputable section

namespace Cert.Kernel7Ideal.Cmp

open Idealize.ShloMosaic Idealize.ShloMosaic.TcCoe Idealize.SL.Sem
open Cert.Kernel7Ideal Cert.Kernel7Ideal.Gen
open Idealize.ShloMosaic.Pipeline (Dat)
open Cert.KernelIdeal.Diff (PERM off_axis)
open Cert.Kernel6Ideal.Slc (perm_kv)

variable (m : (ℓ : Loc nD τ sig) → Buf (Elt Ideal) ℓ)

/-- The block indices of the windows. -/
theorem idx : ∀ t : Fin cfg0.N, win0_0.index t = ![t.val / 4, 128 + t.val % 4] ∧ win0_1.index t = ![t.val % 4 / 2, 0, 0, 0]
    ∧ win0_2.index t = ![t.val % 4 / 2, 0, 0, 0] ∧ win0_3.index t = ![t.val / 4, t.val % 4, 0, 0] := (by decide +kernel : ∀ t : Fin grid0.N, _)

/-- The number of grid points. -/
theorem lt_N (t : Fin cfg0.N) : t.val < 16 := t.isLt

/-- The array the kernel reads is the permuted rows. -/
theorem V_perm (c : Dev nD) : V m c main_v16 = PERM (m ((c : Thread nD τ).loc main_arg0)) := by
  unfold V V0
  simp only [List.flatten_cons, List.flatten_nil, List.append_nil]
  after_results
  rfl

/-- The weights, a half of a block at a time. -/
def HALVES (w : FVec Ideal S2x32x128x128 .f32) : FVec Ideal S2x2x2048x128 .f32 := shapeCast S2x2x2048x128 w shapeCasts_S2x32x128x128_S2x2x2048x128

/-- The position vectors, a half of a block at a time. -/
def PHALVES (p : FVec Ideal S2x32x128 .f32) : FVec Ideal S2x2x1x2048 .f32 := shapeCast S2x2x1x2048 p shapeCasts_S2x32x128_S2x2x1x2048

/-- The weights of a half of a block, at an index. -/
theorem halves_at (w : FVec Ideal S2x32x128x128 .f32) (u r : Fin 2) (l : Fin 16) (d e : Fin 128) :
    HALVES w (ix4 u r ⟨l * 128 + d, by omega⟩ e) = w (ix4 u ⟨r * 16 + l, by omega⟩ d e) := by
  have h : (l.val * 128 + d.val) / 128 = l.val := by omega
  pointwise [HALVES]
  simp only [h]

/-- The position vectors of a half of a block, at an index. -/
theorem phalves_at (p : FVec Ideal S2x32x128 .f32) (u r : Fin 2) (l : Fin 16) (d : Fin 128) :
    PHALVES p (ix4 u r 0 ⟨l * 128 + d, by omega⟩) = p (ix3 u ⟨r * 16 + l, by omega⟩ d) := by
  have h : (l.val * 128 + d.val) / 128 = l.val := by omega
  pointwise [PHALVES]
  simp only [h]

/-- The weights the kernel reads, over the arguments. -/
theorem V_w (c : Dev nD) : V m c main_v18 = (HALVES (m ((c : Thread nD τ).loc main_arg1)) : FVec Ideal S2x2x2048x128 .bf16) := by
  unfold V V0
  simp only [List.flatten_cons, List.flatten_nil, List.append_nil]
  after_results
  rfl

/-- The position vectors the kernel reads, over the arguments. -/
theorem V_p (c : Dev nD) : V m c main_v19 = PHALVES (m ((c : Thread nD τ).loc main_arg2)) := by
  unfold V V0
  simp only [List.flatten_cons, List.flatten_nil, List.append_nil]
  after_results
  rfl

/-- The block of keys or values, as a block of any contents. -/
theorem x_blk (c : Dev nD) (A : (b : Ref sig .tc) → Buf (Elt Ideal) ((c : Thread nD τ).loc b)) (t : Fin cfg0.N) (r : Fin 2048) (x : Fin 128) :
    (((cfg0.win 0).blk t).view.read (Elt Ideal) (A (Pipeline.arrRef spec0 0)) : FVec Ideal S2048x128 .f32) (ix2 r x)
      = A main_v16 (ix2 ⟨t.val / 4 * 2048 + r, by have := lt_N t; omega⟩ ⟨16384 + (t.val % 4 * 128 + x), by omega⟩) := by
  have := lt_N t
  refine (rfl : _ = A main_v16 ((win0_0.blk t).view.emb (ix2 r x))).trans (congrArg (A main_v16) ?_)
  blk_ext [idx t]

/-- The block of keys or values. -/
theorem x_read (c : Dev nD) (t : Fin cfg0.N) (r : Fin 2048) (x : Fin 128) :
    (iblk m c 0 t : FVec Ideal S2048x128 .f32) (ix2 r x) = m ((c : Thread nD τ).loc main_arg0)
      (ix2 ⟨t.val / 4 * 2048 + r, by have := lt_N t; omega⟩ ⟨1024 + (t.val % 4 * 128 + x), by omega⟩) := by
  unfold iblk
  rw [x_blk c (V m c)]
  exact (congrFun (V_perm m c) _).trans (perm_kv _ ⟨t.val / 4 * 2048 + r, by have := lt_N t; omega⟩ ⟨t.val % 4 * 128 + x, by omega⟩)

/-- The block of position vectors, as a block of any contents. -/
theorem p_blk (c : Dev nD) (A : (b : Ref sig .tc) → Buf (Elt Ideal) ((c : Thread nD τ).loc b)) (t : Fin cfg0.N) (r : Fin 2) (k : Fin 2048) :
    (((cfg0.win 1).blk t).view.read (Elt Ideal) (A (Pipeline.arrRef spec0 1)) : FVec Ideal S1x2x1x2048 .f32) (ix4 0 r 0 k)
      = A main_v19 (ix4 ⟨t.val % 4 / 2, by omega⟩ r 0 k) := by
  refine (rfl : _ = A main_v19 ((win0_1.blk t).view.emb (ix4 0 r 0 k))).trans (congrArg (A main_v19) ?_)
  blk_ext [idx t]

/-- The block of position vectors. -/
theorem p_read (c : Dev nD) (t : Fin cfg0.N) (r : Fin 2) (l : Fin 16) (d : Fin 128) :
    (iblk m c 1 t : FVec Ideal S1x2x1x2048 .f32) (ix4 0 r 0 ⟨l * 128 + d, by omega⟩) = m ((c : Thread nD τ).loc main_arg2)
      (ix3 ⟨t.val % 4 / 2, by omega⟩ ⟨r * 16 + l, by omega⟩ d) := by
  unfold iblk
  rw [p_blk c (V m c)]
  exact (congrFun (V_p m c) _).trans (phalves_at _ _ _ _ _)

/-- The block of weights, as a block of any contents. -/
theorem w_blk (c : Dev nD) (A : (b : Ref sig .tc) → Buf (Elt Ideal) ((c : Thread nD τ).loc b)) (t : Fin cfg0.N) (r : Fin 2) (k : Fin 2048) (e : Fin 128) :
    (((cfg0.win 2).blk t).view.read (Elt Ideal) (A (Pipeline.arrRef spec0 2)) : FVec Ideal S1x2x2048x128 .bf16) (ix4 0 r k e)
      = A main_v18 (ix4 ⟨t.val % 4 / 2, by omega⟩ r k e) := by
  refine (rfl : _ = A main_v18 ((win0_2.blk t).view.emb (ix4 0 r k e))).trans (congrArg (A main_v18) ?_)
  blk_ext [idx t]

/-- The block of weights. -/
theorem w_read (c : Dev nD) (t : Fin cfg0.N) (r : Fin 2) (l : Fin 16) (d e : Fin 128) :
    (iblk m c 2 t : FVec Ideal S1x2x2048x128 .bf16) (ix4 0 r ⟨l * 128 + d, by omega⟩ e) = m ((c : Thread nD τ).loc main_arg1)
      (ix4 ⟨t.val % 4 / 2, by omega⟩ ⟨r * 16 + l, by omega⟩ d e) := by
  unfold iblk
  rw [w_blk c (V m c)]
  exact (congrFun (V_w m c) _).trans (halves_at _ _ _ _ _ _)

/-- Sixteen arrays side by side. -/
def SIDE (f : Fin 16 → FVec Ideal S128x128 .f32) : FVec Ideal S128x2048 .f32 :=
  k0_pay1 (f 0) (f 1) (f 2) (f 3) (f 4) (f 5) (f 6) (f 7) (f 8) (f 9) (f 10) (f 11) (f 12) (f 13) (f 14) (f 15)

/-- Sixteen arrays side by side, at an index. -/
theorem side_at (f : Fin 16 → FVec Ideal S128x128 .f32) (j : Fin 128) (l : Fin 16) (d : Fin 128) :
    SIDE f (ix2 j ⟨l * 128 + d, by omega⟩) = f l (ix2 j d) := by
  have h : SIDE f = concatenate S128x2048 1 (List.ofFn fun n : Fin 16 => (⟨S128x128, f n⟩ : (s : Shape) × (s.Idx → Ideal .f32)))
      concatenates_S128x128_S128x128_S128x128_S128x128_S128x128_S128x128_S128x128_S128x128_S128x128_S128x128_S128x128_S128x128_S128x128_S128x128_S128x128_S128x128_S128x2048_d1 := by
    unfold SIDE k0_pay1
    dsimp only
    rw [shapeCast_id, shapeCast_id]
    rfl
  rw [h]
  refine concatenate_ofFn_apply (t := S128x2048) 1 f _ rfl 128 rfl _ l ?_ (ix2 j d) ?_ (off_axis j _ d _)
  · show (l.val * 128 + d.val) / 128 = l.val
    omega
  · show d.val = (l.val * 128 + d.val) % 128
    omega

/-- Half a block times its weights, for every chunk. -/
def PART (a : FVec Ideal S128x2048 .f32) (p : Vec Ideal S1x1x1x2048 .f32) (w : Vec Ideal S1x1x2048x128 .bf16) (j e : Fin 128) : EReal :=
  ∑ l : Fin 16, ∑ d : Fin 128, (a (ix2 j ⟨l * 128 + d, by omega⟩) + p (ix4 0 0 0 ⟨l * 128 + d, by omega⟩)) * w (ix4 0 0 ⟨l * 128 + d, by omega⟩ e)

/-- The kernel's output at a chunk: its first half and the second half of the chunk after it, around the end. -/
theorem out_at (a : FVec Ideal S128x2048 .f32) (p p' : Vec Ideal S1x1x1x2048 .f32) (w w' : Vec Ideal S1x1x2048x128 .bf16) (j e : Fin 128) :
    k0_pay2 a p w p' w' (ix4 0 0 j e) = PART a p w j e + PART a p' w' ⟨(j + 128 - 127) % 128, by omega⟩ e := by
  unfold PART
  rw [← Fin.sum_univ_tiles 16 128 rfl (fun k : Fin 2048 => (a (ix2 j k) + p (ix4 0 0 0 k)) * w (ix4 0 0 k e)),
    ← Fin.sum_univ_tiles 16 128 rfl (fun k : Fin 2048 => (a (ix2 ⟨(j + 128 - 127) % 128, by omega⟩ k) + p' (ix4 0 0 0 k)) * w' (ix4 0 0 k e))]
  pointwise [k0_pay2]

/-- A position's place in its chunk keeps every sixteenth row inside the block. -/
theorem strip_inb : ∀ (l : Fin 16) (a : Fin 2), (![128, 128] : Fin 2 → ℕ) a = 0
    ∨ (![l.val, 0] : Fin 2 → ℕ) a + (![16, 1] : Fin 2 → ℕ) a * ((![128, 128] : Fin 2 → ℕ) a - 1) < S2048x128.size a := by decide

/-- Every sixteenth row of a block, from a position's place in its chunk. -/
def STRIP (M : Memref sig .tc .vmem S2048x128 .f32) (h : M.IsWhole) (B : Vec Ideal S2048x128 .f32) (l : Fin 16) : FVec Ideal S128x128 .f32 :=
  View.readAt (Elt Ideal) M.view ⟨![l.val, 0], ![128, 128], ![16, 1], strip_inb l⟩ (h.unread B)

/-- Every sixteenth row of a block, at an index. -/
theorem strip_at (M : Memref sig .tc .vmem S2048x128 .f32) (h : M.IsWhole) (B : Vec Ideal S2048x128 .f32) (l : Fin 16) (j d : Fin 128) :
    STRIP M h B l (ix2 j d) = B (ix2 ⟨j * 16 + l, by omega⟩ d) := by
  unfold STRIP
  rw [View.readAt_apply, h.read_unread]
  refine congrArg B (funext fun a => Fin.ext ?_)
  match a with
  | 0 => show l.val + 16 * j.val = j.val * 16 + l.val; omega
  | 1 => show 0 + 1 * d.val = d.val; omega

/-- Half a block times its weights, over the arguments: of a batch, a head of keys or values, a chunk, a half and a lane. -/
def HALF (x : FVec Ideal S8192x18344 .f32) (w : FVec Ideal S2x32x128x128 .f32) (p : FVec Ideal S2x32x128 .f32)
    (b q : Fin 4) (j : Fin 128) (r : Fin 2) (e : Fin 128) : EReal :=
  ∑ l : Fin 16, ∑ d : Fin 128, (x (ix2 ⟨b * 2048 + (j * 16 + l), by omega⟩ ⟨1024 + (q * 128 + d), by omega⟩)
    + p (ix3 ⟨q / 2, by omega⟩ ⟨r * 16 + l, by omega⟩ d)) * w (ix4 ⟨q / 2, by omega⟩ ⟨r * 16 + l, by omega⟩ d e)

/-- The kernel's result array over the arguments. -/
def RES (x : FVec Ideal S8192x18344 .f32) (w : FVec Ideal S2x32x128x128 .f32) (p : FVec Ideal S2x32x128 .f32) : FVec Ideal S4x4x128x128 .f32 :=
  fun y => HALF x w p (y 0) (y 1) (y 2) 0 (y 3) + HALF x w p (y 0) (y 1) ⟨((y 2).val + 128 - 127) % 128, Nat.mod_lt _ (by decide)⟩ 1 (y 3)

/-- The kernel's half of a block is the arguments'. -/
theorem part_eq (c : Dev nD) (t : Fin cfg0.N) (r : Fin 2) (p : Vec Ideal S1x1x1x2048 .f32) (w : Vec Ideal S1x1x2048x128 .bf16) (j e : Fin 128)
    (hp : ∀ k : Fin 2048, p (ix4 0 0 0 k) = (iblk m c 1 t : FVec Ideal S1x2x1x2048 .f32) (ix4 0 r 0 k))
    (hw : ∀ k : Fin 2048, w (ix4 0 0 k e) = (iblk m c 2 t : FVec Ideal S1x2x2048x128 .bf16) (ix4 0 r k e)) :
    PART (SIDE (STRIP (ms0_0 t) (hs0_0 t) (iblk m c 0 t))) p w j e
      = HALF (m ((c : Thread nD τ).loc main_arg0)) (m ((c : Thread nD τ).loc main_arg1)) (m ((c : Thread nD τ).loc main_arg2))
        ⟨t.val / 4, by have := lt_N t; omega⟩ ⟨t.val % 4, by omega⟩ j r e := by
  refine Finset.sum_congr rfl fun l _ => Finset.sum_congr rfl fun d _ => ?_
  rw [side_at, strip_at, hp, hw, x_read, p_read, w_read]

/-- A block of the kernel's result is the result's. -/
theorem core (c : Dev nD) (t : Fin cfg0.N) (f : Fin 16 → FVec Ideal S128x128 .f32) (hf : f = STRIP (ms0_0 t) (hs0_0 t) (iblk m c 0 t)) (h1 h2 h3 h4) (y : S1x1x128x128.Idx) :
    k0_pay2 (k0_pay1 (k0_pay3 (f 0)) (k0_pay4 (f 1)) (k0_pay5 (f 2)) (k0_pay6 (f 3)) (k0_pay7 (f 4)) (k0_pay8 (f 5)) (k0_pay9 (f 6)) (k0_pay10 (f 7))
        (k0_pay11 (f 8)) (k0_pay12 (f 9)) (k0_pay13 (f 10)) (k0_pay14 (f 11)) (k0_pay15 (f 12)) (k0_pay16 (f 13)) (f 14) (f 15))
      (View.ld (iblk m c 1 t) (Rect.unit (s := S1x2x1x2048) ![0, 0, 0, 0] ![1, 1, 1, 2048] h1))
      (View.ld (iblk m c 2 t) (Rect.unit (s := S1x2x2048x128) ![0, 0, 0, 0] ![1, 1, 2048, 128] h2))
      (View.ld (iblk m c 1 t) (Rect.unit (s := S1x2x1x2048) ![0, 1, 0, 0] ![1, 1, 1, 2048] h3))
      (View.ld (iblk m c 2 t) (Rect.unit (s := S1x2x2048x128) ![0, 1, 0, 0] ![1, 1, 2048, 128] h4)) y
      = RES (m ((c : Thread nD τ).loc main_arg0)) (m ((c : Thread nD τ).loc main_arg1)) (m ((c : Thread nD τ).loc main_arg2))
        (((View.whole main_v20).slice (win0_3.rect t)).emb y) := by
  have hN := lt_N t
  have hs : k0_pay1 (k0_pay3 (f 0)) (k0_pay4 (f 1)) (k0_pay5 (f 2)) (k0_pay6 (f 3)) (k0_pay7 (f 4)) (k0_pay8 (f 5)) (k0_pay9 (f 6)) (k0_pay10 (f 7))
      (k0_pay11 (f 8)) (k0_pay12 (f 9)) (k0_pay13 (f 10)) (k0_pay14 (f 11)) (k0_pay15 (f 12)) (k0_pay16 (f 13)) (f 14) (f 15) = SIDE f := by
    simp only [k0_pay3, k0_pay4, k0_pay5, k0_pay6, k0_pay7, k0_pay8, k0_pay9, k0_pay10, k0_pay11, k0_pay12, k0_pay13, k0_pay14, k0_pay15, k0_pay16, shapeCast_id]
    rfl
  rw [hs, hf]
  idx_vars y
  have e : ((View.whole main_v20).slice (win0_3.rect t)).emb (ix4 y0 y1 y2 y3)
      = ix4 ⟨t.val / 4, by omega⟩ ⟨t.val % 4, by omega⟩ y2 y3 := by
    blk_ext [idx t]
  obtain rfl : y0 = 0 := Subsingleton.elim _ _
  obtain rfl : y1 = 0 := Subsingleton.elim _ _
  rw [e, out_at, part_eq m c t 0, part_eq m c t 1]
  · rfl
  · intro k; pointwise
  · intro k; pointwise
  · intro k; pointwise
  · intro k; pointwise

/-- The kernel's result array is a function of the arguments. -/
theorem final (c : Dev nD) : (dats m 0 c).arrAt 3 (cfgs 0).N
    = RES (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  frame_out
  exact core m c t (STRIP (ms0_0 t) (hs0_0 t) (iblk m c 0 t)) rfl _ _ _ _ y

/-- The rows that are kept are the reference's. -/
theorem res_ref (x : FVec Ideal S8192x18344 .f32) (w : FVec Ideal S2x32x128x128 .f32) (p : FVec Ideal S2x32x128 .f32) :
    extractStridedSlice S4x4x127x128 ![0, 0, 0, 0] (RES x w p) slices_S4x4x128x128_S4x4x127x128_0_0_0_0 = Cert.Reference7Ideal.Cmp.REF x w p := by
  funext y
  idx_vars y
  have e : (extractStridedSlice S4x4x127x128 ![0, 0, 0, 0] (RES x w p) slices_S4x4x128x128_S4x4x127x128_0_0_0_0 : FVec Ideal S4x4x127x128 .f32) (ix4 y0 y1 y2 y3)
      = RES x w p (ix4 y0 y1 ⟨y2, by omega⟩ y3) := by
    generalize RES x w p = u
    pointwise
  have h : y1 = ⟨y1.val / 2 * 2 + y1.val % 2, by omega⟩ := Fin.ext (by simp only; omega)
  have h' := Cert.Reference7Ideal.Cmp.ref_at x w p y0 ⟨y1.val / 2, by omega⟩ ⟨y1.val % 2, by omega⟩ y2 y3
  refine e.trans (Eq.trans ?_ ((congrArg (fun q => Cert.Reference7Ideal.Cmp.REF x w p (ix4 y0 q y2 y3)) h).trans h').symm)
  refine congrArg₂ (· + ·) (Finset.sum_congr rfl fun l _ => Finset.sum_congr rfl fun d _ => ?_) (Finset.sum_congr rfl fun l _ => Finset.sum_congr rfl fun d _ => ?_)
  · congr 1 <;> [congr 1; skip] <;> blk_ext
  · congr 1
    congr 1 <;> blk_ext

end Cert.Kernel7Ideal.Cmp
end
-- ==== Proof.CmpValue.lean ====
/- The claims about the compression's programs. -/
module

public import proofs.«01_k».proof.Defs
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.CmpKernel
public import Idealize.ShloMosaic.Lib.Claim
public import Idealize.ShloMosaic.Adequacy
public import Idealize.ShloMosaic.Init

@[expose] public section

noncomputable section

namespace Cert.Proof

open Idealize.ShloMosaic Idealize.SL.Sem

/-- The compression kernel's result is the rows that are kept of its result array. -/
theorem cmp_tail (m : (ℓ : Loc Cert.Kernel7Ideal.nD Cert.Kernel7Ideal.τ Cert.Kernel7Ideal.sig) → Buf (Elt Ideal) ℓ) (c : Dev Cert.Kernel7Ideal.nD) :
    Pipeline.afterTail₀ Cert.Kernel7Ideal.cfgs (Cert.Kernel7Ideal.Gen.dats m) 0 (Cert.Kernel7Ideal.Gen.V0 m) [Cert.Kernel7Ideal.Gen.hostOps1] c Cert.Kernel7Ideal.main_v21 =
      Cert.Reference7Ideal.Cmp.REF (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg1))
        (m ((c.tc : Thread Cert.Kernel7Ideal.nD Cert.Kernel7Ideal.τ).loc Cert.Kernel7Ideal.main_arg2)) := by
  have e := Pipeline.withArrays_arr_shared Cert.Kernel7Ideal.spec0 c (Cert.Kernel7Ideal.Gen.V0 m c) (fun w => (Cert.Kernel7Ideal.Gen.dats m 0 c).arrAt w (Cert.Kernel7Ideal.cfgs 0).N)
    (Pipeline.Dat.arrAt_sharedIn (Cert.Kernel7Ideal.Gen.dats m 0 c) (by decide) _ (fun w => Cert.Kernel7Ideal.Gen.A_eq m c w) _) 3
  unfold Pipeline.afterTail₀
  simp only [List.flatten_cons, List.flatten_nil, List.append_nil]
  after_results
  refine (congrArg (fun v => extractStridedSlice Cert.Kernel7Ideal.S4x4x127x128 ![0, 0, 0, 0] v _) (e.trans (Cert.Kernel7Ideal.Cmp.final m c))).trans ?_
  exact Cert.Kernel7Ideal.Cmp.res_ref _ _ _

/-- The compression's kernel and reference have equal results. -/
theorem cmp_value : Cert.algebraic_Kernel7Ideal_Reference7Ideal (hKernel7Ideal := Cert.Kernel7Ideal.Gen.facts) (hReference7Ideal := Cert.Reference7Ideal.Gen.facts) := by
  pair_intro
  · run_from Cert.Kernel7Ideal.Gen.run_main m g & Cert.Kernel7Ideal.Gen.unchanged m g
  · run_from Cert.Reference7Ideal.Value.run m' g'
    exact (rfl : _ = Cert.Reference7Ideal.Cmp.REF _ _ _).trans (cmp_tail m c).symm

/-- The compression's reference runs and leaves its arguments. -/
theorem cmp_ref : Cert.quiescent_Reference7Ideal (hReference7Ideal := Cert.Reference7Ideal.Gen.facts) := by
  intro m g _
  exact (θ_run Cert.Reference7Ideal.defs _ _).mono (fun r h => ⟨fun c => (h c).2, sem_eq_zero_of_no_sems rfl r.2⟩) (Cert.Reference7Ideal.Value.run m g)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.DiffKernel
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.MergeValue
public import proofs.«01_k».proof.Proof.SampleProjValue
public import proofs.«01_k».proof.Proof.SampleMergeValue
public import proofs.«01_k».proof.Proof.ProjValue
public import proofs.«01_k».proof.Proof.SlcValue
public import proofs.«01_k».proof.Proof.CmpValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The differential attention's kernel and reference have equal results. -/
theorem diff_value : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from Cert.ReferenceIdeal.Value.run m' g'
    obtain ⟨h0, h1, h2⟩ := hagree c
    refine (Cert.ReferenceIdeal.Diff.res_eq m' c).trans ?_
    rw [h0, h1, h2]
    exact (Cert.KernelIdeal.Diff.final m c).symm

/-- The differential attention's reference runs and leaves its arguments. -/
theorem diff_ref : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems rfl r.2⟩) (Cert.ReferenceIdeal.Value.run m g)

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  fun m g _ => Cert.Kernel.Gen.frame m g, fun m g _ => Cert.KernelIdeal.Gen.frame m g, diff_ref,
  fun m g _ => Cert.Kernel2.Gen.frame m g, fun m g _ => Cert.Kernel2Ideal.Gen.frame m g, proj_ref,
  fun m g _ => Cert.Kernel3.Gen.frame m g, fun m g _ => Cert.Kernel3Ideal.Gen.frame m g, merge_ref,
  fun m g _ => Cert.Kernel4.Gen.frame m g, fun m g _ => Cert.Kernel4Ideal.Gen.frame m g, sample_ref,
  fun m g _ => Cert.Kernel5.Gen.frame m g, fun m g _ => Cert.Kernel5Ideal.Gen.frame m g, sample_merge_ref,
  fun m g _ => Cert.Kernel6.Gen.frame m g, fun m g _ => Cert.Kernel6Ideal.Gen.frame m g, slc_ref,
  fun m g _ => Cert.Kernel7.Gen.frame m g, fun m g _ => Cert.Kernel7Ideal.Gen.frame m g, cmp_ref,
  trivial, diff_value, trivial, proj_value, trivial, merge_value, trivial, sample_value, trivial, sample_merge_value, trivial, slc_value, trivial, cmp_value⟩

end Cert.Proof

end
